-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v53_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)) (v3 : (c : Dev Cert.Kernel8Ideal.nD) → Buf (Elt Ideal) ((c.tc : Thread Cert.Kernel8Ideal.nD Cert.Kernel8Ideal.τ).loc Cert.Kernel8Ideal.main_v2_3)) (v4 : (c : Dev Cert.Kernel8Ideal.nD) → Buf (Elt Ideal) ((c.tc : Thread Cert.Kernel8Ideal.nD Cert.Kernel8Ideal.τ).loc Cert.Kernel8Ideal.main_v2_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_v2_3) = v3 c
          ∧ r.2.mem ((c.tc : Thread Cert.Kernel8Ideal.nD Cert.Kernel8Ideal.τ).loc Cert.Kernel8Ideal.main_v2_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_v16) = v1 c
          ∧ r.2.mem ((c.tc : Thread Cert.Reference8Ideal.nD Cert.Reference8Ideal.τ).loc Cert.Reference8Ideal.main_v21) = v2 c
          ∧ r.2.mem ((c.tc : Thread Cert.Reference8Ideal.nD Cert.Reference8Ideal.τ).loc Cert.Reference8Ideal.main_v17) = v3 c
          ∧ r.2.mem ((c.tc : Thread Cert.Reference8Ideal.nD Cert.Reference8Ideal.τ).loc Cert.Reference8Ideal.main_v22) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)) (v2 : (c : Dev Cert.Kernel9Ideal.nD) → Buf (Elt Ideal) ((c.tc : Thread Cert.Kernel9Ideal.nD Cert.Kernel9Ideal.τ).loc Cert.Kernel9Ideal.main_v2_2)) (v3 : (c : Dev Cert.Kernel9Ideal.nD) → Buf (Elt Ideal) ((c.tc : Thread Cert.Kernel9Ideal.nD Cert.Kernel9Ideal.τ).loc Cert.Kernel9Ideal.main_v2_3)) (v4 : (c : Dev Cert.Kernel9Ideal.nD) → Buf (Elt Ideal) ((c.tc : Thread Cert.Kernel9Ideal.nD Cert.Kernel9Ideal.τ).loc Cert.Kernel9Ideal.main_v2_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_v2_3) = v3 c
          ∧ r.2.mem ((c.tc : Thread Cert.Kernel9Ideal.nD Cert.Kernel9Ideal.τ).loc Cert.Kernel9Ideal.main_v2_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v20) = v0 c
          ∧ r.2.mem ((c.tc : Thread Cert.Reference9Ideal.nD Cert.Reference9Ideal.τ).loc Cert.Reference9Ideal.main_v16) = v1 c
          ∧ r.2.mem ((c.tc : Thread Cert.Reference9Ideal.nD Cert.Reference9Ideal.τ).loc Cert.Reference9Ideal.main_v21) = v2 c
          ∧ r.2.mem ((c.tc : Thread Cert.Reference9Ideal.nD Cert.Reference9Ideal.τ).loc Cert.Reference9Ideal.main_v17) = v3 c
          ∧ r.2.mem ((c.tc : Thread Cert.Reference9Ideal.nD Cert.Reference9Ideal.τ).loc Cert.Reference9Ideal.main_v22) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v10_0)) (v1 : (c : Dev Cert.Kernel10Ideal.nD) → Buf (Elt Ideal) ((c.tc : Thread Cert.Kernel10Ideal.nD Cert.Kernel10Ideal.τ).loc Cert.Kernel10Ideal.main_v10_1)) (v2 : (c : Dev Cert.Kernel10Ideal.nD) → Buf (Elt Ideal) ((c.tc : Thread Cert.Kernel10Ideal.nD Cert.Kernel10Ideal.τ).loc Cert.Kernel10Ideal.main_v10_2)) (v3 : (c : Dev Cert.Kernel10Ideal.nD) → Buf (Elt Ideal) ((c.tc : Thread Cert.Kernel10Ideal.nD Cert.Kernel10Ideal.τ).loc Cert.Kernel10Ideal.main_v10_3)) (v4 : (c : Dev Cert.Kernel10Ideal.nD) → Buf (Elt Ideal) ((c.tc : Thread Cert.Kernel10Ideal.nD Cert.Kernel10Ideal.τ).loc Cert.Kernel10Ideal.main_v10_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10_0) = v0 c
          ∧ r.2.mem ((c.tc : Thread Cert.Kernel10Ideal.nD Cert.Kernel10Ideal.τ).loc Cert.Kernel10Ideal.main_v10_1) = v1 c
          ∧ r.2.mem ((c.tc : Thread Cert.Kernel10Ideal.nD Cert.Kernel10Ideal.τ).loc Cert.Kernel10Ideal.main_v10_2) = v2 c
          ∧ r.2.mem ((c.tc : Thread Cert.Kernel10Ideal.nD Cert.Kernel10Ideal.τ).loc Cert.Kernel10Ideal.main_v10_3) = v3 c
          ∧ r.2.mem ((c.tc : Thread Cert.Kernel10Ideal.nD Cert.Kernel10Ideal.τ).loc Cert.Kernel10Ideal.main_v10_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v50) = v0 c
          ∧ r.2.mem ((c.tc : Thread Cert.Reference10Ideal.nD Cert.Reference10Ideal.τ).loc Cert.Reference10Ideal.main_v49) = v1 c
          ∧ r.2.mem ((c.tc : Thread Cert.Reference10Ideal.nD Cert.Reference10Ideal.τ).loc Cert.Reference10Ideal.main_v51) = v2 c
          ∧ r.2.mem ((c.tc : Thread Cert.Reference10Ideal.nD Cert.Reference10Ideal.τ).loc Cert.Reference10Ideal.main_v17) = v3 c
          ∧ r.2.mem ((c.tc : Thread Cert.Reference10Ideal.nD Cert.Reference10Ideal.τ).loc Cert.Reference10Ideal.main_v52) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v10_0)) (v1 : (c : Dev Cert.Kernel11Ideal.nD) → Buf (Elt Ideal) ((c.tc : Thread Cert.Kernel11Ideal.nD Cert.Kernel11Ideal.τ).loc Cert.Kernel11Ideal.main_v10_1)) (v2 : (c : Dev Cert.Kernel11Ideal.nD) → Buf (Elt Ideal) ((c.tc : Thread Cert.Kernel11Ideal.nD Cert.Kernel11Ideal.τ).loc Cert.Kernel11Ideal.main_v10_2)) (v3 : (c : Dev Cert.Kernel11Ideal.nD) → Buf (Elt Ideal) ((c.tc : Thread Cert.Kernel11Ideal.nD Cert.Kernel11Ideal.τ).loc Cert.Kernel11Ideal.main_v10_3)) (v4 : (c : Dev Cert.Kernel11Ideal.nD) → Buf (Elt Ideal) ((c.tc : Thread Cert.Kernel11Ideal.nD Cert.Kernel11Ideal.τ).loc Cert.Kernel11Ideal.main_v10_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v10_0) = v0 c
          ∧ r.2.mem ((c.tc : Thread Cert.Kernel11Ideal.nD Cert.Kernel11Ideal.τ).loc Cert.Kernel11Ideal.main_v10_1) = v1 c
          ∧ r.2.mem ((c.tc : Thread Cert.Kernel11Ideal.nD Cert.Kernel11Ideal.τ).loc Cert.Kernel11Ideal.main_v10_2) = v2 c
          ∧ r.2.mem ((c.tc : Thread Cert.Kernel11Ideal.nD Cert.Kernel11Ideal.τ).loc Cert.Kernel11Ideal.main_v10_3) = v3 c
          ∧ r.2.mem ((c.tc : Thread Cert.Kernel11Ideal.nD Cert.Kernel11Ideal.τ).loc Cert.Kernel11Ideal.main_v10_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v50) = v0 c
          ∧ r.2.mem ((c.tc : Thread Cert.Reference11Ideal.nD Cert.Reference11Ideal.τ).loc Cert.Reference11Ideal.main_v49) = v1 c
          ∧ r.2.mem ((c.tc : Thread Cert.Reference11Ideal.nD Cert.Reference11Ideal.τ).loc Cert.Reference11Ideal.main_v51) = v2 c
          ∧ r.2.mem ((c.tc : Thread Cert.Reference11Ideal.nD Cert.Reference11Ideal.τ).loc Cert.Reference11Ideal.main_v17) = v3 c
          ∧ r.2.mem ((c.tc : Thread Cert.Reference11Ideal.nD Cert.Reference11Ideal.τ).loc Cert.Reference11Ideal.main_v52) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v5_0)) (v1 : (c : Dev Cert.Kernel12Ideal.nD) → Buf (Elt Ideal) ((c.tc : Thread Cert.Kernel12Ideal.nD Cert.Kernel12Ideal.τ).loc Cert.Kernel12Ideal.main_v5_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5_0) = v0 c
          ∧ r.2.mem ((c.tc : Thread Cert.Kernel12Ideal.nD Cert.Kernel12Ideal.τ).loc Cert.Kernel12Ideal.main_v5_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v80) = v0 c
          ∧ r.2.mem ((c.tc : Thread Cert.Reference12Ideal.nD Cert.Reference12Ideal.τ).loc Cert.Reference12Ideal.main_v56) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v59) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Kernel.lean ====
abbrev S16384x3200 : Shape := ⟨2, ![16384, 3200]⟩
abbrev S16x512 : Shape := ⟨2, ![16, 512]⟩
abbrev S512 : Shape := ⟨1, ![512]⟩
abbrev S256 : Shape := ⟨1, ![256]⟩
abbrev S_ : Shape := ⟨0, ![]⟩
abbrev S128x512 : Shape := ⟨2, ![128, 512]⟩
abbrev S1x512 : Shape := ⟨2, ![1, 512]⟩
abbrev S1x256 : Shape := ⟨2, ![1, 256]⟩
abbrev S2x8192x3200 : Shape := ⟨3, ![2, 8192, 3200]⟩
abbrev S2x8192x1024 : Shape := ⟨3, ![2, 8192, 1024]⟩
abbrev S2x4x128x256 : Shape := ⟨4, ![2, 4, 128, 256]⟩
abbrev S2x64x512 : Shape := ⟨3, ![2, 64, 512]⟩
abbrev S2x64x1024 : Shape := ⟨3, ![2, 64, 1024]⟩
abbrev S2x64x128 : Shape := ⟨3, ![2, 64, 128]⟩
abbrev S8x256x128 : Shape := ⟨3, ![8, 256, 128]⟩
abbrev S256x128 : Shape := ⟨2, ![256, 128]⟩
abbrev S1x256x128 : Shape := ⟨3, ![1, 256, 128]⟩
abbrev S64x64 : Shape := ⟨2, ![64, 64]⟩
abbrev S1x64x128 : Shape := ⟨3, ![1, 64, 128]⟩
abbrev S64x128 : Shape := ⟨2, ![64, 128]⟩
abbrev S64x512 : Shape := ⟨2, ![64, 512]⟩
abbrev S1x64x512 : Shape := ⟨3, ![1, 64, 512]⟩
abbrev S1x64x256 : Shape := ⟨3, ![1, 64, 256]⟩
abbrev S64x256 : Shape := ⟨2, ![64, 256]⟩
abbrev S1x128 : Shape := ⟨2, ![1, 128]⟩
abbrev S64 : Shape := ⟨1, ![64]⟩
abbrev S64x1 : Shape := ⟨2, ![64, 1]⟩
abbrev S128x256 : Shape := ⟨2, ![128, 256]⟩
abbrev S1x1x128x256 : Shape := ⟨4, ![1, 1, 128, 256]⟩

abbrev nBuf : Space → Nat
  | .hbm => 13
  | .vmem => 17
  | .smem => 0
  | _ => 0

abbrev bufTy : (tb : Table) → Fin (tcTables nBuf tb) → BufTy
  | .hbm, ⟨0, _⟩ => ⟨S16384x3200, .f32⟩
  | .hbm, ⟨1, _⟩ => ⟨S16x512, .f32⟩
  | .hbm, ⟨2, _⟩ => ⟨S512, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S128x512, .f32⟩
  | .hbm, ⟨7, _⟩ => ⟨S128x512, .bf16⟩
  | .hbm, ⟨8, _⟩ => ⟨S1x512, .f32⟩
  | .hbm, ⟨9, _⟩ => ⟨S1x256, .f32⟩
  | .hbm, ⟨10, _⟩ => ⟨S2x8192x3200, .f32⟩
  | .hbm, ⟨11, _⟩ => ⟨S2x8192x1024, .bf16⟩
  | .hbm, ⟨12, _⟩ => ⟨S2x4x128x256, .f32⟩
  | .local _ .vmem, ⟨0, _⟩ => ⟨S2x64x512, .f32⟩
  | .local _ .vmem, ⟨1, _⟩ => ⟨S2x64x512, .f32⟩
  | .local _ .vmem, ⟨2, _⟩ => ⟨S2x64x512, .f32⟩
  | .local _ .vmem, ⟨3, _⟩ => ⟨S2x64x512, .f32⟩
  | .local _ .vmem, ⟨4, _⟩ => ⟨S2x64x1024, .f32⟩
  | .local _ .vmem, ⟨5, _⟩ => ⟨S2x64x1024, .f32⟩
  | .local _ .vmem, ⟨6, _⟩ => ⟨S2x64x1024, .f32⟩
  | .local _ .vmem, ⟨7, _⟩ => ⟨S2x64x1024, .f32⟩
  | .local _ .vmem, ⟨8, _⟩ => ⟨S2x64x128, .f32⟩
  | .local _ .vmem, ⟨9, _⟩ => ⟨S2x64x128, .f32⟩
  | .local _ .vmem, ⟨10, _⟩ => ⟨S128x512, .bf16⟩
  | .local _ .vmem, ⟨11, _⟩ => ⟨S1x512, .f32⟩
  | .local _ .vmem, ⟨12, _⟩ => ⟨S1x256, .f32⟩
  | .local _ .vmem, ⟨13, _⟩ => ⟨S2x64x1024, .bf16⟩
  | .local _ .vmem, ⟨14, _⟩ => ⟨S2x64x1024, .bf16⟩
  | .local _ .vmem, ⟨15, _⟩ => ⟨S2x4x128x256, .f32⟩
  | .local _ .vmem, ⟨16, _⟩ => ⟨S8x256x128, .f32⟩
  | _, _ => ⟨S16384x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨2, ![1, 128], ![false, false]⟩

def k0_cond2 (i : grid0.Coords) : BitVec 1 :=
  let arg1 : BitVec 32 := BitVec.ofNat 32 (i 1).val
  let c127_i32 : BitVec 32 := 127#32
  let v542 : BitVec 1 := Scalar.cmpi .eq arg1 c127_i32
  let v543 : BitVec 32 := Scalar.extui v542
  let c0_i32_249 : BitVec 32 := 0#32
  let v544 : BitVec 1 := Scalar.cmpi .ne v543 c0_i32_249
  v544

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c24_i32 : BitVec 32 := 24#32
  let c0_i32 : BitVec 32 := 0#32
  ![arg0.toNat, arg1.toNat, c24_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2x64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S2x4x128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== ReferenceIdeal.lean ====
abbrev S16384x3200 : Shape := ⟨2, ![16384, 3200]⟩
abbrev S16x512 : Shape := ⟨2, ![16, 512]⟩
abbrev S512 : Shape := ⟨1, ![512]⟩
abbrev S256 : Shape := ⟨1, ![256]⟩
abbrev S2x8192x3200 : Shape := ⟨3, ![2, 8192, 3200]⟩
abbrev S2x8192x512 : Shape := ⟨3, ![2, 8192, 512]⟩
abbrev S2x8192x1024 : Shape := ⟨3, ![2, 8192, 1024]⟩
abbrev S2x8192x16 : Shape := ⟨3, ![2, 8192, 16]⟩
abbrev S1x1x512 : Shape := ⟨3, ![1, 1, 512]⟩
abbrev S_ : Shape := ⟨0, ![]⟩
abbrev S2x4x128x256 : Shape := ⟨4, ![2, 4, 128, 256]⟩
abbrev S2x8192x4x128 : Shape := ⟨4, ![2, 8192, 4, 128]⟩
abbrev S2x8192x4x256 : Shape := ⟨4, ![2, 8192, 4, 256]⟩
abbrev S2x128x64x4x128 : Shape := ⟨5, ![2, 128, 64, 4, 128]⟩
abbrev S128x2x64x4x128 : Shape := ⟨5, ![128, 2, 64, 4, 128]⟩
abbrev S128x2x4x64x128 : Shape := ⟨5, ![128, 2, 4, 64, 128]⟩
abbrev S2x128x64x4x256 : Shape := ⟨5, ![2, 128, 64, 4, 256]⟩
abbrev S128x2x64x4x256 : Shape := ⟨5, ![128, 2, 64, 4, 256]⟩
abbrev S128x2x4x64x256 : Shape := ⟨5, ![128, 2, 4, 64, 256]⟩
abbrev S128x2x4x1x128 : Shape := ⟨5, ![128, 2, 4, 1, 128]⟩
abbrev S64x64 : Shape := ⟨2, ![64, 64]⟩
abbrev S128x2x4x64x64 : Shape := ⟨5, ![128, 2, 4, 64, 64]⟩
abbrev S128x2x4x128x256 : Shape := ⟨5, ![128, 2, 4, 128, 256]⟩
abbrev S128x2x4x128 : Shape := ⟨4, ![128, 2, 4, 128]⟩
abbrev S1x2x4x128 : Shape := ⟨4, ![1, 2, 4, 128]⟩
abbrev S2x4x128 : Shape := ⟨3, ![2, 4, 128]⟩
abbrev S1x2x4x128x256 : Shape := ⟨5, ![1, 2, 4, 128, 256]⟩
abbrev S1x2x4x64x128 : Shape := ⟨5, ![1, 2, 4, 64, 128]⟩
abbrev S2x4x64x128 : Shape := ⟨4, ![2, 4, 64, 128]⟩
abbrev S1x2x4x64x256 : Shape := ⟨5, ![1, 2, 4, 64, 256]⟩
abbrev S2x4x64x256 : Shape := ⟨4, ![2, 4, 64, 256]⟩
abbrev S2x4x128x1 : Shape := ⟨4, ![2, 4, 128, 1]⟩
abbrev S2x8192x4 : Shape := ⟨3, ![2, 8192, 4]⟩
abbrev S2x8192x4x1 : Shape := ⟨4, ![2, 8192, 4, 1]⟩
abbrev S1x1x1x256 : Shape := ⟨4, ![1, 1, 1, 256]⟩

abbrev nBuf : Space → Nat
  | .hbm => 169
  | .vmem => 0
  | .smem => 0
  | _ => 0

abbrev hbmTy0_0 (i : Nat) : BufTy := match i % 128 with
  | 0 => ⟨S16384x3200, .f32⟩
  | 1 => ⟨S16x512, .f32⟩
  | 2 => ⟨S512, .f32⟩
  | 3 => ⟨S256, .f32⟩
  | 4 => ⟨S2x8192x3200, .f32⟩
  | 5 => ⟨S2x8192x512, .f32⟩
  | 6 => ⟨S2x8192x512, .f32⟩
  | 7 => ⟨S2x8192x1024, .f32⟩
  | 8 => ⟨S2x8192x16, .f32⟩
  | 9 => ⟨S2x8192x512, .f32⟩
  | 10 => ⟨S1x1x512, .f32⟩
  | 11 => ⟨S2x8192x512, .f32⟩
  | 12 => ⟨S2x8192x512, .f32⟩
  | 13 => ⟨S2x8192x512, .f32⟩
  | 14 => ⟨S_, .f32⟩
  | 15 => ⟨S2x8192x512, .f32⟩
  | 16 => ⟨S2x8192x512, .f32⟩
  | 17 => ⟨S2x8192x512, .f32⟩
  | 18 => ⟨S2x8192x512, .f32⟩
  | 19 => ⟨S2x8192x512, .i1⟩
  | 20 => ⟨S2x8192x512, .f32⟩
  | 21 => ⟨S2x8192x512, .f32⟩
  | 22 => ⟨S2x8192x512, .f32⟩
  | 23 => ⟨S2x8192x512, .f32⟩
  | 24 => ⟨S2x8192x512, .f32⟩
  | 25 => ⟨S2x8192x512, .f32⟩
  | 26 => ⟨S2x8192x512, .f32⟩
  | 27 => ⟨S2x8192x512, .f32⟩
  | 28 => ⟨S2x8192x512, .f32⟩
  | 29 => ⟨S_, .f32⟩
  | 30 => ⟨S2x8192x512, .f32⟩
  | 31 => ⟨S2x8192x512, .f32⟩
  | 32 => ⟨S_, .f32⟩
  | 33 => ⟨S2x4x128x256, .f32⟩
  | 34 => ⟨S2x8192x4x128, .f32⟩
  | 35 => ⟨S_, .f32⟩
  | 36 => ⟨S2x8192x4x128, .f32⟩
  | 37 => ⟨S2x8192x4x128, .f32⟩
  | 38 => ⟨S2x8192x4x128, .f32⟩
  | 39 => ⟨S2x8192x4x256, .f32⟩
  | 40 => ⟨S2x8192x4x128, .f32⟩
  | 41 => ⟨S2x128x64x4x128, .f32⟩
  | 42 => ⟨S128x2x64x4x128, .f32⟩
  | 43 => ⟨S128x2x4x64x128, .f32⟩
  | 44 => ⟨S2x128x64x4x128, .f32⟩
  | 45 => ⟨S128x2x64x4x128, .f32⟩
  | 46 => ⟨S128x2x4x64x128, .f32⟩
  | 47 => ⟨S2x128x64x4x256, .f32⟩
  | 48 => ⟨S128x2x64x4x256, .f32⟩
  | 49 => ⟨S128x2x4x64x256, .f32⟩
  | 50 => ⟨S2x128x64x4x128, .f32⟩
  | 51 => ⟨S128x2x64x4x128, .f32⟩
  | 52 => ⟨S128x2x4x64x128, .f32⟩
  | 53 => ⟨S_, .f32⟩
  | 54 => ⟨S_, .f32⟩
  | 55 => ⟨S128x2x4x64x128, .f32⟩
  | 56 => ⟨S128x2x4x1x128, .f32⟩
  | 57 => ⟨S128x2x4x64x128, .f32⟩
  | 58 => ⟨S128x2x4x64x128, .f32⟩
  | 59 => ⟨S128x2x4x64x128, .f32⟩
  | 60 => ⟨S128x2x4x64x128, .f32⟩
  | 61 => ⟨S128x2x4x64x128, .f32⟩
  | 62 => ⟨S128x2x4x64x128, .f32⟩
  | 63 => ⟨S128x2x4x64x128, .f32⟩
  | 64 => ⟨S128x2x4x64x128, .f32⟩
  | 65 => ⟨S128x2x4x64x128, .f32⟩
  | 66 => ⟨S_, .i1⟩
  | 67 => ⟨S64x64, .i1⟩
  | 68 => ⟨S64x64, .i32⟩
  | 69 => ⟨S_, .i32⟩
  | 70 => ⟨S64x64, .i32⟩
  | 71 => ⟨S64x64, .i32⟩
  | 72 => ⟨S64x64, .i32⟩
  | 73 => ⟨S64x64, .i1⟩
  | 74 => ⟨S_, .i1⟩
  | 75 => ⟨S64x64, .i1⟩
  | 76 => ⟨S64x64, .i1⟩
  | 77 => ⟨S128x2x4x64x64, .f32⟩
  | 78 => ⟨S_, .f32⟩
  | 79 => ⟨S_, .f32⟩
  | 80 => ⟨S128x2x4x64x64, .i1⟩
  | 81 => ⟨S128x2x4x64x64, .f32⟩
  | 82 => ⟨S128x2x4x64x64, .f32⟩
  | 83 => ⟨S128x2x4x64x256, .f32⟩
  | 84 => ⟨S128x2x4x128x256, .f32⟩
  | 85 => ⟨S128x2x4x128, .f32⟩
  | 86 => ⟨S128x2x4x128, .f32⟩
  | 87 => ⟨S_, .f32⟩
  | 88 => ⟨S128x2x4x64x256, .f32⟩
  | 89 => ⟨S_, .i32⟩
  | 90 => ⟨S128x2x4x128, .f32⟩
  | 91 => ⟨S128x2x4x128x256, .f32⟩
  | 92 => ⟨S128x2x4x64x128, .f32⟩
  | 93 => ⟨S128x2x4x64x256, .f32⟩
  | 94 => ⟨S_, .i32⟩
  | 95 => ⟨S2x4x128x256, .f32⟩
  | 96 => ⟨S128x2x4x64x256, .f32⟩
  | 97 => ⟨S_, .i32⟩
  | 98 => ⟨S_, .i1⟩
  | 99 => ⟨S_, .i32⟩
  | 100 => ⟨S_, .i32⟩
  | 101 => ⟨S_, .i32⟩
  | 102 => ⟨S1x2x4x128, .f32⟩
  | 103 => ⟨S2x4x128, .f32⟩
  | 104 => ⟨S_, .i32⟩
  | 105 => ⟨S_, .i32⟩
  | 106 => ⟨S_, .i32⟩
  | 107 => ⟨S_, .i32⟩
  | 108 => ⟨S1x2x4x128x256, .f32⟩
  | 109 => ⟨S2x4x128x256, .f32⟩
  | 110 => ⟨S_, .i32⟩
  | 111 => ⟨S_, .i32⟩
  | 112 => ⟨S_, .i32⟩
  | 113 => ⟨S_, .i32⟩
  | 114 => ⟨S1x2x4x64x128, .f32⟩
  | 115 => ⟨S2x4x64x128, .f32⟩
  | 116 => ⟨S_, .i32⟩
  | 117 => ⟨S_, .i32⟩
  | 118 => ⟨S_, .i32⟩
  | 119 => ⟨S_, .i32⟩
  | 120 => ⟨S1x2x4x64x256, .f32⟩
  | 121 => ⟨S2x4x64x256, .f32⟩
  | 122 => ⟨S2x4x128x1, .f32⟩
  | 123 => ⟨S2x4x128x256, .f32⟩
  | 124 => ⟨S2x4x128x256, .f32⟩
  | 125 => ⟨S2x4x128x256, .f32⟩
  | 126 => ⟨S2x4x64x256, .f32⟩
  | 127 => ⟨S2x4x64x256, .f32⟩
  | _ => ⟨S16384x3200, .f32⟩

abbrev hbmTy0_1 (i : Nat) : BufTy := match i % 128 with
  | 0 => ⟨S1x2x4x64x256, .f32⟩
  | 1 => ⟨S_, .i32⟩
  | 2 => ⟨S_, .i32⟩
  | 3 => ⟨S_, .i32⟩
  | 4 => ⟨S_, .i32⟩
  | 5 => ⟨S128x2x4x64x256, .f32⟩
  | 6 => ⟨S_, .i32⟩
  | 7 => ⟨S_, .i32⟩
  | 8 => ⟨S128x2x64x4x256, .f32⟩
  | 9 => ⟨S2x128x64x4x256, .f32⟩
  | 10 => ⟨S2x8192x4x256, .f32⟩
  | 11 => ⟨S2x8192x3200, .f32⟩
  | 12 => ⟨S2x8192x1024, .f32⟩
  | 13 => ⟨S2x8192x4x256, .f32⟩
  | 14 => ⟨S_, .f32⟩
  | 15 => ⟨S2x8192x4, .f32⟩
  | 16 => ⟨S2x8192x4x1, .f32⟩
  | 17 => ⟨S_, .f32⟩
  | 18 => ⟨S2x8192x4x1, .f32⟩
  | 19 => ⟨S2x8192x4x1, .f32⟩
  | 20 => ⟨S_, .f32⟩
  | 21 => ⟨S2x8192x4x1, .f32⟩
  | 22 => ⟨S2x8192x4x1, .f32⟩
  | 23 => ⟨S2x8192x4x1, .f32⟩
  | 24 => ⟨S2x8192x4x256, .f32⟩
  | 25 => ⟨S2x8192x4x256, .f32⟩
  | 26 => ⟨S1x1x1x256, .f32⟩
  | 27 => ⟨S2x8192x4x256, .f32⟩
  | 28 => ⟨S2x8192x4x256, .f32⟩
  | 29 => ⟨S2x8192x1024, .f32⟩
  | 30 => ⟨S2x8192x1024, .f32⟩
  | 31 => ⟨S2x8192x1024, .f32⟩
  | 32 => ⟨S_, .f32⟩
  | 33 => ⟨S2x8192x1024, .f32⟩
  | 34 => ⟨S2x8192x1024, .f32⟩
  | 35 => ⟨S_, .f32⟩
  | 36 => ⟨S2x8192x1024, .f32⟩
  | 37 => ⟨S2x8192x1024, .f32⟩
  | 38 => ⟨S2x8192x1024, .f32⟩
  | 39 => ⟨S2x8192x1024, .f32⟩
  | 40 => ⟨S2x8192x1024, .bf16⟩
  | _ => ⟨S16384x3200, .f32⟩

abbrev hbmTy (i : Nat) : BufTy := match i / 128 with
  | 0 => hbmTy0_0 i
  | 1 => hbmTy0_1 i
  | _ => ⟨S16384x3200, .f32⟩

abbrev bufTy : (tb : Table) → Fin (tcTables nBuf tb) → BufTy
  | .hbm, ⟨i, _⟩ => hbmTy i
  | _, _ => ⟨S16384x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call1_call0_cst : Ref sig .tc := ⟨.hbm, 53, rfl⟩
abbrev main_call1_call0_v0 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c : Ref sig .tc := ⟨.hbm, 66, rfl⟩
abbrev main_v44 : Ref sig .tc := ⟨.hbm, 67, rfl⟩
abbrev main_call2_v0 : Ref sig .tc := ⟨.hbm, 68, rfl⟩
abbrev main_call2_c : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_c_0 : Ref sig .tc := ⟨.hbm, 74, rfl⟩
abbrev main_call2_v5 : Ref sig .tc := ⟨.hbm, 75, rfl⟩
abbrev main_v45 : Ref sig .tc := ⟨.hbm, 76, rfl⟩
abbrev main_v46 : Ref sig .tc := ⟨.hbm, 77, rfl⟩
abbrev main_cst_2 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_cst_3 : Ref sig .tc := ⟨.hbm, 87, rfl⟩
abbrev main_v52 : Ref sig .tc := ⟨.hbm, 88, rfl⟩
abbrev main_c_4 : Ref sig .tc := ⟨.hbm, 89, rfl⟩
abbrev main_v53_0 : Ref sig .tc := ⟨.hbm, 90, rfl⟩
abbrev main_v53_1 : Ref sig .tc := ⟨.hbm, 91, rfl⟩
abbrev main_v53_2 : Ref sig .tc := ⟨.hbm, 92, rfl⟩
abbrev main_v53_3 : Ref sig .tc := ⟨.hbm, 93, rfl⟩
abbrev main_v53_4 : Ref sig .tc := ⟨.hbm, 94, rfl⟩
abbrev main_v53_5 : Ref sig .tc := ⟨.hbm, 95, rfl⟩
abbrev main_v53_6 : Ref sig .tc := ⟨.hbm, 96, rfl⟩
abbrev main_while0c_c_14 : Ref sig .tc := ⟨.hbm, 97, rfl⟩
abbrev main_while0c_v76 : Ref sig .tc := ⟨.hbm, 98, rfl⟩
abbrev main_while0b_call4_c : Ref sig .tc := ⟨.hbm, 99, rfl⟩
abbrev main_while0b_call4_c_0 : Ref sig .tc := ⟨.hbm, 100, rfl⟩
abbrev main_while0b_call4_c_1 : Ref sig .tc := ⟨.hbm, 101, rfl⟩
abbrev main_while0b_call4_v0 : Ref sig .tc := ⟨.hbm, 102, rfl⟩
abbrev main_while0b_v76 : Ref sig .tc := ⟨.hbm, 103, rfl⟩
abbrev main_while0b_call5_c : Ref sig .tc := ⟨.hbm, 104, rfl⟩
abbrev main_while0b_call5_c_0 : Ref sig .tc := ⟨.hbm, 105, rfl⟩
abbrev main_while0b_call5_c_1 : Ref sig .tc := ⟨.hbm, 106, rfl⟩
abbrev main_while0b_call5_c_2 : Ref sig .tc := ⟨.hbm, 107, rfl⟩
abbrev main_while0b_call5_v0 : Ref sig .tc := ⟨.hbm, 108, rfl⟩
abbrev main_while0b_v77 : Ref sig .tc := ⟨.hbm, 109, rfl⟩
abbrev main_while0b_call6_c : Ref sig .tc := ⟨.hbm, 110, rfl⟩
abbrev main_while0b_call6_c_0 : Ref sig .tc := ⟨.hbm, 111, rfl⟩
abbrev main_while0b_call6_c_1 : Ref sig .tc := ⟨.hbm, 112, rfl⟩
abbrev main_while0b_call6_c_2 : Ref sig .tc := ⟨.hbm, 113, rfl⟩
abbrev main_while0b_call6_v0 : Ref sig .tc := ⟨.hbm, 114, rfl⟩
abbrev main_while0b_v78 : Ref sig .tc := ⟨.hbm, 115, rfl⟩
abbrev main_while0b_call7_c : Ref sig .tc := ⟨.hbm, 116, rfl⟩
abbrev main_while0b_call7_c_0 : Ref sig .tc := ⟨.hbm, 117, rfl⟩
abbrev main_while0b_call7_c_1 : Ref sig .tc := ⟨.hbm, 118, rfl⟩
abbrev main_while0b_call7_c_2 : Ref sig .tc := ⟨.hbm, 119, rfl⟩
abbrev main_while0b_call7_v0 : Ref sig .tc := ⟨.hbm, 120, rfl⟩
abbrev main_while0b_v79 : Ref sig .tc := ⟨.hbm, 121, rfl⟩
abbrev main_while0b_v80 : Ref sig .tc := ⟨.hbm, 122, rfl⟩
abbrev main_while0b_v81 : Ref sig .tc := ⟨.hbm, 123, rfl⟩
abbrev main_while0b_v82 : Ref sig .tc := ⟨.hbm, 124, rfl⟩
abbrev main_while0b_v83 : Ref sig .tc := ⟨.hbm, 125, rfl⟩
abbrev main_while0b_v84 : Ref sig .tc := ⟨.hbm, 126, rfl⟩
abbrev main_while0b_v85 : Ref sig .tc := ⟨.hbm, 127, rfl⟩
abbrev main_while0b_call8_v0 : Ref sig .tc := ⟨.hbm, 128, rfl⟩
abbrev main_while0b_call8_c : Ref sig .tc := ⟨.hbm, 129, rfl⟩
abbrev main_while0b_call8_c_0 : Ref sig .tc := ⟨.hbm, 130, rfl⟩
abbrev main_while0b_call8_c_1 : Ref sig .tc := ⟨.hbm, 131, rfl⟩
abbrev main_while0b_call8_c_2 : Ref sig .tc := ⟨.hbm, 132, rfl⟩
abbrev main_while0b_v86 : Ref sig .tc := ⟨.hbm, 133, rfl⟩
abbrev main_while0b_c_14 : Ref sig .tc := ⟨.hbm, 134, rfl⟩
abbrev main_while0b_v87 : Ref sig .tc := ⟨.hbm, 135, rfl⟩
abbrev main_v54 : Ref sig .tc := ⟨.hbm, 136, rfl⟩
abbrev main_v55 : Ref sig .tc := ⟨.hbm, 137, rfl⟩
abbrev main_v56 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_cst_5 : Ref sig .tc := ⟨.hbm, 142, rfl⟩
abbrev main_v60 : Ref sig .tc := ⟨.hbm, 143, rfl⟩
abbrev main_v61 : Ref sig .tc := ⟨.hbm, 144, rfl⟩
abbrev main_cst_6 : Ref sig .tc := ⟨.hbm, 145, rfl⟩
abbrev main_v62 : Ref sig .tc := ⟨.hbm, 146, rfl⟩
abbrev main_v63 : Ref sig .tc := ⟨.hbm, 147, rfl⟩
abbrev main_cst_7 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_call9_v0 : Ref sig .tc := ⟨.hbm, 158, rfl⟩
abbrev main_call9_v1 : Ref sig .tc := ⟨.hbm, 159, rfl⟩
abbrev main_call9_cst : Ref sig .tc := ⟨.hbm, 160, rfl⟩
abbrev main_call9_v2 : Ref sig .tc := ⟨.hbm, 161, rfl⟩
abbrev main_call9_v3 : Ref sig .tc := ⟨.hbm, 162, rfl⟩
abbrev main_call9_cst_0 : Ref sig .tc := ⟨.hbm, 163, rfl⟩
abbrev main_call9_v4 : Ref sig .tc := ⟨.hbm, 164, rfl⟩
abbrev main_call9_v5 : Ref sig .tc := ⟨.hbm, 165, rfl⟩
abbrev main_v73 : Ref sig .tc := ⟨.hbm, 166, rfl⟩
abbrev main_v74 : Ref sig .tc := ⟨.hbm, 167, rfl⟩
abbrev main_v75 : Ref sig .tc := ⟨.hbm, 168, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S18432x1024 : Shape := ⟨2, ![18432, 1024]⟩
abbrev S16384x1024 : Shape := ⟨2, ![16384, 1024]⟩
abbrev S2048x1024 : Shape := ⟨2, ![2048, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S1x1024 : Shape := ⟨2, ![1, 1024]⟩
abbrev S512x1024 : Shape := ⟨2, ![512, 1024]⟩
abbrev S1024x2816 : Shape := ⟨2, ![1024, 2816]⟩
abbrev S512 : Shape := ⟨1, ![512]⟩
abbrev S512x1 : Shape := ⟨2, ![512, 1]⟩
abbrev S512x2816 : Shape := ⟨2, ![512, 2816]⟩

abbrev nBuf : Space → Nat
  | .hbm => 12
  | .vmem => 13
  | .smem => 0
  | _ => 0

abbrev bufTy : (tb : Table) → Fin (tcTables nBuf tb) → BufTy
  | .hbm, ⟨0, _⟩ => ⟨S18432x1024, .f32⟩
  | .hbm, ⟨1, _⟩ => ⟨S16384x1024, .bf16⟩
  | .hbm, ⟨2, _⟩ => ⟨S2048x1024, .bf16⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024x1024, .f32⟩
  | .hbm, ⟨7, _⟩ => ⟨S1024x5632, .bf16⟩
  | .hbm, ⟨8, _⟩ => ⟨S2816x1024, .bf16⟩
  | .hbm, ⟨9, _⟩ => ⟨S1024x1024, .bf16⟩
  | .hbm, ⟨10, _⟩ => ⟨S1x1024, .f32⟩
  | .hbm, ⟨11, _⟩ => ⟨S18432x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S18432x1024 : Shape := ⟨2, ![18432, 1024]⟩
abbrev S16384x1024 : Shape := ⟨2, ![16384, 1024]⟩
abbrev S2048x1024 : Shape := ⟨2, ![2048, 1024]⟩
abbrev S1024 : Shape := ⟨1, ![1024]⟩
abbrev S1024x5632 : Shape := ⟨2, ![1024, 5632]⟩
abbrev S2816x1024 : Shape := ⟨2, ![2816, 1024]⟩
abbrev S1024x1024 : Shape := ⟨2, ![1024, 1024]⟩
abbrev S_ : Shape := ⟨0, ![]⟩
abbrev S18432 : Shape := ⟨1, ![18432]⟩
abbrev S18432x1 : Shape := ⟨2, ![18432, 1]⟩
abbrev S1x1024 : Shape := ⟨2, ![1, 1024]⟩
abbrev S18432x5632 : Shape := ⟨2, ![18432, 5632]⟩
abbrev S18432x2816 : Shape := ⟨2, ![18432, 2816]⟩

abbrev nBuf : Space → Nat
  | .hbm => 45
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S16384x1024, .bf16⟩
  | .hbm, ⟨2, _⟩ => ⟨S2048x1024, .bf16⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024x1024, .f32⟩
  | .hbm, ⟨7, _⟩ => ⟨S18432x1024, .bf16⟩
  | .hbm, ⟨8, _⟩ => ⟨S18432x1024, .f32⟩
  | .hbm, ⟨9, _⟩ => ⟨S18432x1024, .f32⟩
  | .hbm, ⟨10, _⟩ => ⟨S18432x1024, .f32⟩
  | .hbm, ⟨11, _⟩ => ⟨S18432x1024, .f32⟩
  | .hbm, ⟨12, _⟩ => ⟨S_, .f32⟩
  | .hbm, ⟨13, _⟩ => ⟨S18432, .f32⟩
  | .hbm, ⟨14, _⟩ => ⟨S18432x1, .f32⟩
  | .hbm, ⟨15, _⟩ => ⟨S_, .f32⟩
  | .hbm, ⟨16, _⟩ => ⟨S18432x1, .f32⟩
  | .hbm, ⟨17, _⟩ => ⟨S18432x1, .f32⟩
  | .hbm, ⟨18, _⟩ => ⟨S_, .f32⟩
  | .hbm, ⟨19, _⟩ => ⟨S18432x1, .f32⟩
  | .hbm, ⟨20, _⟩ => ⟨S18432x1, .f32⟩
  | .hbm, ⟨21, _⟩ => ⟨S18432x1, .f32⟩
  | .hbm, ⟨22, _⟩ => ⟨S18432x1024, .f32⟩
  | .hbm, ⟨23, _⟩ => ⟨S18432x1024, .f32⟩
  | .hbm, ⟨24, _⟩ => ⟨S1x1024, .f32⟩
  | .hbm, ⟨25, _⟩ => ⟨S18432x1024, .f32⟩
  | .hbm, ⟨26, _⟩ => ⟨S18432x1024, .f32⟩
  | .hbm, ⟨27, _⟩ => ⟨S18432x5632, .f32⟩
  | .hbm, ⟨28, _⟩ => ⟨S18432x2816, .f32⟩
  | .hbm, ⟨29, _⟩ => ⟨S18432x2816, .f32⟩
  | .hbm, ⟨30, _⟩ => ⟨S18432x2816, .f32⟩
  | .hbm, ⟨31, _⟩ => ⟨S18432x2816, .f32⟩
  | .hbm, ⟨32, _⟩ => ⟨S_, .f32⟩
  | .hbm, ⟨33, _⟩ => ⟨S18432x2816, .f32⟩
  | .hbm, ⟨34, _⟩ => ⟨S18432x2816, .f32⟩
  | .hbm, ⟨35, _⟩ => ⟨S_, .f32⟩
  | .hbm, ⟨36, _⟩ => ⟨S18432x2816, .f32⟩
  | .hbm, ⟨37, _⟩ => ⟨S18432x2816, .f32⟩
  | .hbm, ⟨38, _⟩ => ⟨S18432x2816, .f32⟩
  | .hbm, ⟨39, _⟩ => ⟨S18432x2816, .f32⟩
  | .hbm, ⟨40, _⟩ => ⟨S18432x1024, .f32⟩
  | .hbm, ⟨41, _⟩ => ⟨S_, .f32⟩
  | .hbm, ⟨42, _⟩ => ⟨S18432x1024, .f32⟩
  | .hbm, ⟨43, _⟩ => ⟨S18432x1024, .f32⟩
  | .hbm, ⟨44, _⟩ => ⟨S18432x1024, .f32⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== Kernel3.lean ====
abbrev S18432x1024 : Shape := ⟨2, ![18432, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x2816 : Shape := ⟨2, ![1024, 2816]⟩
abbrev S512 : Shape := ⟨1, ![512]⟩
abbrev S512x1 : Shape := ⟨2, ![512, 1]⟩
abbrev S512x2816 : Shape := ⟨2, ![512, 2816]⟩

abbrev nBuf : Space → Nat
  | .hbm => 8
  | .vmem => 8
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x5632, .bf16⟩
  | .hbm, ⟨5, _⟩ => ⟨S2816x1024, .bf16⟩
  | .hbm, ⟨6, _⟩ => ⟨S1x1024, .f32⟩
  | .hbm, ⟨7, _⟩ => ⟨S18432x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S18432x1024 : Shape := ⟨2, ![18432, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S18432 : Shape := ⟨1, ![18432]⟩
abbrev S18432x1 : Shape := ⟨2, ![18432, 1]⟩
abbrev S1x1024 : Shape := ⟨2, ![1, 1024]⟩
abbrev S18432x5632 : Shape := ⟨2, ![18432, 5632]⟩
abbrev S18432x2816 : Shape := ⟨2, ![18432, 2816]⟩

abbrev nBuf : Space → Nat
  | .hbm => 38
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S18432x1024, .f32⟩
  | .hbm, ⟨5, _⟩ => ⟨S_, .f32⟩
  | .hbm, ⟨6, _⟩ => ⟨S18432, .f32⟩
  | .hbm, ⟨7, _⟩ => ⟨S18432x1, .f32⟩
  | .hbm, ⟨8, _⟩ => ⟨S_, .f32⟩
  | .hbm, ⟨9, _⟩ => ⟨S18432x1, .f32⟩
  | .hbm, ⟨10, _⟩ => ⟨S18432x1, .f32⟩
  | .hbm, ⟨11, _⟩ => ⟨S_, .f32⟩
  | .hbm, ⟨12, _⟩ => ⟨S18432x1, .f32⟩
  | .hbm, ⟨13, _⟩ => ⟨S18432x1, .f32⟩
  | .hbm, ⟨14, _⟩ => ⟨S18432x1, .f32⟩
  | .hbm, ⟨15, _⟩ => ⟨S18432x1024, .f32⟩
  | .hbm, ⟨16, _⟩ => ⟨S18432x1024, .f32⟩
  | .hbm, ⟨17, _⟩ => ⟨S1x1024, .f32⟩
  | .hbm, ⟨18, _⟩ => ⟨S18432x1024, .f32⟩
  | .hbm, ⟨19, _⟩ => ⟨S18432x1024, .f32⟩
  | .hbm, ⟨20, _⟩ => ⟨S18432x5632, .f32⟩
  | .hbm, ⟨21, _⟩ => ⟨S18432x2816, .f32⟩
  | .hbm, ⟨22, _⟩ => ⟨S18432x2816, .f32⟩
  | .hbm, ⟨23, _⟩ => ⟨S18432x2816, .f32⟩
  | .hbm, ⟨24, _⟩ => ⟨S18432x2816, .f32⟩
  | .hbm, ⟨25, _⟩ => ⟨S_, .f32⟩
  | .hbm, ⟨26, _⟩ => ⟨S18432x2816, .f32⟩
  | .hbm, ⟨27, _⟩ => ⟨S18432x2816, .f32⟩
  | .hbm, ⟨28, _⟩ => ⟨S_, .f32⟩
  | .hbm, ⟨29, _⟩ => ⟨S18432x2816, .f32⟩
  | .hbm, ⟨30, _⟩ => ⟨S18432x2816, .f32⟩
  | .hbm, ⟨31, _⟩ => ⟨S18432x2816, .f32⟩
  | .hbm, ⟨32, _⟩ => ⟨S18432x2816, .f32⟩
  | .hbm, ⟨33, _⟩ => ⟨S18432x1024, .f32⟩
  | .hbm, ⟨34, _⟩ => ⟨S_, .f32⟩
  | .hbm, ⟨35, _⟩ => ⟨S18432x1024, .f32⟩
  | .hbm, ⟨36, _⟩ => ⟨S18432x1024, .f32⟩
  | .hbm, ⟨37, _⟩ => ⟨S18432x1024, .f32⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel4.lean ====
abbrev S16384x1024 : Shape := ⟨2, ![16384, 1024]⟩
abbrev S2048x1024 : Shape := ⟨2, ![2048, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S18432x1024 : Shape := ⟨2, ![18432, 1024]⟩
abbrev S512x1024 : Shape := ⟨2, ![512, 1024]⟩
abbrev S1024x2816 : Shape := ⟨2, ![1024, 2816]⟩
abbrev S512 : Shape := ⟨1, ![512]⟩
abbrev S512x1 : Shape := ⟨2, ![512, 1]⟩
abbrev S512x2816 : Shape := ⟨2, ![512, 2816]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S18432x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S512x1024, .f32⟩
  | .local _ .vmem, ⟨9, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16384x1024 : Shape := ⟨2, ![16384, 1024]⟩
abbrev S2048x1024 : Shape := ⟨2, ![2048, 1024]⟩
abbrev S1024 : Shape := ⟨1, ![1024]⟩
abbrev S1024x5632 : Shape := ⟨2, ![1024, 5632]⟩
abbrev S2816x1024 : Shape := ⟨2, ![2816, 1024]⟩
abbrev S18432x1024 : Shape := ⟨2, ![18432, 1024]⟩
abbrev S_ : Shape := ⟨0, ![]⟩
abbrev S18432 : Shape := ⟨1, ![18432]⟩
abbrev S18432x1 : Shape := ⟨2, ![18432, 1]⟩
abbrev S1x1024 : Shape := ⟨2, ![1, 1024]⟩
abbrev S18432x5632 : Shape := ⟨2, ![18432, 5632]⟩
abbrev S18432x2816 : Shape := ⟨2, ![18432, 2816]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2048x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S18432x1024, .f32⟩
  | .hbm, ⟨6, _⟩ => ⟨S18432x1024, .f32⟩
  | .hbm, ⟨7, _⟩ => ⟨S_, .f32⟩
  | .hbm, ⟨8, _⟩ => ⟨S18432, .f32⟩
  | .hbm, ⟨9, _⟩ => ⟨S18432x1, .f32⟩
  | .hbm, ⟨10, _⟩ => ⟨S_, .f32⟩
  | .hbm, ⟨11, _⟩ => ⟨S18432x1, .f32⟩
  | .hbm, ⟨12, _⟩ => ⟨S18432x1, .f32⟩
  | .hbm, ⟨13, _⟩ => ⟨S_, .f32⟩
  | .hbm, ⟨14, _⟩ => ⟨S18432x1, .f32⟩
  | .hbm, ⟨15, _⟩ => ⟨S18432x1, .f32⟩
  | .hbm, ⟨16, _⟩ => ⟨S18432x1, .f32⟩
  | .hbm, ⟨17, _⟩ => ⟨S18432x1024, .f32⟩
  | .hbm, ⟨18, _⟩ => ⟨S18432x1024, .f32⟩
  | .hbm, ⟨19, _⟩ => ⟨S1x1024, .f32⟩
  | .hbm, ⟨20, _⟩ => ⟨S18432x1024, .f32⟩
  | .hbm, ⟨21, _⟩ => ⟨S18432x1024, .f32⟩
  | .hbm, ⟨22, _⟩ => ⟨S18432x5632, .f32⟩
  | .hbm, ⟨23, _⟩ => ⟨S18432x2816, .f32⟩
  | .hbm, ⟨24, _⟩ => ⟨S18432x2816, .f32⟩
  | .hbm, ⟨25, _⟩ => ⟨S18432x2816, .f32⟩
  | .hbm, ⟨26, _⟩ => ⟨S18432x2816, .f32⟩
  | .hbm, ⟨27, _⟩ => ⟨S_, .f32⟩
  | .hbm, ⟨28, _⟩ => ⟨S18432x2816, .f32⟩
  | .hbm, ⟨29, _⟩ => ⟨S18432x2816, .f32⟩
  | .hbm, ⟨30, _⟩ => ⟨S_, .f32⟩
  | .hbm, ⟨31, _⟩ => ⟨S18432x2816, .f32⟩
  | .hbm, ⟨32, _⟩ => ⟨S18432x2816, .f32⟩
  | .hbm, ⟨33, _⟩ => ⟨S18432x2816, .f32⟩
  | .hbm, ⟨34, _⟩ => ⟨S18432x2816, .f32⟩
  | .hbm, ⟨35, _⟩ => ⟨S18432x1024, .f32⟩
  | .hbm, ⟨36, _⟩ => ⟨S_, .f32⟩
  | .hbm, ⟨37, _⟩ => ⟨S18432x1024, .f32⟩
  | .hbm, ⟨38, _⟩ => ⟨S18432x1024, .f32⟩
  | .hbm, ⟨39, _⟩ => ⟨S18432x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Kernel5.lean ====
abbrev S18432x1024 : Shape := ⟨2, ![18432, 1024]⟩
abbrev S1024 : Shape := ⟨1, ![1024]⟩
abbrev S1024x3088 : Shape := ⟨2, ![1024, 3088]⟩
abbrev S_ : Shape := ⟨0, ![]⟩
abbrev S1024x3200 : Shape := ⟨2, ![1024, 3200]⟩
abbrev S1x1024 : Shape := ⟨2, ![1, 1024]⟩
abbrev S16384x3200 : Shape := ⟨2, ![16384, 3200]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩
abbrev S1024x1024 : Shape := ⟨2, ![1024, 1024]⟩
abbrev S1024x128 : Shape := ⟨2, ![1024, 128]⟩
abbrev S512x128 : Shape := ⟨2, ![512, 128]⟩

abbrev nBuf : Space → Nat
  | .hbm => 9
  | .vmem => 6
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S1024x3088, .f32⟩
  | .hbm, ⟨3, _⟩ => ⟨S_, .i32⟩
  | .hbm, ⟨4, _⟩ => ⟨S_, .f32⟩
  | .hbm, ⟨5, _⟩ => ⟨S1024x3200, .f32⟩
  | .hbm, ⟨6, _⟩ => ⟨S1024x3200, .bf16⟩
  | .hbm, ⟨7, _⟩ => ⟨S1x1024, .f32⟩
  | .hbm, ⟨8, _⟩ => ⟨S16384x3200, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3200, .bf16⟩
  | .local _ .vmem, ⟨4, _⟩ => ⟨S512x3200, .f32⟩
  | .local _ .vmem, ⟨5, _⟩ => ⟨S512x3200, .f32⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S18432x1024 : Shape := ⟨2, ![18432, 1024]⟩
abbrev S1024 : Shape := ⟨1, ![1024]⟩
abbrev S1024x3088 : Shape := ⟨2, ![1024, 3088]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3088 : Shape := ⟨2, ![16384, 3088]⟩
abbrev S16384x3200 : Shape := ⟨2, ![16384, 3200]⟩

abbrev nBuf : Space → Nat
  | .hbm => 24
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S1024x3088, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x3088, .f32⟩
  | .hbm, ⟨21, _⟩ => ⟨S_, .i32⟩
  | .hbm, ⟨22, _⟩ => ⟨S_, .f32⟩
  | .hbm, ⟨23, _⟩ => ⟨S16384x3200, .f32⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel6.lean ====
abbrev S18432x1024 : Shape := ⟨2, ![18432, 1024]⟩
abbrev S1024 : Shape := ⟨1, ![1024]⟩
abbrev S1024x4112 : Shape := ⟨2, ![1024, 4112]⟩
abbrev S_ : Shape := ⟨0, ![]⟩
abbrev S1024x4224 : Shape := ⟨2, ![1024, 4224]⟩
abbrev S1x1024 : Shape := ⟨2, ![1, 1024]⟩
abbrev S16384x4224 : Shape := ⟨2, ![16384, 4224]⟩
abbrev S512x1024 : Shape := ⟨2, ![512, 1024]⟩
abbrev S512x4224 : Shape := ⟨2, ![512, 4224]⟩
abbrev S512 : Shape := ⟨1, ![512]⟩
abbrev S512x1 : Shape := ⟨2, ![512, 1]⟩
abbrev S1024x1024 : Shape := ⟨2, ![1024, 1024]⟩
abbrev S1024x128 : Shape := ⟨2, ![1024, 128]⟩
abbrev S512x128 : Shape := ⟨2, ![512, 128]⟩

abbrev nBuf : Space → Nat
  | .hbm => 9
  | .vmem => 6
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S1024x4112, .f32⟩
  | .hbm, ⟨3, _⟩ => ⟨S_, .i32⟩
  | .hbm, ⟨4, _⟩ => ⟨S_, .f32⟩
  | .hbm, ⟨5, _⟩ => ⟨S1024x4224, .f32⟩
  | .hbm, ⟨6, _⟩ => ⟨S1024x4224, .bf16⟩
  | .hbm, ⟨7, _⟩ => ⟨S1x1024, .f32⟩
  | .hbm, ⟨8, _⟩ => ⟨S16384x4224, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4224, .bf16⟩
  | .local _ .vmem, ⟨4, _⟩ => ⟨S512x4224, .f32⟩
  | .local _ .vmem, ⟨5, _⟩ => ⟨S512x4224, .f32⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S18432x1024 : Shape := ⟨2, ![18432, 1024]⟩
abbrev S1024 : Shape := ⟨1, ![1024]⟩
abbrev S1024x4112 : Shape := ⟨2, ![1024, 4112]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4112 : Shape := ⟨2, ![16384, 4112]⟩
abbrev S16384x4224 : Shape := ⟨2, ![16384, 4224]⟩

abbrev nBuf : Space → Nat
  | .hbm => 24
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S1024x4112, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x4112, .f32⟩
  | .hbm, ⟨21, _⟩ => ⟨S_, .i32⟩
  | .hbm, ⟨22, _⟩ => ⟨S_, .f32⟩
  | .hbm, ⟨23, _⟩ => ⟨S16384x4224, .f32⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel7.lean ====
abbrev S18432x1024 : Shape := ⟨2, ![18432, 1024]⟩
abbrev S1024 : Shape := ⟨1, ![1024]⟩
abbrev S1024x4112 : Shape := ⟨2, ![1024, 4112]⟩
abbrev S_ : Shape := ⟨0, ![]⟩
abbrev S1024x4224 : Shape := ⟨2, ![1024, 4224]⟩
abbrev S1x1024 : Shape := ⟨2, ![1, 1024]⟩
abbrev S2048x4224 : Shape := ⟨2, ![2048, 4224]⟩
abbrev S512x1024 : Shape := ⟨2, ![512, 1024]⟩
abbrev S512x4224 : Shape := ⟨2, ![512, 4224]⟩
abbrev S512 : Shape := ⟨1, ![512]⟩
abbrev S512x1 : Shape := ⟨2, ![512, 1]⟩
abbrev S1024x1024 : Shape := ⟨2, ![1024, 1024]⟩
abbrev S1024x128 : Shape := ⟨2, ![1024, 128]⟩
abbrev S512x128 : Shape := ⟨2, ![512, 128]⟩

abbrev nBuf : Space → Nat
  | .hbm => 9
  | .vmem => 6
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S1024x4112, .f32⟩
  | .hbm, ⟨3, _⟩ => ⟨S_, .i32⟩
  | .hbm, ⟨4, _⟩ => ⟨S_, .f32⟩
  | .hbm, ⟨5, _⟩ => ⟨S1024x4224, .f32⟩
  | .hbm, ⟨6, _⟩ => ⟨S1024x4224, .bf16⟩
  | .hbm, ⟨7, _⟩ => ⟨S1x1024, .f32⟩
  | .hbm, ⟨8, _⟩ => ⟨S2048x4224, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4224, .bf16⟩
  | .local _ .vmem, ⟨4, _⟩ => ⟨S512x4224, .f32⟩
  | .local _ .vmem, ⟨5, _⟩ => ⟨S512x4224, .f32⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S18432x1024 : Shape := ⟨2, ![18432, 1024]⟩
abbrev S1024 : Shape := ⟨1, ![1024]⟩
abbrev S1024x4112 : Shape := ⟨2, ![1024, 4112]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x4112 : Shape := ⟨2, ![2048, 4112]⟩
abbrev S2048x4224 : Shape := ⟨2, ![2048, 4224]⟩

abbrev nBuf : Space → Nat
  | .hbm => 24
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S1024x4112, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x4112, .f32⟩
  | .hbm, ⟨21, _⟩ => ⟨S_, .i32⟩
  | .hbm, ⟨22, _⟩ => ⟨S_, .f32⟩
  | .hbm, ⟨23, _⟩ => ⟨S2048x4224, .f32⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel8.lean ====
abbrev S18432x1024 : Shape := ⟨2, ![18432, 1024]⟩
abbrev S1024 : Shape := ⟨1, ![1024]⟩
abbrev S1024x3072 : Shape := ⟨2, ![1024, 3072]⟩
abbrev S1x1024 : Shape := ⟨2, ![1, 1024]⟩
abbrev S16384x1024 : Shape := ⟨2, ![16384, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 10
  | .vmem => 14
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1x1024, .f32⟩
  | .hbm, ⟨5, _⟩ => ⟨S16384x1024, .bf16⟩
  | .hbm, ⟨6, _⟩ => ⟨S16384x1024, .f32⟩
  | .hbm, ⟨7, _⟩ => ⟨S16384x1024, .bf16⟩
  | .hbm, ⟨8, _⟩ => ⟨S16384x1024, .f32⟩
  | .hbm, ⟨9, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S18432x1024 : Shape := ⟨2, ![18432, 1024]⟩
abbrev S1024 : Shape := ⟨1, ![1024]⟩
abbrev S1024x3072 : Shape := ⟨2, ![1024, 3072]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩

abbrev nBuf : Space → Nat
  | .hbm => 30
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x3072, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384x1024, .f32⟩
  | .hbm, ⟨26, _⟩ => ⟨S16384x1024, .f32⟩
  | .hbm, ⟨27, _⟩ => ⟨S16384x1024, .bf16⟩
  | .hbm, ⟨28, _⟩ => ⟨S16384x1024, .bf16⟩
  | .hbm, ⟨29, _⟩ => ⟨S16384x1024, .bf16⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel9.lean ====
abbrev S18432x1024 : Shape := ⟨2, ![18432, 1024]⟩
abbrev S1024 : Shape := ⟨1, ![1024]⟩
abbrev S1024x3072 : Shape := ⟨2, ![1024, 3072]⟩
abbrev S1x1024 : Shape := ⟨2, ![1, 1024]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 10
  | .vmem => 14
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S1024x3072, .f32⟩
  | .hbm, ⟨3, _⟩ => ⟨S1024x3072, .bf16⟩
  | .hbm, ⟨4, _⟩ => ⟨S1x1024, .f32⟩
  | .hbm, ⟨5, _⟩ => ⟨S2048x1024, .bf16⟩
  | .hbm, ⟨6, _⟩ => ⟨S2048x1024, .f32⟩
  | .hbm, ⟨7, _⟩ => ⟨S2048x1024, .bf16⟩
  | .hbm, ⟨8, _⟩ => ⟨S2048x1024, .f32⟩
  | .hbm, ⟨9, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S18432x1024 : Shape := ⟨2, ![18432, 1024]⟩
abbrev S1024 : Shape := ⟨1, ![1024]⟩
abbrev S1024x3072 : Shape := ⟨2, ![1024, 3072]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x3072 : Shape := ⟨2, ![2048, 3072]⟩

abbrev nBuf : Space → Nat
  | .hbm => 30
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S1024x3072, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x3072, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .bf16⟩
  | .hbm, ⟨28, _⟩ => ⟨S2048x1024, .bf16⟩
  | .hbm, ⟨29, _⟩ => ⟨S2048x1024, .bf16⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel10.lean ====
abbrev S18432x1024 : Shape := ⟨2, ![18432, 1024]⟩
abbrev S1024 : Shape := ⟨1, ![1024]⟩
abbrev S1024x3072 : Shape := ⟨2, ![1024, 3072]⟩
abbrev S64 : Shape := ⟨1, ![64]⟩
abbrev S1x1024 : Shape := ⟨2, ![1, 1024]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16384x1024 : Shape := ⟨2, ![16384, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S512x128 : Shape := ⟨2, ![512, 128]⟩

abbrev nBuf : Space → Nat
  | .hbm => 20
  | .vmem => 16
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S1024x3072, .bf16⟩
  | .hbm, ⟨6, _⟩ => ⟨S1x1024, .f32⟩
  | .hbm, ⟨7, _⟩ => ⟨S1x64, .f32⟩
  | .hbm, ⟨8, _⟩ => ⟨S2x64, .f32⟩
  | .hbm, ⟨9, _⟩ => ⟨S128, .f32⟩
  | .hbm, ⟨10, _⟩ => ⟨S1x128, .f32⟩
  | .hbm, ⟨11, _⟩ => ⟨S1x64, .f32⟩
  | .hbm, ⟨12, _⟩ => ⟨S2x64, .f32⟩
  | .hbm, ⟨13, _⟩ => ⟨S128, .f32⟩
  | .hbm, ⟨14, _⟩ => ⟨S1x128, .f32⟩
  | .hbm, ⟨15, _⟩ => ⟨S16384x1024, .bf16⟩
  | .hbm, ⟨16, _⟩ => ⟨S16384x1024, .f32⟩
  | .hbm, ⟨17, _⟩ => ⟨S16384x1024, .bf16⟩
  | .hbm, ⟨18, _⟩ => ⟨S16384x1024, .f32⟩
  | .hbm, ⟨19, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x128, .f32⟩
  | .local _ .vmem, ⟨5, _⟩ => ⟨S1x128, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev main_v10_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference10Ideal.lean ====
abbrev S18432x1024 : Shape := ⟨2, ![18432, 1024]⟩
abbrev S1024 : Shape := ⟨1, ![1024]⟩
abbrev S1024x3072 : Shape := ⟨2, ![1024, 3072]⟩
abbrev S64 : Shape := ⟨1, ![64]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩
abbrev S16384x16x64 : Shape := ⟨3, ![16384, 16, 64]⟩
abbrev S16384x16 : Shape := ⟨2, ![16384, 16]⟩
abbrev S16384x16x1 : Shape := ⟨3, ![16384, 16, 1]⟩
abbrev S1x1x64 : Shape := ⟨3, ![1, 1, 64]⟩

abbrev nBuf : Space → Nat
  | .hbm => 68
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x3072, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x16x64, .f32⟩
  | .hbm, ⟨27, _⟩ => ⟨S16384x16x64, .f32⟩
  | .hbm, ⟨28, _⟩ => ⟨S_, .f32⟩
  | .hbm, ⟨29, _⟩ => ⟨S16384x16, .f32⟩
  | .hbm, ⟨30, _⟩ => ⟨S16384x16x1, .f32⟩
  | .hbm, ⟨31, _⟩ => ⟨S_, .f32⟩
  | .hbm, ⟨32, _⟩ => ⟨S16384x16x1, .f32⟩
  | .hbm, ⟨33, _⟩ => ⟨S16384x16x1, .f32⟩
  | .hbm, ⟨34, _⟩ => ⟨S_, .f32⟩
  | .hbm, ⟨35, _⟩ => ⟨S16384x16x1, .f32⟩
  | .hbm, ⟨36, _⟩ => ⟨S16384x16x1, .f32⟩
  | .hbm, ⟨37, _⟩ => ⟨S16384x16x1, .f32⟩
  | .hbm, ⟨38, _⟩ => ⟨S16384x16x64, .f32⟩
  | .hbm, ⟨39, _⟩ => ⟨S16384x16x64, .f32⟩
  | .hbm, ⟨40, _⟩ => ⟨S1x1x64, .f32⟩
  | .hbm, ⟨41, _⟩ => ⟨S16384x16x64, .f32⟩
  | .hbm, ⟨42, _⟩ => ⟨S16384x16x64, .f32⟩
  | .hbm, ⟨43, _⟩ => ⟨S16384x1024, .f32⟩
  | .hbm, ⟨44, _⟩ => ⟨S_, .f32⟩
  | .hbm, ⟨45, _⟩ => ⟨S16384x1024, .f32⟩
  | .hbm, ⟨46, _⟩ => ⟨S16384x1024, .f32⟩
  | .hbm, ⟨47, _⟩ => ⟨S16384x16x64, .f32⟩
  | .hbm, ⟨48, _⟩ => ⟨S16384x16x64, .f32⟩
  | .hbm, ⟨49, _⟩ => ⟨S_, .f32⟩
  | .hbm, ⟨50, _⟩ => ⟨S16384x16, .f32⟩
  | .hbm, ⟨51, _⟩ => ⟨S16384x16x1, .f32⟩
  | .hbm, ⟨52, _⟩ => ⟨S_, .f32⟩
  | .hbm, ⟨53, _⟩ => ⟨S16384x16x1, .f32⟩
  | .hbm, ⟨54, _⟩ => ⟨S16384x16x1, .f32⟩
  | .hbm, ⟨55, _⟩ => ⟨S_, .f32⟩
  | .hbm, ⟨56, _⟩ => ⟨S16384x16x1, .f32⟩
  | .hbm, ⟨57, _⟩ => ⟨S16384x16x1, .f32⟩
  | .hbm, ⟨58, _⟩ => ⟨S16384x16x1, .f32⟩
  | .hbm, ⟨59, _⟩ => ⟨S16384x16x64, .f32⟩
  | .hbm, ⟨60, _⟩ => ⟨S16384x16x64, .f32⟩
  | .hbm, ⟨61, _⟩ => ⟨S1x1x64, .f32⟩
  | .hbm, ⟨62, _⟩ => ⟨S16384x16x64, .f32⟩
  | .hbm, ⟨63, _⟩ => ⟨S16384x16x64, .f32⟩
  | .hbm, ⟨64, _⟩ => ⟨S16384x1024, .f32⟩
  | .hbm, ⟨65, _⟩ => ⟨S16384x1024, .bf16⟩
  | .hbm, ⟨66, _⟩ => ⟨S16384x1024, .bf16⟩
  | .hbm, ⟨67, _⟩ => ⟨S16384x1024, .bf16⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Kernel11.lean ====
abbrev S18432x1024 : Shape := ⟨2, ![18432, 1024]⟩
abbrev S1024 : Shape := ⟨1, ![1024]⟩
abbrev S1024x3072 : Shape := ⟨2, ![1024, 3072]⟩
abbrev S64 : Shape := ⟨1, ![64]⟩
abbrev S1x1024 : Shape := ⟨2, ![1, 1024]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2048x1024 : Shape := ⟨2, ![2048, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S512x128 : Shape := ⟨2, ![512, 128]⟩

abbrev nBuf : Space → Nat
  | .hbm => 20
  | .vmem => 16
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S1024x3072, .bf16⟩
  | .hbm, ⟨6, _⟩ => ⟨S1x1024, .f32⟩
  | .hbm, ⟨7, _⟩ => ⟨S1x64, .f32⟩
  | .hbm, ⟨8, _⟩ => ⟨S2x64, .f32⟩
  | .hbm, ⟨9, _⟩ => ⟨S128, .f32⟩
  | .hbm, ⟨10, _⟩ => ⟨S1x128, .f32⟩
  | .hbm, ⟨11, _⟩ => ⟨S1x64, .f32⟩
  | .hbm, ⟨12, _⟩ => ⟨S2x64, .f32⟩
  | .hbm, ⟨13, _⟩ => ⟨S128, .f32⟩
  | .hbm, ⟨14, _⟩ => ⟨S1x128, .f32⟩
  | .hbm, ⟨15, _⟩ => ⟨S2048x1024, .bf16⟩
  | .hbm, ⟨16, _⟩ => ⟨S2048x1024, .f32⟩
  | .hbm, ⟨17, _⟩ => ⟨S2048x1024, .bf16⟩
  | .hbm, ⟨18, _⟩ => ⟨S2048x1024, .f32⟩
  | .hbm, ⟨19, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1x128, .f32⟩
  | .local _ .vmem, ⟨5, _⟩ => ⟨S1x128, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S18432x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev main_v10_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference11Ideal.lean ====
abbrev S18432x1024 : Shape := ⟨2, ![18432, 1024]⟩
abbrev S1024 : Shape := ⟨1, ![1024]⟩
abbrev S1024x3072 : Shape := ⟨2, ![1024, 3072]⟩
abbrev S64 : Shape := ⟨1, ![64]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x3072 : Shape := ⟨2, ![2048, 3072]⟩
abbrev S2048x16x64 : Shape := ⟨3, ![2048, 16, 64]⟩
abbrev S2048x16 : Shape := ⟨2, ![2048, 16]⟩
abbrev S2048x16x1 : Shape := ⟨3, ![2048, 16, 1]⟩
abbrev S1x1x64 : Shape := ⟨3, ![1, 1, 64]⟩

abbrev nBuf : Space → Nat
  | .hbm => 68
  | .vmem => 0
  | .smem => 0
  | _ => 0

abbrev bufTy : (tb : Table) → Fin (tcTables nBuf tb) → BufTy
  | .hbm, ⟨0, _⟩ => ⟨S18432x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S2048x1024, .f32⟩
  | .hbm, ⟨21, _⟩ => ⟨S2048x1024, .f32⟩
  | .hbm, ⟨22, _⟩ => ⟨S2048x3072, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x16x64, .f32⟩
  | .hbm, ⟨27, _⟩ => ⟨S2048x16x64, .f32⟩
  | .hbm, ⟨28, _⟩ => ⟨S_, .f32⟩
  | .hbm, ⟨29, _⟩ => ⟨S2048x16, .f32⟩
  | .hbm, ⟨30, _⟩ => ⟨S2048x16x1, .f32⟩
  | .hbm, ⟨31, _⟩ => ⟨S_, .f32⟩
  | .hbm, ⟨32, _⟩ => ⟨S2048x16x1, .f32⟩
  | .hbm, ⟨33, _⟩ => ⟨S2048x16x1, .f32⟩
  | .hbm, ⟨34, _⟩ => ⟨S_, .f32⟩
  | .hbm, ⟨35, _⟩ => ⟨S2048x16x1, .f32⟩
  | .hbm, ⟨36, _⟩ => ⟨S2048x16x1, .f32⟩
  | .hbm, ⟨37, _⟩ => ⟨S2048x16x1, .f32⟩
  | .hbm, ⟨38, _⟩ => ⟨S2048x16x64, .f32⟩
  | .hbm, ⟨39, _⟩ => ⟨S2048x16x64, .f32⟩
  | .hbm, ⟨40, _⟩ => ⟨S1x1x64, .f32⟩
  | .hbm, ⟨41, _⟩ => ⟨S2048x16x64, .f32⟩
  | .hbm, ⟨42, _⟩ => ⟨S2048x16x64, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S2048x16x64, .f32⟩
  | .hbm, ⟨48, _⟩ => ⟨S2048x16x64, .f32⟩
  | .hbm, ⟨49, _⟩ => ⟨S_, .f32⟩
  | .hbm, ⟨50, _⟩ => ⟨S2048x16, .f32⟩
  | .hbm, ⟨51, _⟩ => ⟨S2048x16x1, .f32⟩
  | .hbm, ⟨52, _⟩ => ⟨S_, .f32⟩
  | .hbm, ⟨53, _⟩ => ⟨S2048x16x1, .f32⟩
  | .hbm, ⟨54, _⟩ => ⟨S2048x16x1, .f32⟩
  | .hbm, ⟨55, _⟩ => ⟨S_, .f32⟩
  | .hbm, ⟨56, _⟩ => ⟨S2048x16x1, .f32⟩
  | .hbm, ⟨57, _⟩ => ⟨S2048x16x1, .f32⟩
  | .hbm, ⟨58, _⟩ => ⟨S2048x16x1, .f32⟩
  | .hbm, ⟨59, _⟩ => ⟨S2048x16x64, .f32⟩
  | .hbm, ⟨60, _⟩ => ⟨S2048x16x64, .f32⟩
  | .hbm, ⟨61, _⟩ => ⟨S1x1x64, .f32⟩
  | .hbm, ⟨62, _⟩ => ⟨S2048x16x64, .f32⟩
  | .hbm, ⟨63, _⟩ => ⟨S2048x16x64, .f32⟩
  | .hbm, ⟨64, _⟩ => ⟨S2048x1024, .f32⟩
  | .hbm, ⟨65, _⟩ => ⟨S2048x1024, .bf16⟩
  | .hbm, ⟨66, _⟩ => ⟨S2048x1024, .bf16⟩
  | .hbm, ⟨67, _⟩ => ⟨S2048x1024, .bf16⟩
  | _, _ => ⟨S18432x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Kernel12.lean ====
abbrev S2048x3200 : Shape := ⟨2, ![2048, 3200]⟩
abbrev S16x512 : Shape := ⟨2, ![16, 512]⟩
abbrev S512 : Shape := ⟨1, ![512]⟩
abbrev S256 : Shape := ⟨1, ![256]⟩
abbrev S32x4x128x256 : Shape := ⟨4, ![32, 4, 128, 256]⟩
abbrev S_ : Shape := ⟨0, ![]⟩
abbrev S128x512 : Shape := ⟨2, ![128, 512]⟩
abbrev S1x512 : Shape := ⟨2, ![1, 512]⟩
abbrev S1x256 : Shape := ⟨2, ![1, 256]⟩
abbrev S32x64x3200 : Shape := ⟨3, ![32, 64, 3200]⟩
abbrev S32x64x1024 : Shape := ⟨3, ![32, 64, 1024]⟩
abbrev S2x64x512 : Shape := ⟨3, ![2, 64, 512]⟩
abbrev S2x64x1024 : Shape := ⟨3, ![2, 64, 1024]⟩
abbrev S2x64x128 : Shape := ⟨3, ![2, 64, 128]⟩
abbrev S2x4x128x256 : Shape := ⟨4, ![2, 4, 128, 256]⟩
abbrev S8x256x128 : Shape := ⟨3, ![8, 256, 128]⟩
abbrev S1x1x128x256 : Shape := ⟨4, ![1, 1, 128, 256]⟩
abbrev S128x256 : Shape := ⟨2, ![128, 256]⟩
abbrev S256x128 : Shape := ⟨2, ![256, 128]⟩
abbrev S1x256x128 : Shape := ⟨3, ![1, 256, 128]⟩
abbrev S64x64 : Shape := ⟨2, ![64, 64]⟩
abbrev S1x64x128 : Shape := ⟨3, ![1, 64, 128]⟩
abbrev S64x128 : Shape := ⟨2, ![64, 128]⟩
abbrev S64x512 : Shape := ⟨2, ![64, 512]⟩
abbrev S1x64x512 : Shape := ⟨3, ![1, 64, 512]⟩
abbrev S1x64x256 : Shape := ⟨3, ![1, 64, 256]⟩
abbrev S64x256 : Shape := ⟨2, ![64, 256]⟩
abbrev S1x128 : Shape := ⟨2, ![1, 128]⟩
abbrev S64 : Shape := ⟨1, ![64]⟩
abbrev S64x1 : Shape := ⟨2, ![64, 1]⟩

abbrev nBuf : Space → Nat
  | .hbm => 14
  | .vmem => 20
  | .smem => 0
  | _ => 0

abbrev bufTy : (tb : Table) → Fin (tcTables nBuf tb) → BufTy
  | .hbm, ⟨0, _⟩ => ⟨S2048x3200, .f32⟩
  | .hbm, ⟨1, _⟩ => ⟨S16x512, .f32⟩
  | .hbm, ⟨2, _⟩ => ⟨S512, .f32⟩
  | .hbm, ⟨3, _⟩ => ⟨S256, .f32⟩
  | .hbm, ⟨4, _⟩ => ⟨S32x4x128x256, .f32⟩
  | .hbm, ⟨5, _⟩ => ⟨S_, .i32⟩
  | .hbm, ⟨6, _⟩ => ⟨S_, .f32⟩
  | .hbm, ⟨7, _⟩ => ⟨S128x512, .f32⟩
  | .hbm, ⟨8, _⟩ => ⟨S128x512, .bf16⟩
  | .hbm, ⟨9, _⟩ => ⟨S1x512, .f32⟩
  | .hbm, ⟨10, _⟩ => ⟨S1x256, .f32⟩
  | .hbm, ⟨11, _⟩ => ⟨S32x64x3200, .f32⟩
  | .hbm, ⟨12, _⟩ => ⟨S32x64x1024, .bf16⟩
  | .hbm, ⟨13, _⟩ => ⟨S32x4x128x256, .f32⟩
  | .local _ .vmem, ⟨0, _⟩ => ⟨S2x64x512, .f32⟩
  | .local _ .vmem, ⟨1, _⟩ => ⟨S2x64x512, .f32⟩
  | .local _ .vmem, ⟨2, _⟩ => ⟨S2x64x512, .f32⟩
  | .local _ .vmem, ⟨3, _⟩ => ⟨S2x64x512, .f32⟩
  | .local _ .vmem, ⟨4, _⟩ => ⟨S2x64x1024, .f32⟩
  | .local _ .vmem, ⟨5, _⟩ => ⟨S2x64x1024, .f32⟩
  | .local _ .vmem, ⟨6, _⟩ => ⟨S2x64x1024, .f32⟩
  | .local _ .vmem, ⟨7, _⟩ => ⟨S2x64x1024, .f32⟩
  | .local _ .vmem, ⟨8, _⟩ => ⟨S2x64x128, .f32⟩
  | .local _ .vmem, ⟨9, _⟩ => ⟨S2x64x128, .f32⟩
  | .local _ .vmem, ⟨10, _⟩ => ⟨S128x512, .bf16⟩
  | .local _ .vmem, ⟨11, _⟩ => ⟨S1x512, .f32⟩
  | .local _ .vmem, ⟨12, _⟩ => ⟨S1x256, .f32⟩
  | .local _ .vmem, ⟨13, _⟩ => ⟨S2x4x128x256, .f32⟩
  | .local _ .vmem, ⟨14, _⟩ => ⟨S2x4x128x256, .f32⟩
  | .local _ .vmem, ⟨15, _⟩ => ⟨S2x64x1024, .bf16⟩
  | .local _ .vmem, ⟨16, _⟩ => ⟨S2x64x1024, .bf16⟩
  | .local _ .vmem, ⟨17, _⟩ => ⟨S2x4x128x256, .f32⟩
  | .local _ .vmem, ⟨18, _⟩ => ⟨S2x4x128x256, .f32⟩
  | .local _ .vmem, ⟨19, _⟩ => ⟨S8x256x128, .f32⟩
  | _, _ => ⟨S2048x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_249 : BitVec 32 := 0#32
  let v542 : BitVec 1 := Scalar.cmpi .eq arg1 c0_i32_249
  let v543 : BitVec 32 := Scalar.extui v542
  let c0_i32_250 : BitVec 32 := 0#32
  let v544 : BitVec 1 := Scalar.cmpi .ne v543 c0_i32_250
  v544

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c24_i32 : BitVec 32 := 24#32
  let c0_i32 : BitVec 32 := 0#32
  ![arg0.toNat, arg1.toNat, c24_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference12Ideal.lean ====
abbrev S2048x3200 : Shape := ⟨2, ![2048, 3200]⟩
abbrev S16x512 : Shape := ⟨2, ![16, 512]⟩
abbrev S512 : Shape := ⟨1, ![512]⟩
abbrev S256 : Shape := ⟨1, ![256]⟩
abbrev S32x4x128x256 : Shape := ⟨4, ![32, 4, 128, 256]⟩
abbrev S32x64x3200 : Shape := ⟨3, ![32, 64, 3200]⟩
abbrev S32x64x512 : Shape := ⟨3, ![32, 64, 512]⟩
abbrev S32x64x1024 : Shape := ⟨3, ![32, 64, 1024]⟩
abbrev S32x64x16 : Shape := ⟨3, ![32, 64, 16]⟩
abbrev S1x1x512 : Shape := ⟨3, ![1, 1, 512]⟩
abbrev S_ : Shape := ⟨0, ![]⟩
abbrev S32x64x4x128 : Shape := ⟨4, ![32, 64, 4, 128]⟩
abbrev S32x64x4x256 : Shape := ⟨4, ![32, 64, 4, 256]⟩
abbrev S32x1x64x4x128 : Shape := ⟨5, ![32, 1, 64, 4, 128]⟩
abbrev S1x32x64x4x128 : Shape := ⟨5, ![1, 32, 64, 4, 128]⟩
abbrev S1x32x4x64x128 : Shape := ⟨5, ![1, 32, 4, 64, 128]⟩
abbrev S32x1x64x4x256 : Shape := ⟨5, ![32, 1, 64, 4, 256]⟩
abbrev S1x32x64x4x256 : Shape := ⟨5, ![1, 32, 64, 4, 256]⟩
abbrev S1x32x4x64x256 : Shape := ⟨5, ![1, 32, 4, 64, 256]⟩
abbrev S1x32x4x1x128 : Shape := ⟨5, ![1, 32, 4, 1, 128]⟩
abbrev S64x64 : Shape := ⟨2, ![64, 64]⟩
abbrev S1x32x4x64x64 : Shape := ⟨5, ![1, 32, 4, 64, 64]⟩
abbrev S1x32x4x128x256 : Shape := ⟨5, ![1, 32, 4, 128, 256]⟩
abbrev S1x32x4x128 : Shape := ⟨4, ![1, 32, 4, 128]⟩
abbrev S32x4x128 : Shape := ⟨3, ![32, 4, 128]⟩
abbrev S32x4x128x1 : Shape := ⟨4, ![32, 4, 128, 1]⟩
abbrev S32x64x4 : Shape := ⟨3, ![32, 64, 4]⟩
abbrev S32x64x4x1 : Shape := ⟨4, ![32, 64, 4, 1]⟩
abbrev S1x1x1x256 : Shape := ⟨4, ![1, 1, 1, 256]⟩

abbrev nBuf : Space → Nat
  | .hbm => 127
  | .vmem => 0
  | .smem => 0
  | _ => 0

abbrev bufTy : (tb : Table) → Fin (tcTables nBuf tb) → BufTy
  | .hbm, ⟨0, _⟩ => ⟨S2048x3200, .f32⟩
  | .hbm, ⟨1, _⟩ => ⟨S16x512, .f32⟩
  | .hbm, ⟨2, _⟩ => ⟨S512, .f32⟩
  | .hbm, ⟨3, _⟩ => ⟨S256, .f32⟩
  | .hbm, ⟨4, _⟩ => ⟨S32x4x128x256, .f32⟩
  | .hbm, ⟨5, _⟩ => ⟨S32x64x3200, .f32⟩
  | .hbm, ⟨6, _⟩ => ⟨S32x64x512, .f32⟩
  | .hbm, ⟨7, _⟩ => ⟨S32x64x512, .f32⟩
  | .hbm, ⟨8, _⟩ => ⟨S32x64x1024, .f32⟩
  | .hbm, ⟨9, _⟩ => ⟨S32x64x16, .f32⟩
  | .hbm, ⟨10, _⟩ => ⟨S32x64x512, .f32⟩
  | .hbm, ⟨11, _⟩ => ⟨S1x1x512, .f32⟩
  | .hbm, ⟨12, _⟩ => ⟨S32x64x512, .f32⟩
  | .hbm, ⟨13, _⟩ => ⟨S32x64x512, .f32⟩
  | .hbm, ⟨14, _⟩ => ⟨S32x64x512, .f32⟩
  | .hbm, ⟨15, _⟩ => ⟨S_, .f32⟩
  | .hbm, ⟨16, _⟩ => ⟨S32x64x512, .f32⟩
  | .hbm, ⟨17, _⟩ => ⟨S32x64x512, .f32⟩
  | .hbm, ⟨18, _⟩ => ⟨S32x64x512, .f32⟩
  | .hbm, ⟨19, _⟩ => ⟨S32x64x512, .f32⟩
  | .hbm, ⟨20, _⟩ => ⟨S32x64x512, .i1⟩
  | .hbm, ⟨21, _⟩ => ⟨S32x64x512, .f32⟩
  | .hbm, ⟨22, _⟩ => ⟨S32x64x512, .f32⟩
  | .hbm, ⟨23, _⟩ => ⟨S32x64x512, .f32⟩
  | .hbm, ⟨24, _⟩ => ⟨S32x64x512, .f32⟩
  | .hbm, ⟨25, _⟩ => ⟨S32x64x512, .f32⟩
  | .hbm, ⟨26, _⟩ => ⟨S32x64x512, .f32⟩
  | .hbm, ⟨27, _⟩ => ⟨S32x64x512, .f32⟩
  | .hbm, ⟨28, _⟩ => ⟨S32x64x512, .f32⟩
  | .hbm, ⟨29, _⟩ => ⟨S32x64x512, .f32⟩
  | .hbm, ⟨30, _⟩ => ⟨S_, .f32⟩
  | .hbm, ⟨31, _⟩ => ⟨S32x64x512, .f32⟩
  | .hbm, ⟨32, _⟩ => ⟨S32x64x512, .f32⟩
  | .hbm, ⟨33, _⟩ => ⟨S32x64x4x128, .f32⟩
  | .hbm, ⟨34, _⟩ => ⟨S_, .f32⟩
  | .hbm, ⟨35, _⟩ => ⟨S32x64x4x128, .f32⟩
  | .hbm, ⟨36, _⟩ => ⟨S32x64x4x128, .f32⟩
  | .hbm, ⟨37, _⟩ => ⟨S32x64x4x128, .f32⟩
  | .hbm, ⟨38, _⟩ => ⟨S32x64x4x256, .f32⟩
  | .hbm, ⟨39, _⟩ => ⟨S32x64x4x128, .f32⟩
  | .hbm, ⟨40, _⟩ => ⟨S32x1x64x4x128, .f32⟩
  | .hbm, ⟨41, _⟩ => ⟨S1x32x64x4x128, .f32⟩
  | .hbm, ⟨42, _⟩ => ⟨S1x32x4x64x128, .f32⟩
  | .hbm, ⟨43, _⟩ => ⟨S32x1x64x4x128, .f32⟩
  | .hbm, ⟨44, _⟩ => ⟨S1x32x64x4x128, .f32⟩
  | .hbm, ⟨45, _⟩ => ⟨S1x32x4x64x128, .f32⟩
  | .hbm, ⟨46, _⟩ => ⟨S32x1x64x4x256, .f32⟩
  | .hbm, ⟨47, _⟩ => ⟨S1x32x64x4x256, .f32⟩
  | .hbm, ⟨48, _⟩ => ⟨S1x32x4x64x256, .f32⟩
  | .hbm, ⟨49, _⟩ => ⟨S32x1x64x4x128, .f32⟩
  | .hbm, ⟨50, _⟩ => ⟨S1x32x64x4x128, .f32⟩
  | .hbm, ⟨51, _⟩ => ⟨S1x32x4x64x128, .f32⟩
  | .hbm, ⟨52, _⟩ => ⟨S_, .f32⟩
  | .hbm, ⟨53, _⟩ => ⟨S_, .f32⟩
  | .hbm, ⟨54, _⟩ => ⟨S1x32x4x64x128, .f32⟩
  | .hbm, ⟨55, _⟩ => ⟨S1x32x4x1x128, .f32⟩
  | .hbm, ⟨56, _⟩ => ⟨S1x32x4x64x128, .f32⟩
  | .hbm, ⟨57, _⟩ => ⟨S1x32x4x64x128, .f32⟩
  | .hbm, ⟨58, _⟩ => ⟨S1x32x4x64x128, .f32⟩
  | .hbm, ⟨59, _⟩ => ⟨S1x32x4x64x128, .f32⟩
  | .hbm, ⟨60, _⟩ => ⟨S1x32x4x64x128, .f32⟩
  | .hbm, ⟨61, _⟩ => ⟨S1x32x4x64x128, .f32⟩
  | .hbm, ⟨62, _⟩ => ⟨S1x32x4x64x128, .f32⟩
  | .hbm, ⟨63, _⟩ => ⟨S1x32x4x64x128, .f32⟩
  | .hbm, ⟨64, _⟩ => ⟨S1x32x4x64x128, .f32⟩
  | .hbm, ⟨65, _⟩ => ⟨S_, .i1⟩
  | .hbm, ⟨66, _⟩ => ⟨S64x64, .i1⟩
  | .hbm, ⟨67, _⟩ => ⟨S64x64, .i32⟩
  | .hbm, ⟨68, _⟩ => ⟨S_, .i32⟩
  | .hbm, ⟨69, _⟩ => ⟨S64x64, .i32⟩
  | .hbm, ⟨70, _⟩ => ⟨S64x64, .i32⟩
  | .hbm, ⟨71, _⟩ => ⟨S64x64, .i32⟩
  | .hbm, ⟨72, _⟩ => ⟨S64x64, .i1⟩
  | .hbm, ⟨73, _⟩ => ⟨S_, .i1⟩
  | .hbm, ⟨74, _⟩ => ⟨S64x64, .i1⟩
  | .hbm, ⟨75, _⟩ => ⟨S64x64, .i1⟩
  | .hbm, ⟨76, _⟩ => ⟨S1x32x4x64x64, .f32⟩
  | .hbm, ⟨77, _⟩ => ⟨S_, .f32⟩
  | .hbm, ⟨78, _⟩ => ⟨S_, .f32⟩
  | .hbm, ⟨79, _⟩ => ⟨S1x32x4x64x64, .i1⟩
  | .hbm, ⟨80, _⟩ => ⟨S1x32x4x64x64, .f32⟩
  | .hbm, ⟨81, _⟩ => ⟨S1x32x4x64x64, .f32⟩
  | .hbm, ⟨82, _⟩ => ⟨S1x32x4x64x256, .f32⟩
  | .hbm, ⟨83, _⟩ => ⟨S1x32x4x128x256, .f32⟩
  | .hbm, ⟨84, _⟩ => ⟨S1x32x4x128, .f32⟩
  | .hbm, ⟨85, _⟩ => ⟨S1x32x4x128, .f32⟩
  | .hbm, ⟨86, _⟩ => ⟨S32x4x128, .f32⟩
  | .hbm, ⟨87, _⟩ => ⟨S32x4x128x1, .f32⟩
  | .hbm, ⟨88, _⟩ => ⟨S32x4x128x256, .f32⟩
  | .hbm, ⟨89, _⟩ => ⟨S32x4x128x256, .f32⟩
  | .hbm, ⟨90, _⟩ => ⟨S32x4x128x256, .f32⟩
  | .hbm, ⟨91, _⟩ => ⟨S32x4x128x256, .f32⟩
  | .hbm, ⟨92, _⟩ => ⟨S1x32x4x128x256, .f32⟩
  | .hbm, ⟨93, _⟩ => ⟨S1x32x4x64x256, .f32⟩
  | .hbm, ⟨94, _⟩ => ⟨S1x32x4x64x256, .f32⟩
  | .hbm, ⟨95, _⟩ => ⟨S1x32x64x4x256, .f32⟩
  | .hbm, ⟨96, _⟩ => ⟨S32x1x64x4x256, .f32⟩
  | .hbm, ⟨97, _⟩ => ⟨S32x64x4x256, .f32⟩
  | .hbm, ⟨98, _⟩ => ⟨S32x64x1024, .f32⟩
  | .hbm, ⟨99, _⟩ => ⟨S32x64x4x256, .f32⟩
  | .hbm, ⟨100, _⟩ => ⟨S_, .f32⟩
  | .hbm, ⟨101, _⟩ => ⟨S32x64x4, .f32⟩
  | .hbm, ⟨102, _⟩ => ⟨S32x64x4x1, .f32⟩
  | .hbm, ⟨103, _⟩ => ⟨S_, .f32⟩
  | .hbm, ⟨104, _⟩ => ⟨S32x64x4x1, .f32⟩
  | .hbm, ⟨105, _⟩ => ⟨S32x64x4x1, .f32⟩
  | .hbm, ⟨106, _⟩ => ⟨S_, .f32⟩
  | .hbm, ⟨107, _⟩ => ⟨S32x64x4x1, .f32⟩
  | .hbm, ⟨108, _⟩ => ⟨S32x64x4x1, .f32⟩
  | .hbm, ⟨109, _⟩ => ⟨S32x64x4x1, .f32⟩
  | .hbm, ⟨110, _⟩ => ⟨S32x64x4x256, .f32⟩
  | .hbm, ⟨111, _⟩ => ⟨S32x64x4x256, .f32⟩
  | .hbm, ⟨112, _⟩ => ⟨S1x1x1x256, .f32⟩
  | .hbm, ⟨113, _⟩ => ⟨S32x64x4x256, .f32⟩
  | .hbm, ⟨114, _⟩ => ⟨S32x64x4x256, .f32⟩
  | .hbm, ⟨115, _⟩ => ⟨S32x64x1024, .f32⟩
  | .hbm, ⟨116, _⟩ => ⟨S32x64x1024, .f32⟩
  | .hbm, ⟨117, _⟩ => ⟨S32x64x1024, .f32⟩
  | .hbm, ⟨118, _⟩ => ⟨S_, .f32⟩
  | .hbm, ⟨119, _⟩ => ⟨S32x64x1024, .f32⟩
  | .hbm, ⟨120, _⟩ => ⟨S32x64x1024, .f32⟩
  | .hbm, ⟨121, _⟩ => ⟨S_, .f32⟩
  | .hbm, ⟨122, _⟩ => ⟨S32x64x1024, .f32⟩
  | .hbm, ⟨123, _⟩ => ⟨S32x64x1024, .f32⟩
  | .hbm, ⟨124, _⟩ => ⟨S32x64x1024, .f32⟩
  | .hbm, ⟨125, _⟩ => ⟨S32x64x1024, .f32⟩
  | .hbm, ⟨126, _⟩ => ⟨S32x64x1024, .bf16⟩
  | _, _ => ⟨S2048x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_0 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call1_call0_cst : Ref sig .tc := ⟨.hbm, 52, rfl⟩
abbrev main_call1_call0_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c : Ref sig .tc := ⟨.hbm, 65, rfl⟩
abbrev main_v43 : Ref sig .tc := ⟨.hbm, 66, rfl⟩
abbrev main_call2_v0 : Ref sig .tc := ⟨.hbm, 67, rfl⟩
abbrev main_call2_c : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_c_0 : Ref sig .tc := ⟨.hbm, 73, rfl⟩
abbrev main_call2_v5 : Ref sig .tc := ⟨.hbm, 74, rfl⟩
abbrev main_v44 : Ref sig .tc := ⟨.hbm, 75, rfl⟩
abbrev main_v45 : Ref sig .tc := ⟨.hbm, 76, rfl⟩
abbrev main_cst_1 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_2 : Ref sig .tc := ⟨.hbm, 100, rfl⟩
abbrev main_v65 : Ref sig .tc := ⟨.hbm, 101, rfl⟩
abbrev main_v66 : Ref sig .tc := ⟨.hbm, 102, rfl⟩
abbrev main_cst_3 : Ref sig .tc := ⟨.hbm, 103, rfl⟩
abbrev main_v67 : Ref sig .tc := ⟨.hbm, 104, rfl⟩
abbrev main_v68 : Ref sig .tc := ⟨.hbm, 105, rfl⟩
abbrev main_cst_4 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_call4_v0 : Ref sig .tc := ⟨.hbm, 116, rfl⟩
abbrev main_call4_v1 : Ref sig .tc := ⟨.hbm, 117, rfl⟩
abbrev main_call4_cst : Ref sig .tc := ⟨.hbm, 118, rfl⟩
abbrev main_call4_v2 : Ref sig .tc := ⟨.hbm, 119, rfl⟩
abbrev main_call4_v3 : Ref sig .tc := ⟨.hbm, 120, rfl⟩
abbrev main_call4_cst_0 : Ref sig .tc := ⟨.hbm, 121, rfl⟩
abbrev main_call4_v4 : Ref sig .tc := ⟨.hbm, 122, rfl⟩
abbrev main_call4_v5 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩

abbrev nD : Nat := 1
abbrev τ : Topo := Topo.v7x

variable {F : FTy → Type} [FloatOps F]
-- ==== Kernel13.lean ====
abbrev S2048x1024 : Shape := ⟨2, ![2048, 1024]⟩
abbrev S32x512x16x64 : Shape := ⟨4, ![32, 512, 16, 64]⟩
abbrev S8x128x576 : Shape := ⟨3, ![8, 128, 576]⟩
abbrev S32x512x1024 : Shape := ⟨3, ![32, 512, 1024]⟩
abbrev S64x1024 : Shape := ⟨2, ![64, 1024]⟩
abbrev S1x512x1024 : Shape := ⟨3, ![1, 512, 1024]⟩
abbrev S576x1024 : Shape := ⟨2, ![576, 1024]⟩
abbrev S512x1024 : Shape := ⟨2, ![512, 1024]⟩
abbrev S64x128 : Shape := ⟨2, ![64, 128]⟩
abbrev S128x128 : Shape := ⟨2, ![128, 128]⟩
abbrev S576x128 : Shape := ⟨2, ![576, 128]⟩
abbrev S128x576 : Shape := ⟨2, ![128, 576]⟩
abbrev S1x128x576 : Shape := ⟨3, ![1, 128, 576]⟩
abbrev S128 : Shape := ⟨1, ![128]⟩
abbrev S128x1 : Shape := ⟨2, ![128, 1]⟩

abbrev nBuf : Space → Nat
  | .hbm => 9
  | .vmem => 15
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S32x512x16x64, .f32⟩
  | .hbm, ⟨4, _⟩ => ⟨S32x512x16x64, .f32⟩
  | .hbm, ⟨5, _⟩ => ⟨S8x128x576, .f32⟩
  | .hbm, ⟨6, _⟩ => ⟨S32x512x1024, .f32⟩
  | .hbm, ⟨7, _⟩ => ⟨S32x512x1024, .f32⟩
  | .hbm, ⟨8, _⟩ => ⟨S2048x1024, .bf16⟩
  | .local _ .vmem, ⟨0, _⟩ => ⟨S64x1024, .bf16⟩
  | .local _ .vmem, ⟨1, _⟩ => ⟨S64x1024, .bf16⟩
  | .local _ .vmem, ⟨2, _⟩ => ⟨S1x512x1024, .f32⟩
  | .local _ .vmem, ⟨3, _⟩ => ⟨S1x512x1024, .f32⟩
  | .local _ .vmem, ⟨4, _⟩ => ⟨S64x1024, .bf16⟩
  | .local _ .vmem, ⟨5, _⟩ => ⟨S64x1024, .bf16⟩
  | .local _ .vmem, ⟨6, _⟩ => ⟨S1x512x1024, .f32⟩
  | .local _ .vmem, ⟨7, _⟩ => ⟨S1x512x1024, .f32⟩
  | .local _ .vmem, ⟨8, _⟩ => ⟨S64x1024, .bf16⟩
  | .local _ .vmem, ⟨9, _⟩ => ⟨S64x1024, .bf16⟩
  | .local _ .vmem, ⟨10, _⟩ => ⟨S8x128x576, .f32⟩
  | .local _ .vmem, ⟨11, _⟩ => ⟨S64x1024, .bf16⟩
  | .local _ .vmem, ⟨12, _⟩ => ⟨S64x1024, .bf16⟩
  | .local _ .vmem, ⟨13, _⟩ => ⟨S576x1024, .bf16⟩
  | .local _ .vmem, ⟨14, _⟩ => ⟨S576x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c64_i32 : BitVec 32 := 64#32
  let v20 : BitVec 32 := Scalar.muli c0_i32 c64_i32
  v20
def k0_off1 : Fin 2 → Nat :=
  let c0_i32 : BitVec 32 := 0#32
  let c64_i32 : BitVec 32 := 64#32
  let v20 : BitVec 32 := Scalar.muli c0_i32 c64_i32
  let v21 : BitVec 32 := v20
  let v22 : Index := Scalar.indexCast v21
  let c0_16 : Index := 0#32
  ![v22.toNat, 0]
def k0_off2 : Fin 2 → Nat :=
  let c0_i32 : BitVec 32 := 0#32
  let c64_i32 : BitVec 32 := 64#32
  let v20 : BitVec 32 := Scalar.muli c0_i32 c64_i32
  let v21 : BitVec 32 := v20
  let v34 : Index := Scalar.indexCast v21
  let c128 : Index := 128#32
  ![v34.toNat, 128]
def k0_off3 : Fin 2 → Nat :=
  let c0_i32 : BitVec 32 := 0#32
  let c64_i32 : BitVec 32 := 64#32
  let v20 : BitVec 32 := Scalar.muli c0_i32 c64_i32
  let v21 : BitVec 32 := v20
  let v46 : Index := Scalar.indexCast v21
  let c256 : Index := 256#32
  ![v46.toNat, 256]
def k0_off4 : Fin 2 → Nat :=
  let c0_i32 : BitVec 32 := 0#32
  let c64_i32 : BitVec 32 := 64#32
  let v20 : BitVec 32 := Scalar.muli c0_i32 c64_i32
  let v21 : BitVec 32 := v20
  let v58 : Index := Scalar.indexCast v21
  let c384 : Index := 384#32
  ![v58.toNat, 384]
def k0_off5 : Fin 2 → Nat :=
  let c0_i32 : BitVec 32 := 0#32
  let c64_i32 : BitVec 32 := 64#32
  let v20 : BitVec 32 := Scalar.muli c0_i32 c64_i32
  let v21 : BitVec 32 := v20
  let v70 : Index := Scalar.indexCast v21
  let c512_29 : Index := 512#32
  ![v70.toNat, 512]
def k0_off6 : Fin 2 → Nat :=
  let c0_i32 : BitVec 32 := 0#32
  let c64_i32 : BitVec 32 := 64#32
  let v20 : BitVec 32 := Scalar.muli c0_i32 c64_i32
  let v21 : BitVec 32 := v20
  let v82 : Index := Scalar.indexCast v21
  let c640 : Index := 640#32
  ![v82.toNat, 640]
def k0_off7 : Fin 2 → Nat :=
  let c0_i32 : BitVec 32 := 0#32
  let c64_i32 : BitVec 32 := 64#32
  let v20 : BitVec 32 := Scalar.muli c0_i32 c64_i32
  let v21 : BitVec 32 := v20
  let v94 : Index := Scalar.indexCast v21
  let c768 : Index := 768#32
  ![v94.toNat, 768]
def k0_off8 : Fin 2 → Nat :=
  let c0_i32 : BitVec 32 := 0#32
  let c64_i32 : BitVec 32 := 64#32
  let v20 : BitVec 32 := Scalar.muli c0_i32 c64_i32
  let v21 : BitVec 32 := v20
  let v106 : Index := Scalar.indexCast v21
  let c896 : Index := 896#32
  ![v106.toNat, 896]
def k0_off9 : Fin 2 → Nat :=
  let c0_i32 : BitVec 32 := 0#32
  let c64_i32 : BitVec 32 := 64#32
  let v20 : BitVec 32 := Scalar.muli c0_i32 c64_i32
  let v21 : BitVec 32 := v20
  let v118 : Index := Scalar.indexCast v21
  let c0_42 : Index := 0#32
  ![v118.toNat, 0]
def k0_off10 : Fin 2 → Nat :=
  let c0_i32 : BitVec 32 := 0#32
  let c64_i32 : BitVec 32 := 64#32
  let v20 : BitVec 32 := Scalar.muli c0_i32 c64_i32
  let v21 : BitVec 32 := v20
  let v124 : Index := Scalar.indexCast v21
  let c128_46 : Index := 128#32
  ![v124.toNat, 128]
def k0_off11 : Fin 2 → Nat :=
  let c0_i32 : BitVec 32 := 0#32
  let c64_i32 : BitVec 32 := 64#32
  let v20 : BitVec 32 := Scalar.muli c0_i32 c64_i32
  let v21 : BitVec 32 := v20
  let v130 : Index := Scalar.indexCast v21
  let c256_50 : Index := 256#32
  ![v130.toNat, 256]
def k0_off12 : Fin 2 → Nat :=
  let c0_i32 : BitVec 32 := 0#32
  let c64_i32 : BitVec 32 := 64#32
  let v20 : BitVec 32 := Scalar.muli c0_i32 c64_i32
  let v21 : BitVec 32 := v20
  let v136 : Index := Scalar.indexCast v21
  let c384_54 : Index := 384#32
  ![v136.toNat, 384]
def k0_off13 : Fin 2 → Nat :=
  let c0_i32 : BitVec 32 := 0#32
  let c64_i32 : BitVec 32 := 64#32
  let v20 : BitVec 32 := Scalar.muli c0_i32 c64_i32
  let v21 : BitVec 32 := v20
  let v142 : Index := Scalar.indexCast v21
  let c512_58 : Index := 512#32
  ![v142.toNat, 512]
def k0_off14 : Fin 2 → Nat :=
  let c0_i32 : BitVec 32 := 0#32
  let c64_i32 : BitVec 32 := 64#32
  let v20 : BitVec 32 := Scalar.muli c0_i32 c64_i32
  let v21 : BitVec 32 := v20
  let v148 : Index := Scalar.indexCast v21
  let c640_62 : Index := 640#32
  ![v148.toNat, 640]
def k0_off15 : Fin 2 → Nat :=
  let c0_i32 : BitVec 32 := 0#32
  let c64_i32 : BitVec 32 := 64#32
  let v20 : BitVec 32 := Scalar.muli c0_i32 c64_i32
  let v21 : BitVec 32 := v20
  let v154 : Index := Scalar.indexCast v21
  let c768_66 : Index := 768#32
  ![v154.toNat, 768]
def k0_off16 : Fin 2 → Nat :=
  let c0_i32 : BitVec 32 := 0#32
  let c64_i32 : BitVec 32 := 64#32
  let v20 : BitVec 32 := Scalar.muli c0_i32 c64_i32
  let v21 : BitVec 32 := v20
  let v160 : Index := Scalar.indexCast v21
  let c896_70 : Index := 896#32
  ![v160.toNat, 896]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x128x576 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S2048x1024 : Shape := ⟨2, ![2048, 1024]⟩
abbrev S32x512x16x64 : Shape := ⟨4, ![32, 512, 16, 64]⟩
abbrev S8x128x576 : Shape := ⟨3, ![8, 128, 576]⟩
abbrev S32x64x16x64 : Shape := ⟨4, ![32, 64, 16, 64]⟩
abbrev S32x576x16x64 : Shape := ⟨4, ![32, 576, 16, 64]⟩
abbrev S512 : Shape := ⟨1, ![512]⟩
abbrev S_ : Shape := ⟨0, ![]⟩
abbrev S64 : Shape := ⟨1, ![64]⟩
abbrev S576 : Shape := ⟨1, ![576]⟩
abbrev S16x64x576 : Shape := ⟨3, ![16, 64, 576]⟩
abbrev S32x16x64x576 : Shape := ⟨4, ![32, 16, 64, 576]⟩
abbrev S1x16x64x576 : Shape := ⟨4, ![1, 16, 64, 576]⟩
abbrev S1x576 : Shape := ⟨2, ![1, 576]⟩
abbrev S64x1 : Shape := ⟨2, ![64, 1]⟩
abbrev S64x576 : Shape := ⟨2, ![64, 576]⟩
abbrev S1x1x64x576 : Shape := ⟨4, ![1, 1, 64, 576]⟩
abbrev S32x16x64 : Shape := ⟨3, ![32, 16, 64]⟩
abbrev S32x16x64x1 : Shape := ⟨4, ![32, 16, 64, 1]⟩
abbrev S32x16x64x64 : Shape := ⟨4, ![32, 16, 64, 64]⟩

abbrev nBuf : Space → Nat
  | .hbm => 112
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .bf16⟩
  | .hbm, ⟨3, _⟩ => ⟨S32x512x16x64, .f32⟩
  | .hbm, ⟨4, _⟩ => ⟨S32x512x16x64, .f32⟩
  | .hbm, ⟨5, _⟩ => ⟨S8x128x576, .f32⟩
  | .hbm, ⟨6, _⟩ => ⟨S32x64x16x64, .bf16⟩
  | .hbm, ⟨7, _⟩ => ⟨S32x64x16x64, .f32⟩
  | .hbm, ⟨8, _⟩ => ⟨S32x576x16x64, .f32⟩
  | .hbm, ⟨9, _⟩ => ⟨S32x64x16x64, .bf16⟩
  | .hbm, ⟨10, _⟩ => ⟨S32x64x16x64, .f32⟩
  | .hbm, ⟨11, _⟩ => ⟨S32x576x16x64, .f32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i32⟩
  | .hbm, ⟨16, _⟩ => ⟨S64, .i32⟩
  | .hbm, ⟨17, _⟩ => ⟨S_, .i32⟩
  | .hbm, ⟨18, _⟩ => ⟨S64, .i32⟩
  | .hbm, ⟨19, _⟩ => ⟨S64, .i32⟩
  | .hbm, ⟨20, _⟩ => ⟨S576, .i32⟩
  | .hbm, ⟨21, _⟩ => ⟨S32x64x16x64, .bf16⟩
  | .hbm, ⟨22, _⟩ => ⟨S32x64x16x64, .f32⟩
  | .hbm, ⟨23, _⟩ => ⟨S64, .i32⟩
  | .hbm, ⟨24, _⟩ => ⟨S_, .i32⟩
  | .hbm, ⟨25, _⟩ => ⟨S64, .i32⟩
  | .hbm, ⟨26, _⟩ => ⟨S64, .i32⟩
  | .hbm, ⟨27, _⟩ => ⟨S16x64x576, .f32⟩
  | .hbm, ⟨28, _⟩ => ⟨S32x16x64x576, .f32⟩
  | .hbm, ⟨29, _⟩ => ⟨S1x16x64x576, .f32⟩
  | .hbm, ⟨30, _⟩ => ⟨S32x16x64x576, .f32⟩
  | .hbm, ⟨31, _⟩ => ⟨S32x16x64x576, .f32⟩
  | .hbm, ⟨32, _⟩ => ⟨S_, .i32⟩
  | .hbm, ⟨33, _⟩ => ⟨S_, .i32⟩
  | .hbm, ⟨34, _⟩ => ⟨S64, .i32⟩
  | .hbm, ⟨35, _⟩ => ⟨S64, .i32⟩
  | .hbm, ⟨36, _⟩ => ⟨S64, .i32⟩
  | .hbm, ⟨37, _⟩ => ⟨S_, .i32⟩
  | .hbm, ⟨38, _⟩ => ⟨S64, .i32⟩
  | .hbm, ⟨39, _⟩ => ⟨S64, .i1⟩
  | .hbm, ⟨40, _⟩ => ⟨S64, .i32⟩
  | .hbm, ⟨41, _⟩ => ⟨S64, .i32⟩
  | .hbm, ⟨42, _⟩ => ⟨S_, .i32⟩
  | .hbm, ⟨43, _⟩ => ⟨S64, .i32⟩
  | .hbm, ⟨44, _⟩ => ⟨S64, .i1⟩
  | .hbm, ⟨45, _⟩ => ⟨S64, .i1⟩
  | .hbm, ⟨46, _⟩ => ⟨S_, .i32⟩
  | .hbm, ⟨47, _⟩ => ⟨S64, .i32⟩
  | .hbm, ⟨48, _⟩ => ⟨S64, .i32⟩
  | .hbm, ⟨49, _⟩ => ⟨S64, .i32⟩
  | .hbm, ⟨50, _⟩ => ⟨S_, .i32⟩
  | .hbm, ⟨51, _⟩ => ⟨S_, .i32⟩
  | .hbm, ⟨52, _⟩ => ⟨S576, .i32⟩
  | .hbm, ⟨53, _⟩ => ⟨S576, .i32⟩
  | .hbm, ⟨54, _⟩ => ⟨S576, .i32⟩
  | .hbm, ⟨55, _⟩ => ⟨S_, .i32⟩
  | .hbm, ⟨56, _⟩ => ⟨S576, .i32⟩
  | .hbm, ⟨57, _⟩ => ⟨S576, .i1⟩
  | .hbm, ⟨58, _⟩ => ⟨S576, .i32⟩
  | .hbm, ⟨59, _⟩ => ⟨S576, .i32⟩
  | .hbm, ⟨60, _⟩ => ⟨S_, .i32⟩
  | .hbm, ⟨61, _⟩ => ⟨S576, .i32⟩
  | .hbm, ⟨62, _⟩ => ⟨S576, .i1⟩
  | .hbm, ⟨63, _⟩ => ⟨S576, .i1⟩
  | .hbm, ⟨64, _⟩ => ⟨S_, .i32⟩
  | .hbm, ⟨65, _⟩ => ⟨S576, .i32⟩
  | .hbm, ⟨66, _⟩ => ⟨S576, .i32⟩
  | .hbm, ⟨67, _⟩ => ⟨S576, .i32⟩
  | .hbm, ⟨68, _⟩ => ⟨S1x576, .i32⟩
  | .hbm, ⟨69, _⟩ => ⟨S_, .i32⟩
  | .hbm, ⟨70, _⟩ => ⟨S1x576, .i32⟩
  | .hbm, ⟨71, _⟩ => ⟨S1x576, .i1⟩
  | .hbm, ⟨72, _⟩ => ⟨S1x576, .i32⟩
  | .hbm, ⟨73, _⟩ => ⟨S64x1, .i32⟩
  | .hbm, ⟨74, _⟩ => ⟨S64x576, .i32⟩
  | .hbm, ⟨75, _⟩ => ⟨S64x576, .i32⟩
  | .hbm, ⟨76, _⟩ => ⟨S64x576, .i1⟩
  | .hbm, ⟨77, _⟩ => ⟨S64x576, .i1⟩
  | .hbm, ⟨78, _⟩ => ⟨S64x576, .i1⟩
  | .hbm, ⟨79, _⟩ => ⟨S1x576, .i32⟩
  | .hbm, ⟨80, _⟩ => ⟨S64x1, .i32⟩
  | .hbm, ⟨81, _⟩ => ⟨S_, .i32⟩
  | .hbm, ⟨82, _⟩ => ⟨S64x1, .i32⟩
  | .hbm, ⟨83, _⟩ => ⟨S64x1, .i32⟩
  | .hbm, ⟨84, _⟩ => ⟨S64x576, .i32⟩
  | .hbm, ⟨85, _⟩ => ⟨S64x576, .i32⟩
  | .hbm, ⟨86, _⟩ => ⟨S64x576, .i1⟩
  | .hbm, ⟨87, _⟩ => ⟨S64x576, .i1⟩
  | .hbm, ⟨88, _⟩ => ⟨S1x1x64x576, .i1⟩
  | .hbm, ⟨89, _⟩ => ⟨S_, .f32⟩
  | .hbm, ⟨90, _⟩ => ⟨S_, .f32⟩
  | .hbm, ⟨91, _⟩ => ⟨S32x16x64x576, .i1⟩
  | .hbm, ⟨92, _⟩ => ⟨S32x16x64x576, .f32⟩
  | .hbm, ⟨93, _⟩ => ⟨S32x16x64x576, .f32⟩
  | .hbm, ⟨94, _⟩ => ⟨S_, .f32⟩
  | .hbm, ⟨95, _⟩ => ⟨S32x16x64, .f32⟩
  | .hbm, ⟨96, _⟩ => ⟨S_, .f32⟩
  | .hbm, ⟨97, _⟩ => ⟨S32x16x64, .f32⟩
  | .hbm, ⟨98, _⟩ => ⟨S32x16x64, .f32⟩
  | .hbm, ⟨99, _⟩ => ⟨S32x16x64x1, .f32⟩
  | .hbm, ⟨100, _⟩ => ⟨S32x16x64x576, .f32⟩
  | .hbm, ⟨101, _⟩ => ⟨S32x16x64x576, .f32⟩
  | .hbm, ⟨102, _⟩ => ⟨S32x16x64x576, .f32⟩
  | .hbm, ⟨103, _⟩ => ⟨S_, .f32⟩
  | .hbm, ⟨104, _⟩ => ⟨S32x16x64, .f32⟩
  | .hbm, ⟨105, _⟩ => ⟨S32x16x64x1, .f32⟩
  | .hbm, ⟨106, _⟩ => ⟨S32x16x64x576, .f32⟩
  | .hbm, ⟨107, _⟩ => ⟨S32x16x64x576, .f32⟩
  | .hbm, ⟨108, _⟩ => ⟨S32x16x64x64, .f32⟩
  | .hbm, ⟨109, _⟩ => ⟨S32x64x16x64, .f32⟩
  | .hbm, ⟨110, _⟩ => ⟨S2048x1024, .f32⟩
  | .hbm, ⟨111, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v23 : Ref sig .tc := ⟨.hbm, 49, rfl⟩
abbrev main_c_3 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_0 : Ref sig .tc := ⟨.hbm, 64, rfl⟩
abbrev main_call1_v12 : Ref sig .tc := ⟨.hbm, 65, rfl⟩
abbrev main_call1_v13 : Ref sig .tc := ⟨.hbm, 66, rfl⟩
abbrev main_v24 : Ref sig .tc := ⟨.hbm, 67, rfl⟩
abbrev main_v25 : Ref sig .tc := ⟨.hbm, 68, rfl⟩
abbrev main_c_4 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_c_5 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_cst : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_v44 : Ref sig .tc := ⟨.hbm, 93, rfl⟩
abbrev main_cst_6 : Ref sig .tc := ⟨.hbm, 94, rfl⟩
abbrev main_v45 : Ref sig .tc := ⟨.hbm, 95, rfl⟩
abbrev main_cst_7 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_cst_8 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩

abbrev nD : Nat := 1
abbrev τ : Topo := Topo.v7x

variable {F : FTy → Type} [FloatOps F]
-- ==== Proof.Ffn.lean ====
/- One row of the feed-forward half step, as a formula over the extended reals. -/
module

public import Idealize.ShloMosaic.PureOps.Ideal
public import Idealize.ShloMosaic.Lib.Pointwise
public import Idealize.ShloMosaic.Lib.ValueIdx
public import Idealize.ShloMosaic.Lib.Claim

@[expose] public section

noncomputable section

namespace Cert.Ffn

open Idealize.ShloMosaic
open scoped BigOperators

variable (x n : Fin 1024 → EReal) (wg wu : Fin 1024 → Fin 2816 → EReal) (wd : Fin 2816 → Fin 1024 → EReal)

/-- The row scaled to mean square one, times the gain `n`. -/
def normed (k : Fin 1024) : EReal :=
  x k * Ideal.rsqrt (Ideal.div (∑ j, x j * x j) (Ideal.ofBits .f32 0x44800000#32) + Ideal.ofBits .f32 0x358637BD#32) * n k

/-- A hidden unit: the gate's unit through `silu`, times the other unit. -/
def hidden (f : Fin 2816) : EReal :=
  ((∑ k, normed x n k * wg k f) * Ideal.div 1 (1 + Ideal.exp (0 - ∑ k, normed x n k * wg k f))) * ∑ k, normed x n k * wu k f

/-- The row plus half the feed-forward part's output. -/
def half (j : Fin 1024) : EReal :=
  x j + Ideal.ofBits .f32 0x3F000000#32 * ∑ f, hidden x n wg wu f * wd f j

variable {x n wg wu wd} in
/-- The half step depends on its entries only. -/
theorem half_congr {x' n' : Fin 1024 → EReal} {wg' wu' : Fin 1024 → Fin 2816 → EReal} {wd' : Fin 2816 → Fin 1024 → EReal} {j j' : Fin 1024}
    (hx : ∀ k, x k = x' k) (hn : ∀ k, n k = n' k) (hg : ∀ k f, wg k f = wg' k f) (hu : ∀ k f, wu k f = wu' k f) (hd : ∀ f j, wd f j = wd' f j) (hj : j = j') :
    half x n wg wu wd j = half x' n' wg' wu' wd' j' := by
  obtain rfl : x = x' := funext hx
  obtain rfl : n = n' := funext hn
  obtain rfl : wg = wg' := funext fun k => funext (hg k)
  obtain rfl : wu = wu' := funext fun k => funext (hu k)
  obtain rfl : wd = wd' := funext fun f => funext (hd f)
  rw [hj]

/-- The half step over every row `X r`, from the arguments as they are given: the gain, the two joined input matrices, the output matrix. -/
def rows (X : Fin 18432 → Fin 1024 → EReal) (n : Vec Ideal ⟨1, ![1024]⟩ .f32) (w : Vec Ideal ⟨2, ![1024, 5632]⟩ .f32) (wd : Vec Ideal ⟨2, ![2816, 1024]⟩ .f32) :
    Vec Ideal ⟨2, ![18432, 1024]⟩ .f32 :=
  fun y => half (X (y 0)) (fun k => n (ix1 k)) (fun k f => w (ix2 k ⟨f.val, by omega⟩)) (fun k f => w (ix2 k ⟨2816 + f.val, by omega⟩)) (fun f j => wd (ix2 f j)) (y 1)

/-- One array. -/
def whole (x : Vec Ideal ⟨2, ![18432, 1024]⟩ .f32) (r : Fin 18432) (k : Fin 1024) : EReal := x (ix2 r k)

/-- Two arrays, one below the other. -/
def joined (a : Shape.Idx ⟨2, ![16384, 1024]⟩ → EReal) (b : Shape.Idx ⟨2, ![2048, 1024]⟩ → EReal) (r : Fin 18432) (k : Fin 1024) : EReal :=
  if h : r.val < 16384 then a (ix2 ⟨r.val, h⟩ k) else b (ix2 ⟨r.val - 16384, by omega⟩ k)

/-- One array plus the projected rows of two others. -/
def mixed (x : Vec Ideal ⟨2, ![18432, 1024]⟩ .f32) (a : Vec Ideal ⟨2, ![16384, 1024]⟩ .bf16) (b : Vec Ideal ⟨2, ![2048, 1024]⟩ .bf16)
    (w : Vec Ideal ⟨2, ![1024, 1024]⟩ .f32) (r : Fin 18432) (k : Fin 1024) : EReal :=
  x (ix2 r k) + ∑ l, joined a b r l * w (ix2 l k)

/-- Zero less a number is its negation. -/
theorem neg_of (x : EReal) : 0 - x = -x := by rw [sub_eq_add_neg, zero_add]

end Cert.Ffn

end
-- ==== Proof.Proj.lean ====
/- One entry of an input projection, as a formula over the extended reals. -/
module

public import proofs.«01_k».proof.Proof.Ffn

@[expose] public section

noncomputable section

namespace Cert.Proj

open Idealize.ShloMosaic
open scoped BigOperators

/-- The normed row times one column. -/
def entry (x n w : Fin 1024 → EReal) : EReal := ∑ k, Ffn.normed x n k * w k

/-- It depends on its entries only. -/
theorem entry_congr {x n w x' n' w' : Fin 1024 → EReal} (hx : ∀ k, x k = x' k) (hn : ∀ k, n k = n' k) (hw : ∀ k, w k = w' k) :
    entry x n w = entry x' n' w' := by
  obtain rfl : x = x' := funext hx
  obtain rfl : n = n' := funext hn
  obtain rfl : w = w' := funext hw
  rfl

/-- The prompt's rows and the sample's, among all rows. -/
def prompt (r : Fin 16384) : Fin 18432 := ⟨r.val, by omega⟩

def sample (r : Fin 2048) : Fin 18432 := ⟨16384 + r.val, by omega⟩

/-- The three parts of the joined columns. -/
def first (j : Fin 1024) : Fin 3072 := ⟨j.val, by omega⟩

def second (j : Fin 1024) : Fin 3072 := ⟨1024 + j.val, by omega⟩

def third (j : Fin 1024) : Fin 3072 := ⟨2048 + j.val, by omega⟩

/-- The projection at the rows `row` and the columns `col`. -/
def part {R C D : ℕ} (row : Fin R → Fin 18432) (col : Fin D → Fin C) (x : Vec Ideal ⟨2, ![18432, 1024]⟩ .f32) (n : Vec Ideal ⟨1, ![1024]⟩ .f32)
    (w : Vec Ideal ⟨2, ![1024, C]⟩ .f32) (r : Fin R) (j : Fin D) : EReal :=
  entry (fun k => x (ix2 (row r) k)) (fun k => n (ix1 k)) (fun k => w (ix2 k (col j)))

/-- The factor that the stick-breaking attention's queries carry. -/
def scale : EReal := Ideal.ofBits .f32 0xBE38AA3B#32

/-- A column of the matrix with zero columns added. -/
def column {C : ℕ} (w : Vec Ideal ⟨2, ![1024, C]⟩ .f32) (j : ℕ) (k : Fin 1024) : EReal := if h : j < C then w (ix2 k ⟨j, h⟩) else 0

/-- The projection at the rows `row`, with the zero columns. -/
def padded {R C D : ℕ} (row : Fin R → Fin 18432) (x : Vec Ideal ⟨2, ![18432, 1024]⟩ .f32) (n : Vec Ideal ⟨1, ![1024]⟩ .f32)
    (w : Vec Ideal ⟨2, ![1024, C]⟩ .f32) (r : Fin R) (j : Fin D) : EReal :=
  entry (fun k => x (ix2 (row r) k)) (fun k => n (ix1 k)) (column w j.val)

/-- Over a zero column the entry is zero. -/
theorem entry_zero (x n : Fin 1024 → EReal) : entry x n (fun _ => 0) = 0 := by
  unfold entry
  simp only [mul_zero, Finset.sum_const_zero]

/-- So the padded projection is the projection, padded. -/
theorem padded_eq {R C D : ℕ} (row : Fin R → Fin 18432) (x : Vec Ideal ⟨2, ![18432, 1024]⟩ .f32) (n : Vec Ideal ⟨1, ![1024]⟩ .f32)
    (w : Vec Ideal ⟨2, ![1024, C]⟩ .f32) (r : Fin R) (j : Fin D) :
    padded row x n w r j = if h : j.val < C then entry (fun k => x (ix2 (row r) k)) (fun k => n (ix1 k)) (fun k => w (ix2 k ⟨j.val, h⟩)) else 0 := by
  unfold padded
  by_cases h : j.val < C
  · rw [dif_pos h]
    refine entry_congr (fun _ => rfl) (fun _ => rfl) (fun k => ?_)
    unfold column
    rw [dif_pos h]
  · rw [dif_neg h]
    refine Eq.trans (entry_congr (fun _ => rfl) (fun _ => rfl) (fun k => ?_)) (entry_zero _ _)
    unfold column
    rw [dif_neg h]

end Cert.Proj

end
-- ==== Proof.HeadNorm.lean ====
/- The norm by head of the band attention's queries and keys, and two heads of it side by side. -/
module

public import proofs.«01_k».proof.Proof.Proj

@[expose] public section

noncomputable section

namespace Cert.Proj

open Idealize.ShloMosaic
open scoped BigOperators

/-- The column `d` of the head that the column `j` is in. -/
def mate (j : Fin 1024) (d : Fin 64) : Fin 1024 := ⟨j.val / 64 * 64 + d.val, by omega⟩

/-- A row normed by head. -/
def heads (e : Fin 1024 → EReal) (g : Fin 64 → EReal) (j : Fin 1024) : EReal :=
  e j * Ideal.rsqrt (Ideal.div (∑ d, e (mate j d) * e (mate j d)) (Ideal.ofBits .f32 0x42800000#32) + Ideal.ofBits .f32 0x358637BD#32)
    * g ⟨j.val % 64, Nat.mod_lt _ (by norm_num)⟩

/-- It depends on its entries only. -/
theorem heads_congr {e e' : Fin 1024 → EReal} {g g' : Fin 64 → EReal} {j j' : Fin 1024} (he : ∀ j, e j = e' j) (hg : ∀ d, g d = g' d) (hj : j = j') :
    heads e g j = heads e' g' j' := by
  obtain rfl : e = e' := funext he
  obtain rfl : g = g' := funext hg
  rw [hj]

/-- Two heads side by side: the sum of the half that the column is in, by masks. -/
def pairs (v g : Fin 128 → EReal) (l : Fin 128) : EReal :=
  v l * Ideal.rsqrt ((if l.val < 64 then ∑ k : Fin 128, (if k.val < 64 then v k * v k else 0) else ∑ k : Fin 128, (if k.val < 64 then 0 else v k * v k))
    * Ideal.ofBits .f32 0x3C800000#32 + Ideal.ofBits .f32 0x358637BD#32) * g l

theorem low_sum (f : Fin 128 → EReal) : ∑ k : Fin 128, (if k.val < 64 then f k else 0) = ∑ d : Fin 64, f ⟨d.val, by omega⟩ := by
  rw [show (∑ k : Fin 128, (if k.val < 64 then f k else 0)) = ∑ k : Fin (64 + 64), (if k.val < 64 then f k else 0) from rfl, Fin.sum_univ_add]
  have h1 : ∀ d : Fin 64, (if (Fin.castAdd 64 d).val < 64 then f (Fin.castAdd 64 d) else 0) = f ⟨d.val, by omega⟩ := fun d => if_pos d.isLt
  have h2 : ∀ d : Fin 64, (if (Fin.natAdd 64 d).val < 64 then f (Fin.natAdd 64 d) else 0) = 0 := fun d => if_neg (by simp)
  rw [Finset.sum_congr rfl fun d _ => h1 d, Finset.sum_congr rfl fun d _ => h2 d, Finset.sum_const_zero, add_zero]

theorem high_sum (f : Fin 128 → EReal) : ∑ k : Fin 128, (if k.val < 64 then 0 else f k) = ∑ d : Fin 64, f ⟨64 + d.val, by omega⟩ := by
  rw [show (∑ k : Fin 128, (if k.val < 64 then 0 else f k)) = ∑ k : Fin (64 + 64), (if k.val < 64 then 0 else f k) from rfl, Fin.sum_univ_add]
  have h1 : ∀ d : Fin 64, (if (Fin.castAdd 64 d).val < 64 then 0 else f (Fin.castAdd 64 d)) = 0 := fun d => if_pos d.isLt
  have h2 : ∀ d : Fin 64, (if (Fin.natAdd 64 d).val < 64 then 0 else f (Fin.natAdd 64 d)) = f ⟨64 + d.val, by omega⟩ := fun d => if_neg (by simp)
  rw [Finset.sum_congr rfl fun d _ => h1 d, Finset.sum_congr rfl fun d _ => h2 d, Finset.sum_const_zero, zero_add]

theorem sixtyfour : Ideal.ofBits .f32 0x42800000#32 = ((64 : ℝ) : EReal) := by
  simp [Ideal.ofBits, Ideal.ieee, -EReal.coe_mul]; norm_num

theorem sixtyfourth : Ideal.ofBits .f32 0x3C800000#32 = (((64 : ℝ)⁻¹ : ℝ) : EReal) := by
  simp [Ideal.ofBits, Ideal.ieee, -EReal.coe_mul]; norm_num

/-- The mean over a head: times a sixty-fourth, or divided by sixty-four. -/
theorem mean (s : EReal) : s * Ideal.ofBits .f32 0x3C800000#32 = Ideal.div s (Ideal.ofBits .f32 0x42800000#32) := by
  have h : Ideal.ofBits .f32 0x42800000#32 ≠ 0 := by rw [sixtyfour]; norm_cast
  unfold Ideal.div
  rw [if_neg h, sixtyfour, sixtyfourth, EReal.coe_inv]

/-- The pair `p` of heads, among the sixteen. -/
theorem pairs_at (e : Fin 1024 → EReal) (g : Fin 64 → EReal) (p : ℕ) (hp : p < 8) (l : Fin 128) :
    pairs (fun k => e ⟨128 * p + k.val, by omega⟩) (fun k => g ⟨k.val % 64, Nat.mod_lt _ (by norm_num)⟩) l = heads e g ⟨128 * p + l.val, by omega⟩ := by
  unfold pairs heads
  rw [mean]
  have hs : (if l.val < 64 then ∑ k : Fin 128, (if k.val < 64 then e ⟨128 * p + k.val, by omega⟩ * e ⟨128 * p + k.val, by omega⟩ else 0)
      else ∑ k : Fin 128, (if k.val < 64 then 0 else e ⟨128 * p + k.val, by omega⟩ * e ⟨128 * p + k.val, by omega⟩))
      = ∑ d, e (mate ⟨128 * p + l.val, by omega⟩ d) * e (mate ⟨128 * p + l.val, by omega⟩ d) := by
    by_cases h : l.val < 64
    · rw [if_pos h, low_sum (fun k => e ⟨128 * p + k.val, by omega⟩ * e ⟨128 * p + k.val, by omega⟩)]
      refine Finset.sum_congr rfl fun d _ => ?_
      have hd : (⟨128 * p + d.val, by omega⟩ : Fin 1024) = mate ⟨128 * p + l.val, by omega⟩ d := Fin.ext (by simp only [mate]; omega)
      simp only [hd]
    · rw [if_neg h, high_sum (fun k => e ⟨128 * p + k.val, by omega⟩ * e ⟨128 * p + k.val, by omega⟩)]
      refine Finset.sum_congr rfl fun d _ => ?_
      have hd : (⟨128 * p + (64 + d.val), by omega⟩ : Fin 1024) = mate ⟨128 * p + l.val, by omega⟩ d := Fin.ext (by simp only [mate]; omega)
      simp only [hd]
  have hg : (⟨l.val % 64, Nat.mod_lt _ (by norm_num)⟩ : Fin 64) = ⟨(128 * p + l.val) % 64, Nat.mod_lt _ (by norm_num)⟩ := Fin.ext (by simp only; omega)
  simp only [hg]
  rw [hs]

theorem pairs_eq (e : Fin 1024 → EReal) (g : Fin 64 → EReal) (p : ℕ) (hp : p < 8) (l : Fin 128) (j : Fin 1024) (hj : 128 * p + l.val = j.val) :
    pairs (fun k => e ⟨128 * p + k.val, by omega⟩) (fun k => g ⟨k.val % 64, Nat.mod_lt _ (by norm_num)⟩) l = heads e g j :=
  (pairs_at e g p hp l).trans (congrArg (heads e g) (Fin.ext hj))

/-- The mask of the first half, as a choice. -/
theorem select_low (l : Fin 128) (a b : EReal) : Scalar.select (IntOp.cmpi .slt (BitVec.ofNat 32 l.val) 64#32) a b = if l.val < 64 then a else b := by
  have h : ∀ l : Fin 128, IntOp.cmpi .slt (BitVec.ofNat 32 l.val) 64#32 = if l.val < 64 then 1#1 else 0#1 := by decide +kernel
  rw [h]
  by_cases hl : l.val < 64
  · rw [if_pos hl, if_pos hl]; rfl
  · rw [if_neg hl, if_neg hl]; rfl

/-- Two heads side by side, with the masks as they are selected. -/
theorem pairs_select (v g : Fin 128 → EReal) (l : Fin 128) :
    v l * Ideal.rsqrt (Scalar.select (IntOp.cmpi .slt (BitVec.ofNat 32 l.val) 64#32)
        (∑ k : Fin 128, Scalar.select (IntOp.cmpi .slt (BitVec.ofNat 32 k.val) 64#32) (v k * v k) 0)
        (∑ k : Fin 128, Scalar.select (IntOp.cmpi .slt (BitVec.ofNat 32 k.val) 64#32) 0 (v k * v k))
      * Ideal.ofBits .f32 0x3C800000#32 + Ideal.ofBits .f32 0x358637BD#32) * g l = pairs v g l := by
  simp only [select_low]
  rfl

/-- The factor that the band attention's queries carry. -/
def eighth : EReal := Ideal.ofBits .f32 0x3E000000#32

end Cert.Proj

end
-- ==== Proof.BandTile.lean ====
/- One pair of heads of the band attention over the sample, read at an index. -/
module

public import proofs.«01_k».proof.Proof.Gen.Kernel13Ideal.Skeleton
public import Idealize.ShloMosaic.Lib.Pointwise
public import proofs.«01_k».proof.Proof.HeadNorm

@[expose] public section

set_option maxRecDepth 16384

noncomputable section

namespace Cert.Band.Sample

open Idealize.ShloMosaic Idealize.ShloMosaic.TcCoe
open Cert.Kernel13Ideal Cert.Kernel13Ideal.Gen
open scoped BigOperators

variable (q : Vec Ideal S64x128 .bf16) (k v : Vec Ideal S576x128 .bf16) (b : Vec Ideal S1x128x576 .f32)

/-- The scores of one query row: its products with the keys, plus the bias. -/
def score (qr : Fin 64 → EReal) (K : Fin 576 → Fin 64 → EReal) (br : Fin 576 → EReal) (j : Fin 576) : EReal := ∑ d, qr d * K j d + br j

/-- The exponentials of scores below their largest. -/
def expo (s : Fin 576 → EReal) (j : Fin 576) : EReal := Ideal.exp (s j - Finset.fold max (Ideal.ofBits FTy.f32 0xFF800000#32) s Finset.univ)

/-- A query row's result in one column of the values. -/
def attn (qr : Fin 64 → EReal) (K : Fin 576 → Fin 64 → EReal) (br V : Fin 576 → EReal) : EReal :=
  ∑ j, Ideal.div (expo (score qr K br) j) (∑ i, expo (score qr K br) i) * V j

theorem attn_congr {q q' : Fin 64 → EReal} {K K' : Fin 576 → Fin 64 → EReal} {b b' V V' : Fin 576 → EReal} (hq : ∀ d, q d = q' d)
    (hK : ∀ j d, K j d = K' j d) (hb : ∀ j, b j = b' j) (hV : ∀ j, V j = V' j) : attn q K b V = attn q' K' b' V' := by
  rw [show q = q' from funext hq, show K = K' from funext fun j => funext (hK j), show b = b' from funext hb, show V = V' from funext hV]

theorem stk_at (i l : Fin 128) : k0_pay10 q (ix2 i l) = if h : i.val < 64 then (if l.val < 64 then q (ix2 ⟨i.val, h⟩ l) else 0) else (if l.val < 64 then 0 else q (ix2 ⟨i.val - 64, by omega⟩ l)) := by
  pointwise [k0_pay10]
  have z : ((Int.cast (BitVec.toInt 0#32) : ℝ) : EReal) = 0 := by norm_num
  split
  · rw [Cert.Proj.select_low]
    split
    · rfl
    · exact z
  · rw [Cert.Proj.select_low]
    split
    · exact z
    · rfl

theorem scr_at (q2 : Vec Ideal S128x128 .bf16) (i : Fin 128) (j : Fin 576) : k0_pay21 q2 k b (ix2 i j) = ∑ x, q2 (ix2 i x) * k (ix2 j x) + b (ix3 0 i j) := by
  pointwise [k0_pay21]

theorem low_at (i : Fin 64) (j : Fin 576) : k0_pay21 (k0_pay10 q) k b (ix2 ⟨i.val, by omega⟩ j)
    = score (fun d => q (ix2 i ⟨d.val, by omega⟩)) (fun j d => k (ix2 j ⟨d.val, by omega⟩)) (fun j => b (ix3 0 ⟨i.val, by omega⟩ j)) j := by
  rw [scr_at]
  refine congrArg₂ (· + ·) ?_ rfl
  refine Eq.trans (Finset.sum_congr rfl fun x _ => ?_) (Cert.Proj.low_sum fun x => q (ix2 i x) * k (ix2 j x))
  rw [stk_at, dif_pos (show (⟨i.val, by omega⟩ : Fin 128).val < 64 from i.isLt)]
  split
  · rfl
  · exact zero_mul _

theorem high_at (i : Fin 64) (j : Fin 576) : k0_pay21 (k0_pay10 q) k b (ix2 ⟨64 + i.val, by omega⟩ j)
    = score (fun d => q (ix2 i ⟨64 + d.val, by omega⟩)) (fun j d => k (ix2 j ⟨64 + d.val, by omega⟩)) (fun j => b (ix3 0 ⟨64 + i.val, by omega⟩ j)) j := by
  rw [scr_at]
  refine congrArg₂ (· + ·) ?_ rfl
  refine Eq.trans (Finset.sum_congr rfl fun x _ => ?_) (Cert.Proj.high_sum fun x => q (ix2 i x) * k (ix2 j x))
  rw [stk_at, dif_neg (show ¬(⟨64 + i.val, by omega⟩ : Fin 128).val < 64 from by dsimp only; omega)]
  split
  · exact zero_mul _
  · exact congrArg₂ (· * ·) (congrArg (fun r => q (ix2 r x)) (Fin.ext (by dsimp only; omega))) rfl

theorem ex_at (s : FVec Ideal S128x576 .f32) (i : Fin 128) (j : Fin 576) : k0_pay30 s (ix2 i j) = expo (fun x => s (ix2 i x)) j := by
  pointwise [k0_pay30]
  rfl

theorem prb_at (s : FVec Ideal S128x576 .f32) (i : Fin 128) (j : Fin 576) : k0_pay37 s (ix2 i j) = Ideal.div (s (ix2 i j)) (∑ x, s (ix2 i x)) := by
  pointwise [k0_pay37]

theorem pv_at (s : FVec Ideal S128x576 .bf16) (i : Fin 128) (j : Fin 128) : k0_pay43 s v (ix2 i j) = ∑ x, s (ix2 i x) * v (ix2 x j) := by
  pointwise [k0_pay43]

theorem un_at (s : FVec Ideal S128x128 .f32) (i : Fin 64) (j : Fin 128) : k0_pay51 s (ix2 i j) = if j.val < 64 then s (ix2 ⟨i.val, by omega⟩ j) else s (ix2 ⟨64 + i.val, by omega⟩ j) := by
  pointwise [k0_pay51]
  exact Cert.Proj.select_low _ _ _

/-- A pair's tile: two heads' queries against the keys, the softmax, the values. -/
def tile : Vec Ideal S64x128 .bf16 := k0_pay51 (k0_pay43 (k0_pay37 (k0_pay30 (k0_pay21 (k0_pay10 q) k b))) v)

theorem tile_at (i : Fin 64) (l : Fin 128) : tile q k v b (ix2 i l) = if l.val < 64
    then attn (fun d => q (ix2 i ⟨d.val, by omega⟩)) (fun j d => k (ix2 j ⟨d.val, by omega⟩)) (fun j => b (ix3 0 ⟨i.val, by omega⟩ j)) (fun j => v (ix2 j l))
    else attn (fun d => q (ix2 i ⟨64 + d.val, by omega⟩)) (fun j d => k (ix2 j ⟨64 + d.val, by omega⟩)) (fun j => b (ix3 0 ⟨64 + i.val, by omega⟩ j)) (fun j => v (ix2 j l)) := by
  unfold tile
  rw [un_at]
  split
  · rw [pv_at]
    simp only [prb_at, ex_at, low_at]
    rfl
  · rw [pv_at]
    simp only [prb_at, ex_at, high_at]
    rfl

end Cert.Band.Sample

end
-- ==== Proof.BandAtt.lean ====
/- The band attention over the sample: what a grid point's output block holds. -/
module

public import proofs.«01_k».proof.Proof.BandTile
public import proofs.«01_k».proof.Proof.Gen.Kernel13Ideal.Value
public import Idealize.ShloMosaic.Lib.Pipeline.ValueKit
public import Idealize.ShloMosaic.Lib.Pipeline.ReadBack

@[expose] public section

set_option maxRecDepth 16384

noncomputable section

namespace Cert.Band.Sample

open Idealize.ShloMosaic Idealize.ShloMosaic.TcCoe
open Cert.Kernel13Ideal Cert.Kernel13Ideal.Gen Cert.Kernel13Ideal.Value
open scoped BigOperators

/-- The cached rows with the new ones after them. -/
def joined (x : Vec Ideal S1x512x1024 .f32) (z : Vec Ideal S64x1024 .bf16) (j : Fin 576) (l : Fin 1024) : EReal :=
  if h : j.val < 512 then x (ix3 0 ⟨j.val, h⟩ l) else z (ix2 ⟨j.val - 512, by omega⟩ l)

theorem keys (x : Vec Ideal S1x512x1024 .f32) (z : Vec Ideal S64x1024 .bf16) (y : S576x1024.Idx) :
    View.canon [(⟨Rect.unit ![512, 0] ![64, 1024] inb_S576x1024_S64x1024_512_0, k0_pay4 z⟩ : View.Piece (Elt Ideal) S576x1024 .bf16),
      ⟨Rect.unit ![0, 0] ![512, 1024] inb_S576x1024_S512x1024_0_0, k0_pay2 x⟩] y = joined x z (y 0) (y 1) := by
  have hcover : ∃ p ∈ [(⟨Rect.unit ![512, 0] ![64, 1024] inb_S576x1024_S64x1024_512_0, k0_pay4 z⟩ : View.Piece (Elt Ideal) S576x1024 .bf16),
      ⟨Rect.unit ![0, 0] ![512, 1024] inb_S576x1024_S512x1024_0_0, k0_pay2 x⟩], y ∈ p.fst.set := by
    have y0_lt : (y 0).val < 576 := (y 0).isLt
    have y1_lt : (y 1).val < 1024 := (y 1).isLt
    by_cases hy : (y 0).val < 512
    · refine ⟨_, List.mem_cons_of_mem _ List.mem_cons_self, (LoadRect.mem_set _).mpr fun a => ?_⟩
      match a with
      | 0 => exact ⟨(y 0).val, hy, by show (y 0).val = 0 + 1 * (y 0).val; omega⟩
      | 1 => exact ⟨(y 1).val, y1_lt, by show (y 1).val = 0 + 1 * (y 1).val; omega⟩
    · refine ⟨_, List.mem_cons_self, (LoadRect.mem_set _).mpr fun a => ?_⟩
      match a with
      | 0 => exact ⟨(y 0).val - 512, by show (y 0).val - 512 < 64; omega, by show (y 0).val = 512 + 1 * ((y 0).val - 512); omega⟩
      | 1 => exact ⟨(y 1).val, y1_lt, by show (y 1).val = 0 + 1 * (y 1).val; omega⟩
  canon_tiles w h using hcover
  case piece0 =>
    unfold joined
    rw [dif_neg (by omega)]
    pointwise [k0_pay4]
    refine congrArg z (funext fun a => Fin.ext ?_)
    match a with
    | 0 =>
      show (w 0).val = (y 0).val - 512
      omega
    | 1 =>
      show (w 1).val = (y 1).val
      omega
  case piece1 =>
    unfold joined
    rw [dif_pos (by omega)]
    pointwise [k0_pay2]
    exact congrArg₂ (fun a b => x (ix3 0 a b)) (Fin.ext (show (w 0).val = (y 0).val by omega)) (Fin.ext (show (w 1).val = (y 1).val by omega))

theorem values (x : Vec Ideal S1x512x1024 .f32) (z : Vec Ideal S64x1024 .bf16) (y : S576x1024.Idx) :
    View.canon [(⟨Rect.unit ![512, 0] ![64, 1024] inb_S576x1024_S64x1024_512_0, k0_pay5 z⟩ : View.Piece (Elt Ideal) S576x1024 .bf16),
      ⟨Rect.unit ![0, 0] ![512, 1024] inb_S576x1024_S512x1024_0_0, k0_pay3 x⟩] y = joined x z (y 0) (y 1) :=
  keys x z y

/-- A load of whole columns of the joined keys. -/
def keyB (x : Vec Ideal S1x512x1024 .f32) (z : Vec Ideal S64x1024 .bf16) (off : Fin 2 → ℕ) (inb : ∀ a, off a + S576x128.size a ≤ S576x1024.size a) : Vec Ideal S576x128 .bf16 :=
  (View.whole cc0_scratch0).readCov [(⟨Rect.unit ![512, 0] ![64, 1024] inb_S576x1024_S64x1024_512_0, k0_pay4 z⟩ : View.Piece (Elt Ideal) S576x1024 .bf16),
    ⟨Rect.unit ![0, 0] ![512, 1024] inb_S576x1024_S512x1024_0_0, k0_pay2 x⟩] (Rect.unit (s := S576x1024) off S576x128.size inb).toLoadRect

theorem key_cols (x : Vec Ideal S1x512x1024 .f32) (z : Vec Ideal S64x1024 .bf16) (off : Fin 2 → ℕ) (inb : ∀ a, off a + S576x128.size a ≤ S576x1024.size a)
    (n : ℕ) (o0 : off 0 = 0) (o1 : off 1 = n) (j : Fin 576) (l : Fin 128) (hn : n + l.val < 1024) :
    keyB x z off inb (ix2 j l) = joined x z j ⟨n + l.val, hn⟩ := by
  unfold keyB
  rw [View.readCov_eq_canon']
  refine (keys x z _).trans ?_
  refine congrArg₂ (joined x z) (Fin.ext ?_) (Fin.ext ?_)
  · show off 0 + 1 * j.val = j.val
    omega
  · show off 1 + 1 * l.val = n + l.val
    omega

/-- A load of whole columns of the joined values. -/
def valB (x : Vec Ideal S1x512x1024 .f32) (z : Vec Ideal S64x1024 .bf16) (off : Fin 2 → ℕ) (inb : ∀ a, off a + S576x128.size a ≤ S576x1024.size a) : Vec Ideal S576x128 .bf16 :=
  (View.whole cc0_scratch1).readCov [(⟨Rect.unit ![512, 0] ![64, 1024] inb_S576x1024_S64x1024_512_0, k0_pay5 z⟩ : View.Piece (Elt Ideal) S576x1024 .bf16),
    ⟨Rect.unit ![0, 0] ![512, 1024] inb_S576x1024_S512x1024_0_0, k0_pay3 x⟩] (Rect.unit (s := S576x1024) off S576x128.size inb).toLoadRect

theorem value_cols (x : Vec Ideal S1x512x1024 .f32) (z : Vec Ideal S64x1024 .bf16) (off : Fin 2 → ℕ) (inb : ∀ a, off a + S576x128.size a ≤ S576x1024.size a)
    (n : ℕ) (o0 : off 0 = 0) (o1 : off 1 = n) (j : Fin 576) (l : Fin 128) (hn : n + l.val < 1024) :
    valB x z off inb (ix2 j l) = joined x z j ⟨n + l.val, hn⟩ := by
  unfold valB
  rw [View.readCov_eq_canon']
  refine (values x z _).trans ?_
  refine congrArg₂ (joined x z) (Fin.ext ?_) (Fin.ext ?_)
  · show off 0 + 1 * j.val = j.val
    omega
  · show off 1 + 1 * l.val = n + l.val
    omega

theorem query_cols (x : Vec Ideal S64x1024 .bf16) (off : Fin 2 → ℕ) (inb : ∀ a, off a + S64x128.size a ≤ S64x1024.size a)
    (n : ℕ) (o0 : off 0 = 0) (o1 : off 1 = n) (i : Fin 64) (l : Fin 128) (hn : n + l.val < 1024) :
    View.ld x (Rect.unit off ![64, 128] inb) (ix2 i l) = x (ix2 i ⟨n + l.val, hn⟩) := by
  refine congrArg x (funext fun a => ?_)
  match a with
  | 0 =>
    refine Fin.ext ?_
    show off 0 + 1 * i.val = i.val
    omega
  | 1 =>
    refine Fin.ext ?_
    show off 1 + 1 * l.val = n + l.val
    omega

/-- The head of a column. -/
def head (l : Fin 1024) : Fin 16 := ⟨l.val / 64, by omega⟩

/-- A column of a head. -/
def col (h : Fin 16) (d : Fin 64) : Fin 1024 := ⟨64 * h.val + d.val, by omega⟩

/-- A point's output: its query rows by head against the joined keys and values. -/
def outV (q : Vec Ideal S64x1024 .bf16) (xk : Vec Ideal S1x512x1024 .f32) (zk : Vec Ideal S64x1024 .bf16) (xv : Vec Ideal S1x512x1024 .f32) (zv : Vec Ideal S64x1024 .bf16)
    (b : Vec Ideal S8x128x576 .f32) (i : Fin 64) (l : Fin 1024) : EReal :=
  attn (fun d => q (ix2 i (col (head l) d))) (fun j d => joined xk zk j (col (head l) d))
    (fun j => b (ix3 ⟨(head l).val / 2, by omega⟩ ⟨64 * ((head l).val % 2) + i.val, by omega⟩ j)) (fun j => joined xv zv j l)

section

variable (q : Vec Ideal S64x1024 .bf16) (xk : Vec Ideal S1x512x1024 .f32) (zk : Vec Ideal S64x1024 .bf16) (xv : Vec Ideal S1x512x1024 .f32) (zv : Vec Ideal S64x1024 .bf16)
  (b : Vec Ideal S8x128x576 .f32) (n : ℕ) (p : Fin 8) (hp : n = 128 * p.val)
  (q2 : Vec Ideal S64x128 .bf16) (k2 v2 : Vec Ideal S576x128 .bf16) (b2 : Vec Ideal S1x128x576 .f32)

include hp in
theorem tile_eq (hq : ∀ (i : Fin 64) (l : Fin 128) (hn : n + l.val < 1024), q2 (ix2 i l) = q (ix2 i ⟨n + l.val, hn⟩))
    (hk : ∀ (j : Fin 576) (l : Fin 128) (hn : n + l.val < 1024), k2 (ix2 j l) = joined xk zk j ⟨n + l.val, hn⟩)
    (hv : ∀ (j : Fin 576) (l : Fin 128) (hn : n + l.val < 1024), v2 (ix2 j l) = joined xv zv j ⟨n + l.val, hn⟩)
    (hb : ∀ (r : Fin 128) (j : Fin 576), b2 (ix3 0 r j) = b (ix3 p r j))
    (x : S64x128.Idx) (y : S64x1024.Idx) (h0 : (y 0).val = (x 0).val) (h1 : (y 1).val = n + (x 1).val) :
    tile q2 k2 v2 b2 x = outV q xk zk xv zv b (y 0) (y 1) := by
  have hx0 : (x 0).val < 64 := (x 0).isLt
  have hx1 : (x 1).val < 128 := (x 1).isLt
  refine (congrArg (tile q2 k2 v2 b2) (eq_ix2 x)).trans ((tile_at q2 k2 v2 b2 (x 0) (x 1)).trans ?_)
  unfold outV
  split
  · refine attn_congr (fun d => ?_) (fun j d => ?_) (fun j => ?_) (fun j => ?_)
    · refine (hq _ _ (by first | omega | (dsimp only; omega))).trans ?_
      refine congrArg₂ (fun a b => q (ix2 a b)) (Fin.ext h0.symm) (Fin.ext ?_)
      dsimp only [col, head]; omega
    · refine (hk _ _ (by first | omega | (dsimp only; omega))).trans ?_
      refine congrArg (joined xk zk j) (Fin.ext ?_)
      dsimp only [col, head]; omega
    · refine (hb _ _).trans ?_
      refine congrArg₂ (fun a r => b (ix3 a r j)) (Fin.ext ?_) (Fin.ext ?_)
      · dsimp only [head]; omega
      · dsimp only [head]; omega
    · refine (hv _ _ (by first | omega | (dsimp only; omega))).trans ?_
      exact congrArg (joined xv zv j) (Fin.ext h1.symm)
  · refine attn_congr (fun d => ?_) (fun j d => ?_) (fun j => ?_) (fun j => ?_)
    · refine (hq _ _ (by first | omega | (dsimp only; omega))).trans ?_
      refine congrArg₂ (fun a b => q (ix2 a b)) (Fin.ext h0.symm) (Fin.ext ?_)
      dsimp only [col, head]; omega
    · refine (hk _ _ (by first | omega | (dsimp only; omega))).trans ?_
      refine congrArg (joined xk zk j) (Fin.ext ?_)
      dsimp only [col, head]; omega
    · refine (hb _ _).trans ?_
      refine congrArg₂ (fun a r => b (ix3 a r j)) (Fin.ext ?_) (Fin.ext ?_)
      · dsimp only [head]; omega
      · dsimp only [head]; omega
    · refine (hv _ _ (by first | omega | (dsimp only; omega))).trans ?_
      exact congrArg (joined xv zv j) (Fin.ext h1.symm)

end

variable (m : (ℓ : Loc nD τ sig) → Buf (Elt Ideal) ℓ) (c : Dev nD)

set_option maxHeartbeats 1000000 in
/-- What a grid point leaves in its output block. -/
theorem outs (t : Fin cfg0.N) (y : S64x1024.Idx) : outsAt0 m c t y
    = outV (iblk m c 0 t) (iblk m c 1 t) (iblk m c 2 t) (iblk m c 3 t) (iblk m c 4 t) (iblk m c 5 t) (y 0) (y 1) := by
  unfold outsAt0
  frame_out
  canon_tiles x h
  case piece0 =>
    refine tile_eq _ _ _ _ _ _ 896 7 (by decide) (View.ld (iblk m c 0 t) (Rect.unit k0_off8 ![64, 128] k0_off8_inb)) (keyB (iblk m c 1 t) (iblk m c 2 t) k0_off16 k0_off16_inb) (valB (iblk m c 3 t) (iblk m c 4 t) k0_off16 k0_off16_inb) (View.ld (iblk m c 5 t) (Rect.unit ![7, 0, 0] ![1, 128, 576] inb_S8x128x576_S1x128x576_7_0_0)) (fun i l hn => ?_) (fun j l hn => ?_) (fun j l hn => ?_) (fun r j => ?_) x y (by omega) (by omega)
    · exact query_cols _ _ _ _ (by decide +kernel) (by decide +kernel) i l hn
    · exact key_cols _ _ k0_off16 k0_off16_inb _ (by decide +kernel) (by decide +kernel) j l hn
    · exact value_cols _ _ k0_off16 k0_off16_inb _ (by decide +kernel) (by decide +kernel) j l hn
    · pointwise []
      try rfl
  case piece1 =>
    refine tile_eq _ _ _ _ _ _ 768 6 (by decide) (View.ld (iblk m c 0 t) (Rect.unit k0_off7 ![64, 128] k0_off7_inb)) (keyB (iblk m c 1 t) (iblk m c 2 t) k0_off15 k0_off15_inb) (valB (iblk m c 3 t) (iblk m c 4 t) k0_off15 k0_off15_inb) (View.ld (iblk m c 5 t) (Rect.unit ![6, 0, 0] ![1, 128, 576] inb_S8x128x576_S1x128x576_6_0_0)) (fun i l hn => ?_) (fun j l hn => ?_) (fun j l hn => ?_) (fun r j => ?_) x y (by omega) (by omega)
    · exact query_cols _ _ _ _ (by decide +kernel) (by decide +kernel) i l hn
    · exact key_cols _ _ k0_off15 k0_off15_inb _ (by decide +kernel) (by decide +kernel) j l hn
    · exact value_cols _ _ k0_off15 k0_off15_inb _ (by decide +kernel) (by decide +kernel) j l hn
    · pointwise []
      try rfl
  case piece2 =>
    refine tile_eq _ _ _ _ _ _ 640 5 (by decide) (View.ld (iblk m c 0 t) (Rect.unit k0_off6 ![64, 128] k0_off6_inb)) (keyB (iblk m c 1 t) (iblk m c 2 t) k0_off14 k0_off14_inb) (valB (iblk m c 3 t) (iblk m c 4 t) k0_off14 k0_off14_inb) (View.ld (iblk m c 5 t) (Rect.unit ![5, 0, 0] ![1, 128, 576] inb_S8x128x576_S1x128x576_5_0_0)) (fun i l hn => ?_) (fun j l hn => ?_) (fun j l hn => ?_) (fun r j => ?_) x y (by omega) (by omega)
    · exact query_cols _ _ _ _ (by decide +kernel) (by decide +kernel) i l hn
    · exact key_cols _ _ k0_off14 k0_off14_inb _ (by decide +kernel) (by decide +kernel) j l hn
    · exact value_cols _ _ k0_off14 k0_off14_inb _ (by decide +kernel) (by decide +kernel) j l hn
    · pointwise []
      try rfl
  case piece3 =>
    refine tile_eq _ _ _ _ _ _ 512 4 (by decide) (View.ld (iblk m c 0 t) (Rect.unit k0_off5 ![64, 128] k0_off5_inb)) (keyB (iblk m c 1 t) (iblk m c 2 t) k0_off13 k0_off13_inb) (valB (iblk m c 3 t) (iblk m c 4 t) k0_off13 k0_off13_inb) (View.ld (iblk m c 5 t) (Rect.unit ![4, 0, 0] ![1, 128, 576] inb_S8x128x576_S1x128x576_4_0_0)) (fun i l hn => ?_) (fun j l hn => ?_) (fun j l hn => ?_) (fun r j => ?_) x y (by omega) (by omega)
    · exact query_cols _ _ _ _ (by decide +kernel) (by decide +kernel) i l hn
    · exact key_cols _ _ k0_off13 k0_off13_inb _ (by decide +kernel) (by decide +kernel) j l hn
    · exact value_cols _ _ k0_off13 k0_off13_inb _ (by decide +kernel) (by decide +kernel) j l hn
    · pointwise []
      try rfl
  case piece4 =>
    refine tile_eq _ _ _ _ _ _ 384 3 (by decide) (View.ld (iblk m c 0 t) (Rect.unit k0_off4 ![64, 128] k0_off4_inb)) (keyB (iblk m c 1 t) (iblk m c 2 t) k0_off12 k0_off12_inb) (valB (iblk m c 3 t) (iblk m c 4 t) k0_off12 k0_off12_inb) (View.ld (iblk m c 5 t) (Rect.unit ![3, 0, 0] ![1, 128, 576] inb_S8x128x576_S1x128x576_3_0_0)) (fun i l hn => ?_) (fun j l hn => ?_) (fun j l hn => ?_) (fun r j => ?_) x y (by omega) (by omega)
    · exact query_cols _ _ _ _ (by decide +kernel) (by decide +kernel) i l hn
    · exact key_cols _ _ k0_off12 k0_off12_inb _ (by decide +kernel) (by decide +kernel) j l hn
    · exact value_cols _ _ k0_off12 k0_off12_inb _ (by decide +kernel) (by decide +kernel) j l hn
    · pointwise []
      try rfl
  case piece5 =>
    refine tile_eq _ _ _ _ _ _ 256 2 (by decide) (View.ld (iblk m c 0 t) (Rect.unit k0_off3 ![64, 128] k0_off3_inb)) (keyB (iblk m c 1 t) (iblk m c 2 t) k0_off11 k0_off11_inb) (valB (iblk m c 3 t) (iblk m c 4 t) k0_off11 k0_off11_inb) (View.ld (iblk m c 5 t) (Rect.unit ![2, 0, 0] ![1, 128, 576] inb_S8x128x576_S1x128x576_2_0_0)) (fun i l hn => ?_) (fun j l hn => ?_) (fun j l hn => ?_) (fun r j => ?_) x y (by omega) (by omega)
    · exact query_cols _ _ _ _ (by decide +kernel) (by decide +kernel) i l hn
    · exact key_cols _ _ k0_off11 k0_off11_inb _ (by decide +kernel) (by decide +kernel) j l hn
    · exact value_cols _ _ k0_off11 k0_off11_inb _ (by decide +kernel) (by decide +kernel) j l hn
    · pointwise []
      try rfl
  case piece6 =>
    refine tile_eq _ _ _ _ _ _ 128 1 (by decide) (View.ld (iblk m c 0 t) (Rect.unit k0_off2 ![64, 128] k0_off2_inb)) (keyB (iblk m c 1 t) (iblk m c 2 t) k0_off10 k0_off10_inb) (valB (iblk m c 3 t) (iblk m c 4 t) k0_off10 k0_off10_inb) (View.ld (iblk m c 5 t) (Rect.unit ![1, 0, 0] ![1, 128, 576] inb_S8x128x576_S1x128x576_1_0_0)) (fun i l hn => ?_) (fun j l hn => ?_) (fun j l hn => ?_) (fun r j => ?_) x y (by omega) (by omega)
    · exact query_cols _ _ _ _ (by decide +kernel) (by decide +kernel) i l hn
    · exact key_cols _ _ k0_off10 k0_off10_inb _ (by decide +kernel) (by decide +kernel) j l hn
    · exact value_cols _ _ k0_off10 k0_off10_inb _ (by decide +kernel) (by decide +kernel) j l hn
    · pointwise []
      try rfl
  case piece7 =>
    refine tile_eq _ _ _ _ _ _ 0 0 (by decide) (View.ld (iblk m c 0 t) (Rect.unit k0_off1 ![64, 128] k0_off1_inb)) (keyB (iblk m c 1 t) (iblk m c 2 t) k0_off9 k0_off9_inb) (valB (iblk m c 3 t) (iblk m c 4 t) k0_off9 k0_off9_inb) (View.ld (iblk m c 5 t) (Rect.unit ![0, 0, 0] ![1, 128, 576] inb_S8x128x576_S1x128x576_0_0_0)) (fun i l hn => ?_) (fun j l hn => ?_) (fun j l hn => ?_) (fun r j => ?_) x y (by omega) (by omega)
    · exact query_cols _ _ _ _ (by decide +kernel) (by decide +kernel) i l hn
    · exact key_cols _ _ k0_off9 k0_off9_inb _ (by decide +kernel) (by decide +kernel) j l hn
    · exact value_cols _ _ k0_off9 k0_off9_inb _ (by decide +kernel) (by decide +kernel) j l hn
    · pointwise []
      try rfl

end Cert.Band.Sample

end
-- ==== Proof.BandAttEnds.lean ====
/- The band attention over the sample: its output array over the arguments. -/
module

public import proofs.«01_k».proof.Proof.BandAtt

@[expose] public section

set_option maxRecDepth 16384

noncomputable section

namespace Cert.Band.Sample

open Idealize.ShloMosaic Idealize.ShloMosaic.TcCoe
open Cert.Kernel13Ideal Cert.Kernel13Ideal.Gen Cert.Kernel13Ideal.Value
open scoped BigOperators

/-- A sequence's rows of one head: the cached ones, then the new ones. -/
def rows (x : Vec Ideal S32x512x16x64 .f32) (z : Vec Ideal S2048x1024 .bf16) (n : Fin 32) (h : Fin 16) (j : Fin 576) (d : Fin 64) : EReal :=
  if hj : j.val < 512 then x (ix4 n ⟨j.val, hj⟩ h d) else z (ix2 ⟨n.val * 64 + (j.val - 512), by omega⟩ (col h d))

/-- The place of a column in its head. -/
def lane (l : Fin 1024) : Fin 64 := ⟨l.val % 64, by omega⟩

theorem col_lane (l : Fin 1024) : col (head l) (lane l) = l := by
  refine Fin.ext ?_
  dsimp only [col, head, lane]
  omega

/-- One head's attention for one row of one sequence, in one column. -/
def attAt (q k v : Vec Ideal S2048x1024 .bf16) (ck cv : Vec Ideal S32x512x16x64 .f32) (b : Vec Ideal S8x128x576 .f32) (n : Fin 32) (i : Fin 64) (h : Fin 16) (d : Fin 64) : EReal :=
  attn (fun e => q (ix2 ⟨n.val * 64 + i.val, by omega⟩ (col h e))) (fun j e => rows ck k n h j e)
    (fun j => b (ix3 ⟨h.val / 2, by omega⟩ ⟨64 * (h.val % 2) + i.val, by omega⟩ j)) (fun j => rows cv v n h j d)

/-- The whole output. -/
def bandAll (q k v : Vec Ideal S2048x1024 .bf16) (ck cv : Vec Ideal S32x512x16x64 .f32) (b : Vec Ideal S8x128x576 .f32) : Vec Ideal S2048x1024 .bf16 := fun y =>
  attAt q k v ck cv b ⟨(y 0).val / 64, by have h : (y 0).val < 2048 := (y 0).isLt; omega⟩ ⟨(y 0).val % 64, by omega⟩ (head (y 1)) (lane (y 1))

theorem idx : ∀ t : Fin cfg0.N, win0_0.index t = ![t.val, 0] ∧ win0_1.index t = ![t.val, 0, 0] ∧ win0_2.index t = ![t.val, 0]
    ∧ win0_3.index t = ![t.val, 0, 0] ∧ win0_4.index t = ![t.val, 0] ∧ win0_5.index t = ![0, 0, 0] ∧ win0_6.index t = ![t.val, 0] :=
  (by decide +kernel : ∀ t : Fin grid0.N, _)

variable (m : (ℓ : Loc nD τ sig) → Buf (Elt Ideal) ℓ) (c : Dev nD)

abbrev B0 : Vec Ideal S2048x1024 .bf16 := m ((c.tc : Thread nD τ).loc main_arg0)
abbrev B1 : Vec Ideal S2048x1024 .bf16 := m ((c.tc : Thread nD τ).loc main_arg1)
abbrev B2 : Vec Ideal S2048x1024 .bf16 := m ((c.tc : Thread nD τ).loc main_arg2)
abbrev B3 : Vec Ideal S32x512x16x64 .f32 := m ((c.tc : Thread nD τ).loc main_arg3)
abbrev B4 : Vec Ideal S32x512x16x64 .f32 := m ((c.tc : Thread nD τ).loc main_arg4)
abbrev B5 : Vec Ideal S8x128x576 .f32 := m ((c.tc : Thread nD τ).loc main_arg5)

theorem v0_at (n : Fin 32) (j : Fin 512) (h : Fin 16) (d : Fin 64) : (V m c main_v0 : Vec Ideal S32x512x1024 .f32) (ix3 n j (col h d)) = B3 m c (ix4 n j h d) := by
  simp only [V, hostOps0, List.flatten_cons, List.flatten_nil, List.append_nil, List.cons_append, List.nil_append]
  entry_read
  pointwise []
  refine congrArg₂ (fun a b => B3 m c (ix4 n j a b)) (Fin.ext ?_) (Fin.ext ?_)
  · dsimp only [col]; omega
  · dsimp only [col]; omega

theorem v1_at (n : Fin 32) (j : Fin 512) (h : Fin 16) (d : Fin 64) : (V m c main_v1 : Vec Ideal S32x512x1024 .f32) (ix3 n j (col h d)) = B4 m c (ix4 n j h d) := by
  simp only [V, hostOps0, List.flatten_cons, List.flatten_nil, List.append_nil, List.cons_append, List.nil_append]
  entry_read
  pointwise []
  refine congrArg₂ (fun a b => B4 m c (ix4 n j a b)) (Fin.ext ?_) (Fin.ext ?_)
  · dsimp only [col]; omega
  · dsimp only [col]; omega

variable (t : Fin cfg0.N) (n : Fin 32) (h : t.val = n.val)

include h in
theorem q_blk (i : Fin 64) (l : Fin 1024) : iblk m c 0 t (ix2 i l) = B0 m c (ix2 ⟨n.val * 64 + i.val, by omega⟩ l) := by
  obtain ⟨n, hn⟩ := n
  dsimp only at h
  subst h
  blk_point [iblk, V, idx t]

include h in
theorem k_blk (i : Fin 64) (l : Fin 1024) : iblk m c 2 t (ix2 i l) = B1 m c (ix2 ⟨n.val * 64 + i.val, by omega⟩ l) := by
  obtain ⟨n, hn⟩ := n
  dsimp only at h
  subst h
  blk_point [iblk, V, idx t]

include h in
theorem v_blk (i : Fin 64) (l : Fin 1024) : iblk m c 4 t (ix2 i l) = B2 m c (ix2 ⟨n.val * 64 + i.val, by omega⟩ l) := by
  obtain ⟨n, hn⟩ := n
  dsimp only at h
  subst h
  blk_point [iblk, V, idx t]

theorem b_blk (y : S8x128x576.Idx) : iblk m c 5 t y = B5 m c y := by
  blk_point [iblk, V, idx t]

include h in
theorem ck_blk (j : Fin 512) (g : Fin 16) (d : Fin 64) : iblk m c 1 t (ix3 0 j (col g d)) = B3 m c (ix4 n j g d) := by
  unfold iblk
  refine Eq.trans (congrArg (V m c main_v0) ?_) (v0_at m c n j g d)
  obtain ⟨n, hn⟩ := n
  dsimp only at h
  subst h
  blk_ext [idx t]

include h in
theorem cv_blk (j : Fin 512) (g : Fin 16) (d : Fin 64) : iblk m c 3 t (ix3 0 j (col g d)) = B4 m c (ix4 n j g d) := by
  unfold iblk
  refine Eq.trans (congrArg (V m c main_v1) ?_) (v1_at m c n j g d)
  obtain ⟨n, hn⟩ := n
  dsimp only at h
  subst h
  blk_ext [idx t]

include h in
theorem keys_eq (g : Fin 16) (j : Fin 576) (d : Fin 64) : joined (iblk m c 1 t) (iblk m c 2 t) j (col g d) = rows (B3 m c) (B1 m c) n g j d := by
  unfold joined rows
  split
  · exact ck_blk m c t n h _ g d
  · exact k_blk m c t n h _ _

include h in
theorem values_eq (g : Fin 16) (j : Fin 576) (d : Fin 64) : joined (iblk m c 3 t) (iblk m c 4 t) j (col g d) = rows (B4 m c) (B2 m c) n g j d := by
  unfold joined rows
  split
  · exact cv_blk m c t n h _ g d
  · exact v_blk m c t n h _ _

include h in
theorem out_eq (i : Fin 64) (l : Fin 1024) : outV (iblk m c 0 t) (iblk m c 1 t) (iblk m c 2 t) (iblk m c 3 t) (iblk m c 4 t) (iblk m c 5 t) i l
    = attAt (B0 m c) (B1 m c) (B2 m c) (B3 m c) (B4 m c) (B5 m c) n i (head l) (lane l) := by
  unfold outV attAt
  refine attn_congr (fun d => q_blk m c t n h _ _) (fun j d => keys_eq m c t n h _ j d) (fun j => b_blk m c t _) fun j => ?_
  refine Eq.trans ?_ (values_eq m c t n h (head l) j (lane l))
  rw [col_lane]

theorem final : (dats m 0 c).arrAt 6 cfg0.N = bandAll (B0 m c) (B1 m c) (B2 m c) (B3 m c) (B4 m c) (B5 m c) := by
  refine (dats m 0 c).arrAt_eq_of_covers 6 _ (by decide +kernel) fun t _ y => ?_
  blk_simp
  rw [after0_6, outs]
  unfold bandAll
  have y0 : (y 0).val < 64 := (y 0).isLt
  have e0 : ((win0_6.blk t).view.emb y 0).val = t.val * 64 + (y 0).val := by blk_simp [idx t]
  have e1 : ((win0_6.blk t).view.emb y 1).val = (y 1).val := by blk_simp [idx t]
  have e1' : (win0_6.blk t).view.emb y 1 = y 1 := Fin.ext e1
  refine (out_eq m c t ⟨((win0_6.blk t).view.emb y 0).val / 64, by have := lt_of_lt_of_eq t.isLt (show cfg0.N = 32 from by decide); omega⟩ (by show t.val = _ / 64; omega) (y 0) (y 1)).trans ?_
  rw [e1']
  refine congrArg (fun i => attAt _ _ _ _ _ _ _ i _ _) (Fin.ext ?_)
  show (y 0).val = ((win0_6.blk t).view.emb y 0).val % 64
  omega

end Cert.Band.Sample

end
-- ==== Proof.BandAttMax.lean ====
/- The exponentials of the reference's band attention over the sample, read at an index. -/
module

public import proofs.«01_k».proof.Proof.BandTile
public import proofs.«01_k».proof.Proof.Gen.Reference13Ideal

@[expose] public section

set_option maxRecDepth 16384

noncomputable section

namespace Cert.Band.SampleRef

open Idealize.ShloMosaic Idealize.ShloMosaic.TcCoe
open Cert.Reference13Ideal Cert.Reference13Ideal.Gen
open Cert.Band.Sample (expo)
open scoped BigOperators

def maxR (s : FVec Ideal S32x16x64x576 .f32) : FVec Ideal S32x16x64 .f32 :=
  Host.reduce FloatOps.maximumf s (constant S_ .f32 0xFF800000#32) reducesTo_S32x16x64x576_S32x16x64_d3 h_S_

def belowR (s : FVec Ideal S32x16x64x576 .f32) (x : FVec Ideal S32x16x64 .f32) : FVec Ideal S32x16x64x576 .f32 :=
  Host.exp (subf s (broadcastInDim S32x16x64x576 ![0, 1, 2, 3] bcast_S32x16x64x1_S32x16x64x576_0_1_2_3 (broadcastInDim S32x16x64x1 ![0, 1, 2] bcast_S32x16x64_S32x16x64x1_0_1_2 (maximumf (broadcastInDim S32x16x64 ![] bcast_S_S32x16x64 (constant S_ .f32 0xFF800000#32)) x))))

def expoR (s : FVec Ideal S32x16x64x576 .f32) : FVec Ideal S32x16x64x576 .f32 := belowR s (maxR s)

theorem max_at (s : FVec Ideal S32x16x64x576 .f32) (n : Fin 32) (h : Fin 16) (i : Fin 64) :
    maxR s (ix3 n h i) = Finset.fold max (Ideal.ofBits FTy.f32 0xFF800000#32) (fun j => s (ix4 n h i j)) Finset.univ := by
  pointwise [maxR]

theorem below_at (s : FVec Ideal S32x16x64x576 .f32) (x : FVec Ideal S32x16x64 .f32) (n : Fin 32) (h : Fin 16) (i : Fin 64) (j : Fin 576) :
    belowR s x (ix4 n h i j) = Ideal.exp (s (ix4 n h i j) - max (Ideal.ofBits FTy.f32 0xFF800000#32) (x (ix3 n h i))) := by
  pointwise [belowR]

theorem expo_at (s : FVec Ideal S32x16x64x576 .f32) (n : Fin 32) (h : Fin 16) (i : Fin 64) (j : Fin 576) :
    expoR s (ix4 n h i j) = expo (fun j => s (ix4 n h i j)) j := by
  unfold expoR expo
  rw [below_at, max_at]
  rw [max_eq_right (Finset.le_fold_max _ |>.mpr (Or.inl le_rfl))]

end Cert.Band.SampleRef

end
-- ==== Proof.Reals.lean ====
/- Facts about extended reals that both programs' values are compared by. -/
module

public import Idealize.ShloMosaic.Lib.Pipeline.ValueKit
public import Idealize.ShloMosaic.Lib.IdealHost

@[expose] public section

noncomputable section

namespace Cert.Gla

open Idealize.ShloMosaic
open scoped BigOperators

/-- One sixteenth, as the kernel spells it. -/
theorem sixteenth : Ideal.ofBits .f32 0x3D800000#32 = (((1 : ℝ) / 16 : ℝ) : EReal) := by
  simp [Ideal.ofBits, Ideal.ieee, -EReal.coe_mul]; norm_num

/-- Sixteen, as the reference spells it. -/
theorem sixteen : Ideal.ofBits .f32 0x41800000#32 = ((16 : ℝ) : EReal) := by
  simp [Ideal.ofBits, Ideal.ieee, -EReal.coe_mul]; norm_num

/-- The gate's log decay of a pre-activation `u`: minus softplus of minus `u`, over sixteen. -/
def lg (u : EReal) : EReal :=
  (0 - (max (0 - u) 0 + Ideal.log1p (Ideal.exp (0 - FloatOps.absf (F := Ideal) (φ := .f32) (0 - u))))) * Ideal.ofBits .f32 0x3D800000#32

theorem exp_nonneg (z : EReal) : 0 ≤ Ideal.exp z := by
  induction z with
  | bot => simp
  | top => simp
  | coe r => simp only [Ideal.exp_coe]; exact EReal.coe_nonneg.mpr (Real.exp_pos r).le

theorem log1p_nonneg {e : EReal} (he : 0 ≤ e) : 0 ≤ Ideal.log1p e := by
  unfold Ideal.log1p
  induction e with
  | bot => simp at he
  | top => rw [show (1 : EReal) + ⊤ = ⊤ from rfl]; exact le_top
  | coe r =>
    have hr : 0 ≤ r := EReal.coe_nonneg.mp he
    rw [show (1 : EReal) + (r : EReal) = ((1 + r : ℝ) : EReal) by norm_cast]
    show 0 ≤ (if 1 + r ≤ 0 then ⊥ else (Real.log (1 + r) : EReal))
    rw [if_neg (by linarith)]
    exact EReal.coe_nonneg.mpr (Real.log_nonneg (by linarith))

/-- A log decay is never plus infinity. -/
theorem lg_ne_top (u : EReal) : lg u ≠ ⊤ := by
  unfold lg
  rw [sixteenth]
  have h : 0 ≤ max (0 - u) 0 + Ideal.log1p (Ideal.exp (0 - FloatOps.absf (F := Ideal) (φ := .f32) (0 - u))) :=
    add_nonneg (le_max_right _ _) (log1p_nonneg (exp_nonneg _))
  generalize max (0 - u) 0 + Ideal.log1p (Ideal.exp (0 - FloatOps.absf (F := Ideal) (φ := .f32) (0 - u))) = s at h
  induction s with
  | bot => simp at h
  | top =>
    rw [show (0 : EReal) - ⊤ = ⊥ from rfl, EReal.bot_mul_coe_of_pos (by norm_num)]
    exact bot_ne_top
  | coe r =>
    rw [show (0 : EReal) - (r : EReal) = ((0 - r : ℝ) : EReal) by norm_cast, ← EReal.coe_mul]
    exact EReal.coe_ne_top _

/-- The three parts a number is split in add up to it. -/
theorem three_parts {x : EReal} (hx : x ≠ ⊤) : x + (x - x) + ((x - x) - (x - x)) = x := by
  induction x with
  | bot => simp
  | top => exact absurd rfl hx
  | coe r =>
    norm_cast
    ring_nf

/-- A running sum taken in three parts by masked products is the running sum. -/
theorem three_sums (i : Fin 64) (x : Fin 64 → EReal) (hx : ∀ j, x j ≠ ⊤) (t : Fin 64 → EReal) (ht : ∀ j, t j = if j ≤ i then 1 else 0) :
    (∑ j, t j * x j) + (∑ j, t j * (x j - x j)) + (∑ j, t j * ((x j - x j) - (x j - x j)))
      = ∑ j, if j ≤ i then x j else 0 := by
  rw [← Finset.sum_add_distrib, ← Finset.sum_add_distrib]
  refine Finset.sum_congr rfl fun j _ => ?_
  rw [ht j]
  split
  · rw [one_mul, one_mul, one_mul, three_parts (hx j)]
  · rw [zero_mul, zero_mul, zero_mul, add_zero, add_zero]

/-- The reference's log decay: softplus of minus `u`, its sign changed, divided by sixteen. -/
theorem lg_eq (u : EReal) :
    Ideal.div (-(max (-u) 0 + Ideal.log1p (Ideal.exp (-FloatOps.absf (F := Ideal) (φ := .f32) (-u - 0))))) (Ideal.ofBits .f32 0x41800000#32) = lg u := by
  unfold lg
  have h16 : Ideal.ofBits .f32 0x41800000#32 ≠ 0 := by rw [sixteen]; norm_cast
  simp only [zero_sub, sub_zero]
  rw [Ideal.div, if_neg h16, sixteen, sixteenth]
  congr 1
  rw [one_div, EReal.coe_inv]

/-- The order of row numbers as the mask's signed comparison reads it. -/
theorem sge_iff (i j : Fin 64) : IntOp.cmpi .sge (BitVec.ofNat 32 i.val) (BitVec.ofNat 32 j.val) = if j ≤ i then 1#1 else 0#1 := by
  revert i j
  decide +kernel

end Cert.Gla

end
-- ==== Proof.Block.lean ====
/- What one grid point computes: a chunk of 64 rows of both sequences and four heads, as functions of the blocks it reads. -/
module

public import proofs.«01_k».proof.Proof.Gen.KernelIdeal.Value
public import proofs.«01_k».proof.Proof.Reals

@[expose] public section

set_option maxRecDepth 16384

noncomputable section

namespace Cert.Gla

open Idealize.ShloMosaic Idealize.ShloMosaic.TcCoe
open Cert.KernelIdeal Cert.KernelIdeal.Gen
open scoped BigOperators

/-- The blocks a grid point reads. -/
structure In where
  q : Vec Ideal S2x64x512 .f32
  k : Vec Ideal S2x64x512 .f32
  v : Vec Ideal S2x64x1024 .f32
  r : Vec Ideal S2x64x1024 .f32
  gl : Vec Ideal S2x64x128 .f32
  w : Vec Ideal S128x512 .bf16
  b : Vec Ideal S1x512 .f32
  n : Vec Ideal S1x256 .f32

/-- Column `d` of head `h` among the 512 key columns. -/
def kc (h : Fin 4) (d : Fin 128) : Fin 512 := ⟨128 * h + d, by omega⟩

/-- Column `v` of head `h` among the 1024 value columns. -/
def vc (h : Fin 4) (v : Fin 256) : Fin 1024 := ⟨256 * h + v, by omega⟩

/-- The slot of sequence `g` and head `h` in the carried state. -/
def slot (g : Fin 2) (h : Fin 4) : Fin 8 := ⟨4 * g + h, by omega⟩

variable (I : In)

/-- The gate's pre-activation. -/
def pre (g : Fin 2) (i : Fin 64) (c : Fin 512) : EReal :=
  ∑ a : Fin 128, I.gl (ix3 g i a) * I.w (ix2 a c) + I.b (ix2 0 c)

/-- The log decay summed up to row `i`. -/
def cum (g : Fin 2) (i : Fin 64) (c : Fin 512) : EReal := ∑ j : Fin 64, if j ≤ i then lg (pre I g j c) else 0

/-- The query scaled by the decay so far. -/
def qe (g : Fin 2) (i : Fin 64) (c : Fin 512) : EReal :=
  I.q (ix3 g i c) * Ideal.ofBits .f32 0x3DB504F3#32 * Ideal.exp (cum I g i c)

/-- The key scaled by the inverse of the decay so far. -/
def ke (g : Fin 2) (i : Fin 64) (c : Fin 512) : EReal := I.k (ix3 g i c) * Ideal.exp (0 - cum I g i c)

/-- The key scaled by the decay to come in the chunk. -/
def kl (g : Fin 2) (i : Fin 64) (c : Fin 512) : EReal := I.k (ix3 g i c) * Ideal.exp (cum I g 63 c - cum I g i c)

/-- The decay over the whole chunk. -/
def dl (g : Fin 2) (c : Fin 512) : EReal := Ideal.exp (cum I g 63 c)

/-- The masked scores. -/
def att (g : Fin 2) (h : Fin 4) (i j : Fin 64) : EReal :=
  if j ≤ i then ∑ d : Fin 128, qe I g i (kc h d) * ke I g j (kc h d) else 0

variable (S : Vec Ideal S8x256x128 .f32)

/-- The mixer's output before its norm: what the chunk's own rows give, and what the state gives. -/
def oo (g : Fin 2) (h : Fin 4) (i : Fin 64) (v : Fin 256) : EReal :=
  ∑ j : Fin 64, att I g h i j * I.v (ix3 g j (vc h v)) + ∑ d : Fin 128, qe I g i (kc h d) * S (ix3 (slot g h) v d)

/-- The state handed on. -/
def ns (g : Fin 2) (h : Fin 4) (v : Fin 256) (d : Fin 128) : EReal :=
  S (ix3 (slot g h) v d) * dl I g (kc h d) + ∑ j : Fin 64, I.v (ix3 g j (vc h v)) * kl I g j (kc h d)

/-- The output: the norm over the head's columns, its weight, and the gate. -/
def out (g : Fin 2) (h : Fin 4) (i : Fin 64) (v : Fin 256) : EReal :=
  oo I S g h i v
      * Ideal.rsqrt (Ideal.div (∑ x : Fin 256, oo I S g h i x * oo I S g h i x) (Ideal.ofBits .f32 0x43800000#32) + Ideal.ofBits .f32 0x358637BD#32)
      * I.n (ix2 0 v)
    * (I.r (ix3 g i (vc h v)) * Ideal.div 1 (1 + Ideal.exp (0 - I.r (ix3 g i (vc h v)))))

/-! The same as arrays. -/

def cumV (g : Fin 2) : FVec Ideal S64x512 .f32 := fun y => cum I g (y 0) (y 1)
def qeV (g : Fin 2) : FVec Ideal S64x512 .bf16 := fun y => qe I g (y 0) (y 1)
def keV (g : Fin 2) : FVec Ideal S64x512 .bf16 := fun y => ke I g (y 0) (y 1)
def klV (g : Fin 2) : FVec Ideal S64x512 .bf16 := fun y => kl I g (y 0) (y 1)
def dlV (g : Fin 2) : FVec Ideal S1x512 .f32 := fun y => dl I g (y 1)
def attV (g : Fin 2) (h : Fin 4) : FVec Ideal S64x64 .bf16 := fun y => att I g h (y 0) (y 1)
def ooV (g : Fin 2) (h : Fin 4) : FVec Ideal S64x256 .f32 := fun y => oo I S g h (y 0) (y 1)

/-! The mask and the decays. -/

theorem mask_at (i j : Fin 64) : k0_pay18 (ix2 i j) = if j ≤ i then 1#1 else 0#1 := by
  rw [← sge_iff]
  pointwise [k0_pay18]

theorem tri_at (i j : Fin 64) : k0_pay19 (F := Ideal) (ix2 i j) = if j ≤ i then 1 else 0 := by
  have h := mask_at i j
  pointwise [k0_pay19]
  rw [h]
  split <;> rfl

theorem cum0_eq : k0_pay25 (F := Ideal) k0_pay19 (k0_pay21 (View.ld I.gl (Rect.unit ![0, 0, 0] ![1, 64, 128] inb_S2x64x128_S1x64x128_0_0_0)) I.w I.b)
      (k0_pay23 (View.ld I.gl (Rect.unit ![0, 0, 0] ![1, 64, 128] inb_S2x64x128_S1x64x128_0_0_0)) I.w I.b)
      (k0_pay24 (View.ld I.gl (Rect.unit ![0, 0, 0] ![1, 64, 128] inb_S2x64x128_S1x64x128_0_0_0)) I.w I.b) = cumV I 0 := by
  funext y
  obtain ⟨i, c, rfl⟩ : ∃ i c, y = ix2 i c := ⟨y 0, y 1, eq_ix2 y⟩
  refine Eq.trans ?_ (three_sums i (fun j => lg (pre I 0 j c)) (fun j => lg_ne_top _) (fun j => k0_pay19 (F := Ideal) (ix2 i j)) (tri_at i))
  pointwise [k0_pay25, k0_pay24, k0_pay23, k0_pay22, k0_pay21, k0_pay20, lg, pre]

theorem cum1_eq : k0_pay33 (F := Ideal) k0_pay19 (k0_pay32 (View.ld I.gl (Rect.unit ![1, 0, 0] ![1, 64, 128] inb_S2x64x128_S1x64x128_1_0_0)) I.w I.b)
      (FloatOps.ofBits FTy.f32 0#32) = cumV I 1 := by
  funext y
  obtain ⟨i, c, rfl⟩ : ∃ i c, y = ix2 i c := ⟨y 0, y 1, eq_ix2 y⟩
  refine Eq.trans ?_ (three_sums i (fun j => lg (pre I 1 j c)) (fun j => lg_ne_top _) (fun j => k0_pay19 (F := Ideal) (ix2 i j)) (tri_at i))
  pointwise [k0_pay33, k0_pay32, lg, pre]

theorem cum1_eqz : k0_pay33 (F := Ideal) k0_pay19 (k0_pay32 (View.ld I.gl (Rect.unit ![1, 0, 0] ![1, 64, 128] inb_S2x64x128_S1x64x128_1_0_0)) I.w I.b)
      (0 : EReal) = cumV I 1 := by
  funext y
  obtain ⟨i, c, rfl⟩ : ∃ i c, y = ix2 i c := ⟨y 0, y 1, eq_ix2 y⟩
  refine Eq.trans ?_ (three_sums i (fun j => lg (pre I 1 j c)) (fun j => lg_ne_top _) (fun j => k0_pay19 (F := Ideal) (ix2 i j)) (tri_at i))
  pointwise [k0_pay33, k0_pay32, lg, pre]

theorem qe0_eq : k0_pay28 (F := Ideal) k0_pay19 (k0_pay21 (View.ld I.gl (Rect.unit ![0, 0, 0] ![1, 64, 128] inb_S2x64x128_S1x64x128_0_0_0)) I.w I.b)
      (k0_pay23 (View.ld I.gl (Rect.unit ![0, 0, 0] ![1, 64, 128] inb_S2x64x128_S1x64x128_0_0_0)) I.w I.b)
      (k0_pay24 (View.ld I.gl (Rect.unit ![0, 0, 0] ![1, 64, 128] inb_S2x64x128_S1x64x128_0_0_0)) I.w I.b) (View.ld I.q (Rect.unit ![0, 0, 0] ![1, 64, 512] inb_S2x64x512_S1x64x512_0_0_0)) = qeV I 0 := by
  funext y
  obtain ⟨i, c, rfl⟩ : ∃ i c, y = ix2 i c := ⟨y 0, y 1, eq_ix2 y⟩
  have h := fun a => congrFun (cum0_eq I) (ix2 a c)
  pointwise [k0_pay28, qeV, qe]
  simp only [h, cumV]
  try rfl

theorem ke0_eq : k0_pay29 (F := Ideal) k0_pay19 (k0_pay21 (View.ld I.gl (Rect.unit ![0, 0, 0] ![1, 64, 128] inb_S2x64x128_S1x64x128_0_0_0)) I.w I.b)
      (k0_pay23 (View.ld I.gl (Rect.unit ![0, 0, 0] ![1, 64, 128] inb_S2x64x128_S1x64x128_0_0_0)) I.w I.b)
      (k0_pay24 (View.ld I.gl (Rect.unit ![0, 0, 0] ![1, 64, 128] inb_S2x64x128_S1x64x128_0_0_0)) I.w I.b) (View.ld I.k (Rect.unit ![0, 0, 0] ![1, 64, 512] inb_S2x64x512_S1x64x512_0_0_0)) = keV I 0 := by
  funext y
  obtain ⟨i, c, rfl⟩ : ∃ i c, y = ix2 i c := ⟨y 0, y 1, eq_ix2 y⟩
  have h := fun a => congrFun (cum0_eq I) (ix2 a c)
  pointwise [k0_pay29, k0_pay27, keV, ke]
  simp only [h, cumV]
  try rfl

theorem kl0_eq : k0_pay30 (F := Ideal) k0_pay19 (k0_pay21 (View.ld I.gl (Rect.unit ![0, 0, 0] ![1, 64, 128] inb_S2x64x128_S1x64x128_0_0_0)) I.w I.b)
      (k0_pay23 (View.ld I.gl (Rect.unit ![0, 0, 0] ![1, 64, 128] inb_S2x64x128_S1x64x128_0_0_0)) I.w I.b)
      (k0_pay24 (View.ld I.gl (Rect.unit ![0, 0, 0] ![1, 64, 128] inb_S2x64x128_S1x64x128_0_0_0)) I.w I.b) (View.ld I.k (Rect.unit ![0, 0, 0] ![1, 64, 512] inb_S2x64x512_S1x64x512_0_0_0)) = klV I 0 := by
  funext y
  obtain ⟨i, c, rfl⟩ : ∃ i c, y = ix2 i c := ⟨y 0, y 1, eq_ix2 y⟩
  have h := fun a => congrFun (cum0_eq I) (ix2 a c)
  pointwise [k0_pay30, k0_pay27, k0_pay26, klV, kl]
  simp only [h, cumV]
  try rfl

theorem dl0_eq : k0_pay31 (F := Ideal) k0_pay19 (k0_pay21 (View.ld I.gl (Rect.unit ![0, 0, 0] ![1, 64, 128] inb_S2x64x128_S1x64x128_0_0_0)) I.w I.b)
      (k0_pay23 (View.ld I.gl (Rect.unit ![0, 0, 0] ![1, 64, 128] inb_S2x64x128_S1x64x128_0_0_0)) I.w I.b)
      (k0_pay24 (View.ld I.gl (Rect.unit ![0, 0, 0] ![1, 64, 128] inb_S2x64x128_S1x64x128_0_0_0)) I.w I.b)  = dlV I 0 := by
  funext y
  obtain ⟨i, c, rfl⟩ : ∃ i c, y = ix2 i c := ⟨y 0, y 1, eq_ix2 y⟩
  have h := fun a => congrFun (cum0_eq I) (ix2 a c)
  pointwise [k0_pay31, k0_pay26, dlV, dl]
  simp only [h, cumV]
  try rfl

theorem qe1_eq : k0_pay36 (F := Ideal) k0_pay19 (k0_pay32 (View.ld I.gl (Rect.unit ![1, 0, 0] ![1, 64, 128] inb_S2x64x128_S1x64x128_1_0_0)) I.w I.b)
      (FloatOps.ofBits FTy.f32 0#32) (View.ld I.q (Rect.unit ![1, 0, 0] ![1, 64, 512] inb_S2x64x512_S1x64x512_1_0_0)) = qeV I 1 := by
  funext y
  obtain ⟨i, c, rfl⟩ : ∃ i c, y = ix2 i c := ⟨y 0, y 1, eq_ix2 y⟩
  have h := fun a => congrFun (cum1_eqz I) (ix2 a c)
  pointwise [k0_pay36, qeV, qe]
  simp only [h, cumV]
  try rfl

theorem ke1_eq : k0_pay37 (F := Ideal) k0_pay19 (k0_pay32 (View.ld I.gl (Rect.unit ![1, 0, 0] ![1, 64, 128] inb_S2x64x128_S1x64x128_1_0_0)) I.w I.b)
      (FloatOps.ofBits FTy.f32 0#32) (View.ld I.k (Rect.unit ![1, 0, 0] ![1, 64, 512] inb_S2x64x512_S1x64x512_1_0_0)) = keV I 1 := by
  funext y
  obtain ⟨i, c, rfl⟩ : ∃ i c, y = ix2 i c := ⟨y 0, y 1, eq_ix2 y⟩
  have h := fun a => congrFun (cum1_eqz I) (ix2 a c)
  pointwise [k0_pay37, k0_pay35, keV, ke]
  simp only [h, cumV]
  try rfl

theorem kl1_eq : k0_pay38 (F := Ideal) k0_pay19 (k0_pay32 (View.ld I.gl (Rect.unit ![1, 0, 0] ![1, 64, 128] inb_S2x64x128_S1x64x128_1_0_0)) I.w I.b)
      (FloatOps.ofBits FTy.f32 0#32) (View.ld I.k (Rect.unit ![1, 0, 0] ![1, 64, 512] inb_S2x64x512_S1x64x512_1_0_0)) = klV I 1 := by
  funext y
  obtain ⟨i, c, rfl⟩ : ∃ i c, y = ix2 i c := ⟨y 0, y 1, eq_ix2 y⟩
  have h := fun a => congrFun (cum1_eqz I) (ix2 a c)
  pointwise [k0_pay38, k0_pay35, k0_pay34, klV, kl]
  simp only [h, cumV]
  try rfl

theorem dl1_eq : k0_pay39 (F := Ideal) k0_pay19 (k0_pay32 (View.ld I.gl (Rect.unit ![1, 0, 0] ![1, 64, 128] inb_S2x64x128_S1x64x128_1_0_0)) I.w I.b)
      (FloatOps.ofBits FTy.f32 0#32)  = dlV I 1 := by
  funext y
  obtain ⟨i, c, rfl⟩ : ∃ i c, y = ix2 i c := ⟨y 0, y 1, eq_ix2 y⟩
  have h := fun a => congrFun (cum1_eqz I) (ix2 a c)
  pointwise [k0_pay39, k0_pay34, dlV, dl]
  simp only [h, cumV]
  try rfl

end Cert.Gla

end
-- ==== Proof.Heads.lean ====
/- Each head's part of a grid point: the masked scores, the output and the state handed on, as the kernel computes them
   from the arrays of the chunk's decays. -/
module

public import proofs.«01_k».proof.Proof.Block

@[expose] public section

set_option maxRecDepth 16384

noncomputable section

namespace Cert.Gla

open Idealize.ShloMosaic Idealize.ShloMosaic.TcCoe
open Cert.KernelIdeal Cert.KernelIdeal.Gen
open scoped BigOperators

theorem kc_zero (d : Fin 128) : kc 0 d = ⟨d, by omega⟩ := Fin.ext (by simp [kc])

theorem vc_zero (v : Fin 256) : vc 0 v = ⟨v, by omega⟩ := Fin.ext (by simp [vc])

theorem select_one {α : Type} (a b : α) : Scalar.select 1#1 a b = a := rfl

theorem select_zero {α : Type} (a b : α) : Scalar.select 0#1 a b = b := rfl

variable (I : In) (S : Vec Ideal S8x256x128 .f32)

theorem att00 : k0_pay57 k0_pay18 (qeV I 0) (keV I 0) = attV I 0 0 := by
  funext y
  obtain ⟨i, j, rfl⟩ : ∃ i j, y = ix2 i j := ⟨y 0, y 1, eq_ix2 y⟩
  have hm := mask_at i j
  pointwise [k0_pay57, attV, att, qeV, keV]
  rw [hm]
  simp only [kc_zero]
  split
  · rw [select_one]
  · rw [select_zero]

theorem oo00 (s : Vec Ideal S1x256x128 .f32) (hs : ∀ v d, s (ix3 0 v d) = S (ix3 (slot 0 0) v d)) :
    k0_pay73 (k0_pay41 (View.ld I.v (Rect.unit ![0, 0, 0] ![1, 64, 256] inb_S2x64x1024_S1x64x256_0_0_0))) (attV I 0 0) (k0_pay66 (qeV I 0) (k0_pay49 s)) = ooV I S 0 0 := by
  funext y
  obtain ⟨i, v, rfl⟩ : ∃ i v, y = ix2 i v := ⟨y 0, y 1, eq_ix2 y⟩
  pointwise [k0_pay73, k0_pay66, k0_pay41, k0_pay49, ooV, oo, attV, qeV]
  simp only [hs, kc_zero, vc_zero]
  try rfl

theorem out00 (i : Fin 64) (v : Fin 256) :
    k0_pay90 (k0_pay40 I.n) (ooV I S 0 0) (View.ld I.r (Rect.unit ![0, 0, 0] ![1, 64, 256] inb_S2x64x1024_S1x64x256_0_0_0)) (ix3 0 i v) = out I S 0 0 i v := by
  pointwise [k0_pay90, k0_pay40, ooV, out]
  simp only [vc_zero]

theorem ns00 (s : Vec Ideal S1x256x128 .f32) (hs : ∀ v d, s (ix3 0 v d) = S (ix3 (slot 0 0) v d)) (v : Fin 256) (d : Fin 128) :
    k0_pay89 (k0_pay88 (klV I 0) (dlV I 0) (k0_pay41 (View.ld I.v (Rect.unit ![0, 0, 0] ![1, 64, 256] inb_S2x64x1024_S1x64x256_0_0_0))) (k0_pay49 s)) (ix3 0 v d) = ns I S 0 0 v d := by
  pointwise [k0_pay89, k0_pay88, k0_pay41, k0_pay49, ns, dlV, klV]
  simp only [hs, kc_zero, vc_zero]
  try rfl

theorem att01 : k0_pay58 k0_pay18 (qeV I 0) (keV I 0) = attV I 0 1 := by
  funext y
  obtain ⟨i, j, rfl⟩ : ∃ i j, y = ix2 i j := ⟨y 0, y 1, eq_ix2 y⟩
  have hm := mask_at i j
  pointwise [k0_pay58, attV, att, qeV, keV]
  rw [hm]
  simp only [kc]
  split
  · rw [select_one]; rfl
  · rw [select_zero]

theorem oo01 (s : Vec Ideal S1x256x128 .f32) (hs : ∀ v d, s (ix3 0 v d) = S (ix3 (slot 0 1) v d)) :
    k0_pay74 (k0_pay42 (View.ld I.v (Rect.unit ![0, 0, 256] ![1, 64, 256] inb_S2x64x1024_S1x64x256_0_0_256))) (attV I 0 1) (k0_pay67 (qeV I 0) (k0_pay50 s)) = ooV I S 0 1 := by
  funext y
  obtain ⟨i, v, rfl⟩ : ∃ i v, y = ix2 i v := ⟨y 0, y 1, eq_ix2 y⟩
  pointwise [k0_pay74, k0_pay67, k0_pay42, k0_pay50, ooV, oo, attV, qeV]
  simp only [hs, kc, vc]
  try rfl

theorem out01 (i : Fin 64) (v : Fin 256) :
    k0_pay93 (k0_pay40 I.n) (ooV I S 0 1) (k0_pay92 (ooV I S 0 1)) (View.ld I.r (Rect.unit ![0, 0, 256] ![1, 64, 256] inb_S2x64x1024_S1x64x256_0_0_256)) (ix3 0 i v) = out I S 0 1 i v := by
  pointwise [k0_pay93, k0_pay92, k0_pay40, ooV, out]
  rfl

theorem ns01 (s : Vec Ideal S1x256x128 .f32) (hs : ∀ v d, s (ix3 0 v d) = S (ix3 (slot 0 1) v d)) (v : Fin 256) (d : Fin 128) :
    k0_pay91 (dlV I 0) (k0_pay50 s) (k0_pay81 (klV I 0) (k0_pay42 (View.ld I.v (Rect.unit ![0, 0, 256] ![1, 64, 256] inb_S2x64x1024_S1x64x256_0_0_256)))) (ix3 0 v d) = ns I S 0 1 v d := by
  pointwise [k0_pay91, k0_pay81, k0_pay42, k0_pay50, ns, dlV, klV]
  simp only [hs, kc, vc]
  try rfl

theorem att02 : k0_pay59 k0_pay18 (qeV I 0) (keV I 0) = attV I 0 2 := by
  funext y
  obtain ⟨i, j, rfl⟩ : ∃ i j, y = ix2 i j := ⟨y 0, y 1, eq_ix2 y⟩
  have hm := mask_at i j
  pointwise [k0_pay59, attV, att, qeV, keV]
  rw [hm]
  simp only [kc]
  split
  · rw [select_one]; rfl
  · rw [select_zero]

theorem oo02 (s : Vec Ideal S1x256x128 .f32) (hs : ∀ v d, s (ix3 0 v d) = S (ix3 (slot 0 2) v d)) :
    k0_pay75 (k0_pay43 (View.ld I.v (Rect.unit ![0, 0, 512] ![1, 64, 256] inb_S2x64x1024_S1x64x256_0_0_512))) (attV I 0 2) (k0_pay68 (qeV I 0) (k0_pay51 s)) = ooV I S 0 2 := by
  funext y
  obtain ⟨i, v, rfl⟩ : ∃ i v, y = ix2 i v := ⟨y 0, y 1, eq_ix2 y⟩
  pointwise [k0_pay75, k0_pay68, k0_pay43, k0_pay51, ooV, oo, attV, qeV]
  simp only [hs, kc, vc]
  try rfl

theorem out02 (i : Fin 64) (v : Fin 256) :
    k0_pay96 (k0_pay40 I.n) (ooV I S 0 2) (k0_pay95 (ooV I S 0 2)) (View.ld I.r (Rect.unit ![0, 0, 512] ![1, 64, 256] inb_S2x64x1024_S1x64x256_0_0_512)) (ix3 0 i v) = out I S 0 2 i v := by
  pointwise [k0_pay96, k0_pay95, k0_pay40, ooV, out]
  rfl

theorem ns02 (s : Vec Ideal S1x256x128 .f32) (hs : ∀ v d, s (ix3 0 v d) = S (ix3 (slot 0 2) v d)) (v : Fin 256) (d : Fin 128) :
    k0_pay94 (dlV I 0) (k0_pay51 s) (k0_pay82 (klV I 0) (k0_pay43 (View.ld I.v (Rect.unit ![0, 0, 512] ![1, 64, 256] inb_S2x64x1024_S1x64x256_0_0_512)))) (ix3 0 v d) = ns I S 0 2 v d := by
  pointwise [k0_pay94, k0_pay82, k0_pay43, k0_pay51, ns, dlV, klV]
  simp only [hs, kc, vc]
  try rfl

theorem att03 : k0_pay61 k0_pay18 (k0_pay60 (qeV I 0) (keV I 0)) (FloatOps.ofBits FTy.f32 0#32) = attV I 0 3 := by
  funext y
  obtain ⟨i, j, rfl⟩ : ∃ i j, y = ix2 i j := ⟨y 0, y 1, eq_ix2 y⟩
  have hm := mask_at i j
  pointwise [k0_pay61, k0_pay60, attV, att, qeV, keV]
  rw [hm]
  simp only [kc]
  split
  · rw [select_one]; rfl
  · rw [select_zero]

theorem oo03 (s : Vec Ideal S1x256x128 .f32) (hs : ∀ v d, s (ix3 0 v d) = S (ix3 (slot 0 3) v d)) :
    k0_pay76 (k0_pay44 (View.ld I.v (Rect.unit ![0, 0, 768] ![1, 64, 256] inb_S2x64x1024_S1x64x256_0_0_768))) (attV I 0 3) (k0_pay69 (qeV I 0) (k0_pay52 s)) = ooV I S 0 3 := by
  funext y
  obtain ⟨i, v, rfl⟩ : ∃ i v, y = ix2 i v := ⟨y 0, y 1, eq_ix2 y⟩
  pointwise [k0_pay76, k0_pay69, k0_pay44, k0_pay52, ooV, oo, attV, qeV]
  simp only [hs, kc, vc]
  try rfl

theorem out03 (i : Fin 64) (v : Fin 256) :
    k0_pay100 (k0_pay98 (k0_pay40 I.n) (ooV I S 0 3)) (k0_pay99 (View.ld I.r (Rect.unit ![0, 0, 768] ![1, 64, 256] inb_S2x64x1024_S1x64x256_0_0_768))) (FloatOps.ofBits FTy.f32 0#32) (ix3 0 i v) = out I S 0 3 i v := by
  pointwise [k0_pay100, k0_pay99, k0_pay98, k0_pay40, ooV, out]
  rfl

theorem ns03 (s : Vec Ideal S1x256x128 .f32) (hs : ∀ v d, s (ix3 0 v d) = S (ix3 (slot 0 3) v d)) (v : Fin 256) (d : Fin 128) :
    k0_pay97 (dlV I 0) (k0_pay52 s) (k0_pay83 (klV I 0) (k0_pay44 (View.ld I.v (Rect.unit ![0, 0, 768] ![1, 64, 256] inb_S2x64x1024_S1x64x256_0_0_768)))) (ix3 0 v d) = ns I S 0 3 v d := by
  pointwise [k0_pay97, k0_pay83, k0_pay44, k0_pay52, ns, dlV, klV]
  simp only [hs, kc, vc]
  try rfl

theorem att10 : k0_pay62 k0_pay18 (qeV I 1) (keV I 1) = attV I 1 0 := by
  funext y
  obtain ⟨i, j, rfl⟩ : ∃ i j, y = ix2 i j := ⟨y 0, y 1, eq_ix2 y⟩
  have hm := mask_at i j
  pointwise [k0_pay62, attV, att, qeV, keV]
  rw [hm]
  simp only [kc_zero]
  split
  · rw [select_one]
  · rw [select_zero]

theorem oo10 (s : Vec Ideal S1x256x128 .f32) (hs : ∀ v d, s (ix3 0 v d) = S (ix3 (slot 1 0) v d)) :
    k0_pay77 (k0_pay45 (View.ld I.v (Rect.unit ![1, 0, 0] ![1, 64, 256] inb_S2x64x1024_S1x64x256_1_0_0))) (attV I 1 0) (k0_pay70 (qeV I 1) (k0_pay53 s)) = ooV I S 1 0 := by
  funext y
  obtain ⟨i, v, rfl⟩ : ∃ i v, y = ix2 i v := ⟨y 0, y 1, eq_ix2 y⟩
  pointwise [k0_pay77, k0_pay70, k0_pay45, k0_pay53, ooV, oo, attV, qeV]
  simp only [hs, kc_zero, vc_zero]
  try rfl

theorem out10 (i : Fin 64) (v : Fin 256) :
    k0_pay105 (k0_pay102 (k0_pay40 I.n) (ooV I S 1 0)) (k0_pay103 (View.ld I.r (Rect.unit ![1, 0, 0] ![1, 64, 256] inb_S2x64x1024_S1x64x256_1_0_0))) (k0_pay104 (View.ld I.r (Rect.unit ![1, 0, 0] ![1, 64, 256] inb_S2x64x1024_S1x64x256_1_0_0))) (ix3 0 i v) = out I S 1 0 i v := by
  pointwise [k0_pay105, k0_pay104, k0_pay103, k0_pay102, k0_pay40, ooV, out]
  simp only [vc_zero]

theorem ns10 (s : Vec Ideal S1x256x128 .f32) (hs : ∀ v d, s (ix3 0 v d) = S (ix3 (slot 1 0) v d)) (v : Fin 256) (d : Fin 128) :
    k0_pay101 (dlV I 1) (k0_pay53 s) (k0_pay84 (klV I 1) (k0_pay45 (View.ld I.v (Rect.unit ![1, 0, 0] ![1, 64, 256] inb_S2x64x1024_S1x64x256_1_0_0)))) (ix3 0 v d) = ns I S 1 0 v d := by
  pointwise [k0_pay101, k0_pay84, k0_pay45, k0_pay53, ns, dlV, klV]
  simp only [hs, kc_zero, vc_zero]
  try rfl

theorem att11 : k0_pay63 k0_pay18 (qeV I 1) (keV I 1) = attV I 1 1 := by
  funext y
  obtain ⟨i, j, rfl⟩ : ∃ i j, y = ix2 i j := ⟨y 0, y 1, eq_ix2 y⟩
  have hm := mask_at i j
  pointwise [k0_pay63, attV, att, qeV, keV]
  rw [hm]
  simp only [kc]
  split
  · rw [select_one]; rfl
  · rw [select_zero]

theorem oo11 (s : Vec Ideal S1x256x128 .f32) (hs : ∀ v d, s (ix3 0 v d) = S (ix3 (slot 1 1) v d)) :
    k0_pay78 (k0_pay46 (View.ld I.v (Rect.unit ![1, 0, 256] ![1, 64, 256] inb_S2x64x1024_S1x64x256_1_0_256))) (attV I 1 1) (k0_pay71 (qeV I 1) (k0_pay54 s)) = ooV I S 1 1 := by
  funext y
  obtain ⟨i, v, rfl⟩ : ∃ i v, y = ix2 i v := ⟨y 0, y 1, eq_ix2 y⟩
  pointwise [k0_pay78, k0_pay71, k0_pay46, k0_pay54, ooV, oo, attV, qeV]
  simp only [hs, kc, vc]
  try rfl

theorem out11 (i : Fin 64) (v : Fin 256) :
    k0_pay107 (k0_pay40 I.n) (ooV I S 1 1) (View.ld I.r (Rect.unit ![1, 0, 256] ![1, 64, 256] inb_S2x64x1024_S1x64x256_1_0_256)) (ix3 0 i v) = out I S 1 1 i v := by
  pointwise [k0_pay107, k0_pay40, ooV, out]
  rfl

theorem ns11 (s : Vec Ideal S1x256x128 .f32) (hs : ∀ v d, s (ix3 0 v d) = S (ix3 (slot 1 1) v d)) (v : Fin 256) (d : Fin 128) :
    k0_pay106 (dlV I 1) (k0_pay54 s) (k0_pay85 (klV I 1) (k0_pay46 (View.ld I.v (Rect.unit ![1, 0, 256] ![1, 64, 256] inb_S2x64x1024_S1x64x256_1_0_256)))) (ix3 0 v d) = ns I S 1 1 v d := by
  pointwise [k0_pay106, k0_pay85, k0_pay46, k0_pay54, ns, dlV, klV]
  simp only [hs, kc, vc]
  try rfl

theorem att12 : k0_pay64 k0_pay18 (qeV I 1) (keV I 1) = attV I 1 2 := by
  funext y
  obtain ⟨i, j, rfl⟩ : ∃ i j, y = ix2 i j := ⟨y 0, y 1, eq_ix2 y⟩
  have hm := mask_at i j
  pointwise [k0_pay64, attV, att, qeV, keV]
  rw [hm]
  simp only [kc]
  split
  · rw [select_one]; rfl
  · rw [select_zero]

theorem oo12 (s : Vec Ideal S1x256x128 .f32) (hs : ∀ v d, s (ix3 0 v d) = S (ix3 (slot 1 2) v d)) :
    k0_pay79 (k0_pay47 (View.ld I.v (Rect.unit ![1, 0, 512] ![1, 64, 256] inb_S2x64x1024_S1x64x256_1_0_512))) (k0_pay55 s) (attV I 1 2) (k0_pay72 (qeV I 1)) = ooV I S 1 2 := by
  funext y
  obtain ⟨i, v, rfl⟩ : ∃ i v, y = ix2 i v := ⟨y 0, y 1, eq_ix2 y⟩
  pointwise [k0_pay79, k0_pay72, k0_pay47, k0_pay55, ooV, oo, attV, qeV]
  simp only [hs, kc, vc]
  try rfl

theorem out12 (i : Fin 64) (v : Fin 256) :
    k0_pay109 (k0_pay40 I.n) (ooV I S 1 2) (View.ld I.r (Rect.unit ![1, 0, 512] ![1, 64, 256] inb_S2x64x1024_S1x64x256_1_0_512)) (ix3 0 i v) = out I S 1 2 i v := by
  pointwise [k0_pay109, k0_pay40, ooV, out]
  rfl

theorem ns12 (s : Vec Ideal S1x256x128 .f32) (hs : ∀ v d, s (ix3 0 v d) = S (ix3 (slot 1 2) v d)) (v : Fin 256) (d : Fin 128) :
    k0_pay108 (dlV I 1) (k0_pay55 s) (k0_pay86 (klV I 1) (k0_pay47 (View.ld I.v (Rect.unit ![1, 0, 512] ![1, 64, 256] inb_S2x64x1024_S1x64x256_1_0_512)))) (ix3 0 v d) = ns I S 1 2 v d := by
  pointwise [k0_pay108, k0_pay86, k0_pay47, k0_pay55, ns, dlV, klV]
  simp only [hs, kc, vc]
  try rfl

theorem att13 : k0_pay65 k0_pay18 (qeV I 1) (keV I 1) = attV I 1 3 := by
  funext y
  obtain ⟨i, j, rfl⟩ : ∃ i j, y = ix2 i j := ⟨y 0, y 1, eq_ix2 y⟩
  have hm := mask_at i j
  pointwise [k0_pay65, attV, att, qeV, keV]
  rw [hm]
  simp only [kc]
  split
  · rw [select_one]; rfl
  · rw [select_zero]

theorem oo13 (s : Vec Ideal S1x256x128 .f32) (hs : ∀ v d, s (ix3 0 v d) = S (ix3 (slot 1 3) v d)) :
    k0_pay80 (qeV I 1) (k0_pay48 (View.ld I.v (Rect.unit ![1, 0, 768] ![1, 64, 256] inb_S2x64x1024_S1x64x256_1_0_768))) (k0_pay56 s) (attV I 1 3) = ooV I S 1 3 := by
  funext y
  obtain ⟨i, v, rfl⟩ : ∃ i v, y = ix2 i v := ⟨y 0, y 1, eq_ix2 y⟩
  pointwise [k0_pay80, k0_pay48, k0_pay56, ooV, oo, attV, qeV]
  simp only [hs, kc, vc]
  try rfl

theorem out13 (i : Fin 64) (v : Fin 256) :
    k0_pay112 (k0_pay40 I.n) (ooV I S 1 3) (View.ld I.r (Rect.unit ![1, 0, 768] ![1, 64, 256] inb_S2x64x1024_S1x64x256_1_0_768)) (ix3 0 i v) = out I S 1 3 i v := by
  pointwise [k0_pay112, k0_pay40, ooV, out]
  rfl

theorem ns13 (s : Vec Ideal S1x256x128 .f32) (hs : ∀ v d, s (ix3 0 v d) = S (ix3 (slot 1 3) v d)) (v : Fin 256) (d : Fin 128) :
    k0_pay111 (k0_pay110 (dlV I 1) (k0_pay56 s) (k0_pay87 (klV I 1) (k0_pay48 (View.ld I.v (Rect.unit ![1, 0, 768] ![1, 64, 256] inb_S2x64x1024_S1x64x256_1_0_768))))) (ix3 0 v d) = ns I S 1 3 v d := by
  pointwise [k0_pay111, k0_pay110, k0_pay87, k0_pay48, k0_pay56, ns, dlV, klV]
  simp only [hs, kc, vc]
  try rfl

end Cert.Gla

end
-- ==== Proof.Points.lean ====
/- What the kernel holds after a grid point: the output block, the carried state and, at the last point, the final state,
   over the state the point before left. -/
module

public import proofs.«01_k».proof.Proof.Heads
public import Idealize.ShloMosaic.Lib.Pipeline.ReadBack

@[expose] public section

set_option maxRecDepth 16384

noncomputable section

namespace Cert.Gla

open Idealize.ShloMosaic Idealize.ShloMosaic.TcCoe
open Cert.KernelIdeal Cert.KernelIdeal.Gen Cert.KernelIdeal.Value
open scoped BigOperators

/-- The output block of a point. -/
def outV (I : In) (S : Vec Ideal S8x256x128 .f32) : Vec Ideal S2x64x1024 .bf16 := fun y =>
  out I S (y 0) ⟨(y 2).val / 256, by have h : (y 2).val < 1024 := (y 2).isLt; omega⟩ (y 1) ⟨(y 2).val % 256, Nat.mod_lt _ (by decide)⟩

/-- The state a point hands on. -/
def nsV (I : In) (S : Vec Ideal S8x256x128 .f32) : Vec Ideal S8x256x128 .f32 := fun y =>
  ns I S ⟨(y 0).val / 4, by have h : (y 0).val < 8 := (y 0).isLt; omega⟩ ⟨(y 0).val % 4, Nat.mod_lt _ (by decide)⟩ (y 1) (y 2)

/-- The final state. -/
def finV (I : In) (S : Vec Ideal S8x256x128 .f32) : Vec Ideal S2x4x128x256 .f32 := fun y =>
  ns I S (y 0) (y 1) (y 3) (y 2)

theorem outV_at (I : In) (S : Vec Ideal S8x256x128 .f32) (g : Fin 2) (h : Fin 4) (P : Vec Ideal S1x64x256 .bf16)
    (hP : ∀ i v, P (ix3 0 i v) = out I S g h i v) (x : S1x64x256.Idx) (y : S2x64x1024.Idx)
    (h0 : (y 0).val = g.val + (x 0).val) (h1 : (y 1).val = (x 1).val) (h2 : (y 2).val = 256 * h.val + (x 2).val) : P x = outV I S y := by
  have x0 : (x 0).val < 1 := (x 0).isLt
  have x2 : (x 2).val < 256 := (x 2).isLt
  have hx : x = ix3 0 (x 1) (x 2) := by
    funext a; apply Fin.ext
    match a with
    | ⟨0, _⟩ => show (x 0).val = 0; omega
    | ⟨1, _⟩ => rfl
    | ⟨2, _⟩ => rfl
  refine ((congrArg P hx).trans (hP (x 1) (x 2))).trans ?_
  have e0 : y 0 = g := Fin.ext (by omega)
  have e1 : y 1 = x 1 := Fin.ext h1
  have e2 : (⟨(y 2).val / 256, by have h : (y 2).val < 1024 := (y 2).isLt; omega⟩ : Fin 4) = h := Fin.ext (by show (y 2).val / 256 = _; omega)
  have e3 : (⟨(y 2).val % 256, Nat.mod_lt _ (by decide)⟩ : Fin 256) = x 2 := Fin.ext (by show (y 2).val % 256 = _; omega)
  show _ = out I S (y 0) _ (y 1) _
  rw [e0, e1, e2, e3]

theorem nsV_at (I : In) (S : Vec Ideal S8x256x128 .f32) (g : Fin 2) (h : Fin 4) (P : Vec Ideal S1x256x128 .f32)
    (hP : ∀ v d, P (ix3 0 v d) = ns I S g h v d) (x : S1x256x128.Idx) (y : S8x256x128.Idx)
    (h0 : (y 0).val = 4 * g.val + h.val + (x 0).val) (h1 : (y 1).val = (x 1).val) (h2 : (y 2).val = (x 2).val) : P x = nsV I S y := by
  have x0 : (x 0).val < 1 := (x 0).isLt
  have hx : x = ix3 0 (x 1) (x 2) := by
    funext a; apply Fin.ext
    match a with
    | ⟨0, _⟩ => show (x 0).val = 0; omega
    | ⟨1, _⟩ => rfl
    | ⟨2, _⟩ => rfl
  refine ((congrArg P hx).trans (hP (x 1) (x 2))).trans ?_
  have e1 : y 1 = x 1 := Fin.ext h1
  have e2 : y 2 = x 2 := Fin.ext h2
  have e3 : (⟨(y 0).val / 4, by have h : (y 0).val < 8 := (y 0).isLt; omega⟩ : Fin 2) = g := Fin.ext (by show (y 0).val / 4 = _; omega)
  have e4 : (⟨(y 0).val % 4, Nat.mod_lt _ (by decide)⟩ : Fin 4) = h := Fin.ext (by show (y 0).val % 4 = _; omega)
  show _ = ns I S _ _ (y 1) (y 2)
  rw [e1, e2, e3, e4]

theorem finV_at (I : In) (S : Vec Ideal S8x256x128 .f32) (g : Fin 2) (h : Fin 4) (P : Vec Ideal S1x1x128x256 .f32)
    (hP : ∀ d v, P (ix4 0 0 d v) = ns I S g h v d) (x : S1x1x128x256.Idx) (y : S2x4x128x256.Idx)
    (h0 : (y 0).val = g.val + (x 0).val) (h1 : (y 1).val = h.val + (x 1).val) (h2 : (y 2).val = (x 2).val) (h3 : (y 3).val = (x 3).val) :
    P x = finV I S y := by
  have x0 : (x 0).val < 1 := (x 0).isLt
  have x1 : (x 1).val < 1 := (x 1).isLt
  have hx : x = ix4 0 0 (x 2) (x 3) := by
    funext a; apply Fin.ext
    match a with
    | ⟨0, _⟩ => show (x 0).val = 0; omega
    | ⟨1, _⟩ => show (x 1).val = 0; omega
    | ⟨2, _⟩ => rfl
    | ⟨3, _⟩ => rfl
  refine ((congrArg P hx).trans (hP (x 2) (x 3))).trans ?_
  have e0 : y 0 = g := Fin.ext (by omega)
  have e1 : y 1 = h := Fin.ext (by omega)
  have e2 : y 2 = x 2 := Fin.ext h2
  have e3 : y 3 = x 3 := Fin.ext h3
  show _ = ns I S (y 0) (y 1) (y 3) (y 2)
  rw [e0, e1, e2, e3]

/-- Stores that cover the buffer hide the earlier ones. -/
theorem canon_drop {s : Shape} {e : EltTy} (L L' : List (View.Piece (Elt Ideal) s e)) (y : s.Idx) (h : ∃ p ∈ L, y ∈ p.1.set) :
    View.canon (L ++ L') y = View.canon L y := by
  induction L with
  | nil => obtain ⟨p, hp, _⟩ := h; simp at hp
  | cons p L ih =>
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hyq⟩ := h
      rcases List.mem_cons.mp hq with rfl | hq'
      · exact absurd hyq hm
      · exact ih ⟨q, hq', hyq⟩

variable (m : (ℓ : Loc nD τ sig) → Buf (Elt Ideal) ℓ) (c : Dev nD)

/-- The blocks point `t` reads. -/
def blk (t : Fin cfg0.N) : In :=
  ⟨X0_0 m c t, X0_1 m c t, X0_2 m c t, X0_3 m c t, iblk m c 4 t, iblk m c 5 t, iblk m c 6 t, iblk m c 7 t⟩

theorem outA (t : Fin cfg0.N) (acc : Vec Ideal S2x64x1024 .bf16 × Vec Ideal S2x4x128x256 .f32 × Vec Ideal S8x256x128 .f32) (h0 : t.val % 128 = 0) (h1 : ¬t.val % 128 = 127) :
    (stAt0 m c t.val t.isLt acc).1 = outV (blk m c t) (fun _ => 0) := by
  funext y
  rw [stAt0_A m c t acc h0 h1]
  frame_out
  set I := blk m c t with hI
  rw [show X0_0 m c t = I.q from rfl, show X0_1 m c t = I.k from rfl, show X0_2 m c t = I.v from rfl, show X0_3 m c t = I.r from rfl, show iblk m c 4 t = I.gl from rfl, show iblk m c 5 t = I.w from rfl, show iblk m c 6 t = I.b from rfl, show iblk m c 7 t = I.n from rfl]
  simp (disch := decide) only [↓ View.readCov_skip, ↓ View.readCov_cons_toLoadRect]
  simp only [qe0_eq, qe1_eq, ke0_eq, ke1_eq]
  canon_tiles x h
  case piece7 =>
    refine outV_at I _ 0 0 _ (fun i v => ?_) x y (by omega) (by omega) (by omega)
    rw [att00, oo00 I (fun _ => 0)]
    · exact out00 I _ i v
    · intro v d
      pointwise [k0_pay5]
  case piece6 =>
    refine outV_at I _ 0 1 _ (fun i v => ?_) x y (by omega) (by omega) (by omega)
    rw [att01, oo01 I (fun _ => 0)]
    · exact out01 I _ i v
    · intro v d
      pointwise [k0_pay6]
  case piece5 =>
    refine outV_at I _ 0 2 _ (fun i v => ?_) x y (by omega) (by omega) (by omega)
    rw [att02, oo02 I (fun _ => 0)]
    · exact out02 I _ i v
    · intro v d
      pointwise [k0_pay7]
  case piece4 =>
    refine outV_at I _ 0 3 _ (fun i v => ?_) x y (by omega) (by omega) (by omega)
    rw [att03, oo03 I (fun _ => 0)]
    · exact out03 I _ i v
    · intro v d
      pointwise [k0_pay8]
  case piece3 =>
    refine outV_at I _ 1 0 _ (fun i v => ?_) x y (by omega) (by omega) (by omega)
    rw [att10, oo10 I (fun _ => 0)]
    · exact out10 I _ i v
    · intro v d
      pointwise [k0_pay9]
  case piece2 =>
    refine outV_at I _ 1 1 _ (fun i v => ?_) x y (by omega) (by omega) (by omega)
    rw [att11, oo11 I (fun _ => 0)]
    · exact out11 I _ i v
    · intro v d
      pointwise [k0_pay10]
  case piece1 =>
    refine outV_at I _ 1 2 _ (fun i v => ?_) x y (by omega) (by omega) (by omega)
    rw [att12, oo12 I (fun _ => 0)]
    · exact out12 I _ i v
    · intro v d
      pointwise [k0_pay16, k0_pay11]
  case piece0 =>
    refine outV_at I _ 1 3 _ (fun i v => ?_) x y (by omega) (by omega) (by omega)
    rw [att13, oo13 I (fun _ => 0)]
    · exact out13 I _ i v
    · intro v d
      pointwise [k0_pay17]

theorem nsA (t : Fin cfg0.N) (acc : Vec Ideal S2x64x1024 .bf16 × Vec Ideal S2x4x128x256 .f32 × Vec Ideal S8x256x128 .f32) (h0 : t.val % 128 = 0) (h1 : ¬t.val % 128 = 127) :
    (stAt0 m c t.val t.isLt acc).2.2 = nsV (blk m c t) (fun _ => 0) := by
  funext y
  rw [stAt0_A m c t acc h0 h1]
  frame_out
  set I := blk m c t with hI
  rw [show X0_1 m c t = I.k from rfl, show X0_2 m c t = I.v from rfl, show iblk m c 4 t = I.gl from rfl, show iblk m c 5 t = I.w from rfl, show iblk m c 6 t = I.b from rfl]
  simp (disch := decide) only [↓ View.readCov_skip, ↓ View.readCov_cons_toLoadRect]
  simp only [kl0_eq, kl1_eq, dl0_eq, dl1_eq]
  refine (canon_drop [_, _, _, _, _, _, _, _] [_, _, _, _, _, _, _, _] y (View.cover_of_tiledL (s := S8x256x128) _ ![1, 256, 128] (by sl_kernel_rfl) y)).trans ?_
  canon_tiles x h
  case piece7 =>
    refine nsV_at I _ 0 0 _ (fun v d => ?_) x y (by dsimp; omega) (by omega) (by omega)
    refine ns00 I _ _ (fun v d => ?_) v d
    pointwise [k0_pay5]
  case piece6 =>
    refine nsV_at I _ 0 1 _ (fun v d => ?_) x y (by dsimp; omega) (by omega) (by omega)
    refine ns01 I _ _ (fun v d => ?_) v d
    pointwise [k0_pay6]
  case piece5 =>
    refine nsV_at I _ 0 2 _ (fun v d => ?_) x y (by dsimp; omega) (by omega) (by omega)
    refine ns02 I _ _ (fun v d => ?_) v d
    pointwise [k0_pay7]
  case piece4 =>
    refine nsV_at I _ 0 3 _ (fun v d => ?_) x y (by dsimp; omega) (by omega) (by omega)
    refine ns03 I _ _ (fun v d => ?_) v d
    pointwise [k0_pay8]
  case piece3 =>
    refine nsV_at I _ 1 0 _ (fun v d => ?_) x y (by dsimp; omega) (by omega) (by omega)
    refine ns10 I _ _ (fun v d => ?_) v d
    pointwise [k0_pay9]
  case piece2 =>
    refine nsV_at I _ 1 1 _ (fun v d => ?_) x y (by dsimp; omega) (by omega) (by omega)
    refine ns11 I _ _ (fun v d => ?_) v d
    pointwise [k0_pay10]
  case piece1 =>
    refine nsV_at I _ 1 2 _ (fun v d => ?_) x y (by dsimp; omega) (by omega) (by omega)
    refine ns12 I _ _ (fun v d => ?_) v d
    pointwise [k0_pay16, k0_pay11]
  case piece0 =>
    refine nsV_at I _ 1 3 _ (fun v d => ?_) x y (by dsimp; omega) (by omega) (by omega)
    refine ns13 I _ _ (fun v d => ?_) v d
    pointwise [k0_pay17]

theorem outB (t : Fin cfg0.N) (acc : Vec Ideal S2x64x1024 .bf16 × Vec Ideal S2x4x128x256 .f32 × Vec Ideal S8x256x128 .f32) (h0 : ¬t.val % 128 = 0) (h1 : ¬t.val % 128 = 127) :
    (stAt0 m c t.val t.isLt acc).1 = outV (blk m c t) acc.2.2 := by
  funext y
  rw [stAt0_B m c t acc h0 h1]
  frame_out
  set I := blk m c t with hI
  rw [show X0_0 m c t = I.q from rfl, show X0_1 m c t = I.k from rfl, show X0_2 m c t = I.v from rfl, show X0_3 m c t = I.r from rfl, show iblk m c 4 t = I.gl from rfl, show iblk m c 5 t = I.w from rfl, show iblk m c 6 t = I.b from rfl, show iblk m c 7 t = I.n from rfl]
  skip
  simp only [qe0_eq, qe1_eq, ke0_eq, ke1_eq]
  canon_tiles x h
  case piece7 =>
    refine outV_at I _ 0 0 _ (fun i v => ?_) x y (by omega) (by omega) (by omega)
    rw [att00, oo00 I acc.2.2]
    · exact out00 I _ i v
    · intro v d
      rw [read_unread_whole]; pointwise []; rfl
  case piece6 =>
    refine outV_at I _ 0 1 _ (fun i v => ?_) x y (by omega) (by omega) (by omega)
    rw [att01, oo01 I acc.2.2]
    · exact out01 I _ i v
    · intro v d
      rw [read_unread_whole]; pointwise []; rfl
  case piece5 =>
    refine outV_at I _ 0 2 _ (fun i v => ?_) x y (by omega) (by omega) (by omega)
    rw [att02, oo02 I acc.2.2]
    · exact out02 I _ i v
    · intro v d
      rw [read_unread_whole]; pointwise []; rfl
  case piece4 =>
    refine outV_at I _ 0 3 _ (fun i v => ?_) x y (by omega) (by omega) (by omega)
    rw [att03, oo03 I acc.2.2]
    · exact out03 I _ i v
    · intro v d
      rw [read_unread_whole]; pointwise []; rfl
  case piece3 =>
    refine outV_at I _ 1 0 _ (fun i v => ?_) x y (by omega) (by omega) (by omega)
    rw [att10, oo10 I acc.2.2]
    · exact out10 I _ i v
    · intro v d
      rw [read_unread_whole]; pointwise []; rfl
  case piece2 =>
    refine outV_at I _ 1 1 _ (fun i v => ?_) x y (by omega) (by omega) (by omega)
    rw [att11, oo11 I acc.2.2]
    · exact out11 I _ i v
    · intro v d
      rw [read_unread_whole]; pointwise []; rfl
  case piece1 =>
    refine outV_at I _ 1 2 _ (fun i v => ?_) x y (by omega) (by omega) (by omega)
    rw [att12, oo12 I acc.2.2]
    · exact out12 I _ i v
    · intro v d
      rw [read_unread_whole]; pointwise []; rfl
  case piece0 =>
    refine outV_at I _ 1 3 _ (fun i v => ?_) x y (by omega) (by omega) (by omega)
    rw [att13, oo13 I acc.2.2]
    · exact out13 I _ i v
    · intro v d
      rw [read_unread_whole]; pointwise []; rfl

theorem nsB (t : Fin cfg0.N) (acc : Vec Ideal S2x64x1024 .bf16 × Vec Ideal S2x4x128x256 .f32 × Vec Ideal S8x256x128 .f32) (h0 : ¬t.val % 128 = 0) (h1 : ¬t.val % 128 = 127) :
    (stAt0 m c t.val t.isLt acc).2.2 = nsV (blk m c t) acc.2.2 := by
  funext y
  rw [stAt0_B m c t acc h0 h1]
  frame_out
  set I := blk m c t with hI
  rw [show X0_1 m c t = I.k from rfl, show X0_2 m c t = I.v from rfl, show iblk m c 4 t = I.gl from rfl, show iblk m c 5 t = I.w from rfl, show iblk m c 6 t = I.b from rfl]
  skip
  simp only [kl0_eq, kl1_eq, dl0_eq, dl1_eq]
  skip
  canon_tiles x h
  case piece7 =>
    refine nsV_at I _ 0 0 _ (fun v d => ?_) x y (by dsimp; omega) (by omega) (by omega)
    refine ns00 I _ _ (fun v d => ?_) v d
    rw [read_unread_whole]; pointwise []; rfl
  case piece6 =>
    refine nsV_at I _ 0 1 _ (fun v d => ?_) x y (by dsimp; omega) (by omega) (by omega)
    refine ns01 I _ _ (fun v d => ?_) v d
    rw [read_unread_whole]; pointwise []; rfl
  case piece5 =>
    refine nsV_at I _ 0 2 _ (fun v d => ?_) x y (by dsimp; omega) (by omega) (by omega)
    refine ns02 I _ _ (fun v d => ?_) v d
    rw [read_unread_whole]; pointwise []; rfl
  case piece4 =>
    refine nsV_at I _ 0 3 _ (fun v d => ?_) x y (by dsimp; omega) (by omega) (by omega)
    refine ns03 I _ _ (fun v d => ?_) v d
    rw [read_unread_whole]; pointwise []; rfl
  case piece3 =>
    refine nsV_at I _ 1 0 _ (fun v d => ?_) x y (by dsimp; omega) (by omega) (by omega)
    refine ns10 I _ _ (fun v d => ?_) v d
    rw [read_unread_whole]; pointwise []; rfl
  case piece2 =>
    refine nsV_at I _ 1 1 _ (fun v d => ?_) x y (by dsimp; omega) (by omega) (by omega)
    refine ns11 I _ _ (fun v d => ?_) v d
    rw [read_unread_whole]; pointwise []; rfl
  case piece1 =>
    refine nsV_at I _ 1 2 _ (fun v d => ?_) x y (by dsimp; omega) (by omega) (by omega)
    refine ns12 I _ _ (fun v d => ?_) v d
    rw [read_unread_whole]; pointwise []; rfl
  case piece0 =>
    refine nsV_at I _ 1 3 _ (fun v d => ?_) x y (by dsimp; omega) (by omega) (by omega)
    refine ns13 I _ _ (fun v d => ?_) v d
    rw [read_unread_whole]; pointwise []; rfl

theorem outC (t : Fin cfg0.N) (acc : Vec Ideal S2x64x1024 .bf16 × Vec Ideal S2x4x128x256 .f32 × Vec Ideal S8x256x128 .f32) (h0 : ¬t.val % 128 = 0) (h1 : t.val % 128 = 127) :
    (stAt0 m c t.val t.isLt acc).1 = outV (blk m c t) acc.2.2 := by
  funext y
  rw [stAt0_C m c t acc h0 h1]
  frame_out
  set I := blk m c t with hI
  rw [show X0_0 m c t = I.q from rfl, show X0_1 m c t = I.k from rfl, show X0_2 m c t = I.v from rfl, show X0_3 m c t = I.r from rfl, show iblk m c 4 t = I.gl from rfl, show iblk m c 5 t = I.w from rfl, show iblk m c 6 t = I.b from rfl, show iblk m c 7 t = I.n from rfl]
  skip
  simp only [qe0_eq, qe1_eq, ke0_eq, ke1_eq]
  canon_tiles x h
  case piece7 =>
    refine outV_at I _ 0 0 _ (fun i v => ?_) x y (by omega) (by omega) (by omega)
    rw [att00, oo00 I acc.2.2]
    · exact out00 I _ i v
    · intro v d
      rw [read_unread_whole]; pointwise []; rfl
  case piece6 =>
    refine outV_at I _ 0 1 _ (fun i v => ?_) x y (by omega) (by omega) (by omega)
    rw [att01, oo01 I acc.2.2]
    · exact out01 I _ i v
    · intro v d
      rw [read_unread_whole]; pointwise []; rfl
  case piece5 =>
    refine outV_at I _ 0 2 _ (fun i v => ?_) x y (by omega) (by omega) (by omega)
    rw [att02, oo02 I acc.2.2]
    · exact out02 I _ i v
    · intro v d
      rw [read_unread_whole]; pointwise []; rfl
  case piece4 =>
    refine outV_at I _ 0 3 _ (fun i v => ?_) x y (by omega) (by omega) (by omega)
    rw [att03, oo03 I acc.2.2]
    · exact out03 I _ i v
    · intro v d
      rw [read_unread_whole]; pointwise []; rfl
  case piece3 =>
    refine outV_at I _ 1 0 _ (fun i v => ?_) x y (by omega) (by omega) (by omega)
    rw [att10, oo10 I acc.2.2]
    · exact out10 I _ i v
    · intro v d
      rw [read_unread_whole]; pointwise []; rfl
  case piece2 =>
    refine outV_at I _ 1 1 _ (fun i v => ?_) x y (by omega) (by omega) (by omega)
    rw [att11, oo11 I acc.2.2]
    · exact out11 I _ i v
    · intro v d
      rw [read_unread_whole]; pointwise []; rfl
  case piece1 =>
    refine outV_at I _ 1 2 _ (fun i v => ?_) x y (by omega) (by omega) (by omega)
    rw [att12, oo12 I acc.2.2]
    · exact out12 I _ i v
    · intro v d
      rw [read_unread_whole]; pointwise []; rfl
  case piece0 =>
    refine outV_at I _ 1 3 _ (fun i v => ?_) x y (by omega) (by omega) (by omega)
    rw [att13, oo13 I acc.2.2]
    · exact out13 I _ i v
    · intro v d
      rw [read_unread_whole]; pointwise []; rfl

theorem nsC (t : Fin cfg0.N) (acc : Vec Ideal S2x64x1024 .bf16 × Vec Ideal S2x4x128x256 .f32 × Vec Ideal S8x256x128 .f32) (h0 : ¬t.val % 128 = 0) (h1 : t.val % 128 = 127) :
    (stAt0 m c t.val t.isLt acc).2.2 = nsV (blk m c t) acc.2.2 := by
  funext y
  rw [stAt0_C m c t acc h0 h1]
  frame_out
  set I := blk m c t with hI
  rw [show X0_1 m c t = I.k from rfl, show X0_2 m c t = I.v from rfl, show iblk m c 4 t = I.gl from rfl, show iblk m c 5 t = I.w from rfl, show iblk m c 6 t = I.b from rfl]
  skip
  simp only [kl0_eq, kl1_eq, dl0_eq, dl1_eq]
  skip
  canon_tiles x h
  case piece7 =>
    refine nsV_at I _ 0 0 _ (fun v d => ?_) x y (by dsimp; omega) (by omega) (by omega)
    refine ns00 I _ _ (fun v d => ?_) v d
    rw [read_unread_whole]; pointwise []; rfl
  case piece6 =>
    refine nsV_at I _ 0 1 _ (fun v d => ?_) x y (by dsimp; omega) (by omega) (by omega)
    refine ns01 I _ _ (fun v d => ?_) v d
    rw [read_unread_whole]; pointwise []; rfl
  case piece5 =>
    refine nsV_at I _ 0 2 _ (fun v d => ?_) x y (by dsimp; omega) (by omega) (by omega)
    refine ns02 I _ _ (fun v d => ?_) v d
    rw [read_unread_whole]; pointwise []; rfl
  case piece4 =>
    refine nsV_at I _ 0 3 _ (fun v d => ?_) x y (by dsimp; omega) (by omega) (by omega)
    refine ns03 I _ _ (fun v d => ?_) v d
    rw [read_unread_whole]; pointwise []; rfl
  case piece3 =>
    refine nsV_at I _ 1 0 _ (fun v d => ?_) x y (by dsimp; omega) (by omega) (by omega)
    refine ns10 I _ _ (fun v d => ?_) v d
    rw [read_unread_whole]; pointwise []; rfl
  case piece2 =>
    refine nsV_at I _ 1 1 _ (fun v d => ?_) x y (by dsimp; omega) (by omega) (by omega)
    refine ns11 I _ _ (fun v d => ?_) v d
    rw [read_unread_whole]; pointwise []; rfl
  case piece1 =>
    refine nsV_at I _ 1 2 _ (fun v d => ?_) x y (by dsimp; omega) (by omega) (by omega)
    refine ns12 I _ _ (fun v d => ?_) v d
    rw [read_unread_whole]; pointwise []; rfl
  case piece0 =>
    refine nsV_at I _ 1 3 _ (fun v d => ?_) x y (by dsimp; omega) (by omega) (by omega)
    refine ns13 I _ _ (fun v d => ?_) v d
    rw [read_unread_whole]; pointwise []; rfl

theorem turn12 (s : Vec Ideal S1x256x128 .f32) (d : Fin 128) (v : Fin 256) : k0_pay12 s (ix4 0 0 d v) = s (ix3 0 v d) := by
  pointwise [k0_pay12]

theorem turn13 (s : Vec Ideal S1x256x128 .f32) (d : Fin 128) (v : Fin 256) : k0_pay13 s (ix4 0 0 d v) = s (ix3 0 v d) := by
  pointwise [k0_pay13]

theorem turn14 (s : Vec Ideal S1x256x128 .f32) (d : Fin 128) (v : Fin 256) : k0_pay14 s (ix4 0 0 d v) = s (ix3 0 v d) := by
  pointwise [k0_pay14]

theorem turn15 (s : Vec Ideal S1x256x128 .f32) (d : Fin 128) (v : Fin 256) : k0_pay15 s (ix4 0 0 d v) = s (ix3 0 v d) := by
  pointwise [k0_pay15]

theorem turn1 (s : Vec Ideal S1x256x128 .f32) (d : Fin 128) (v : Fin 256) : k0_pay1 s (ix4 0 0 d v) = s (ix3 0 v d) := by
  pointwise [k0_pay1]

theorem turn2 (s : Vec Ideal S1x256x128 .f32) (d : Fin 128) (v : Fin 256) : k0_pay2 s (ix4 0 0 d v) = s (ix3 0 v d) := by
  pointwise [k0_pay2]

theorem turn3 (s : Vec Ideal S1x256x128 .f32) (d : Fin 128) (v : Fin 256) : k0_pay3 s (ix4 0 0 d v) = s (ix3 0 v d) := by
  pointwise [k0_pay3]

theorem turn4 (s : Vec Ideal S1x256x128 .f32) (d : Fin 128) (v : Fin 256) : k0_pay4 s (ix4 0 0 d v) = s (ix3 0 v d) := by
  pointwise [k0_pay4]

theorem finC (t : Fin cfg0.N) (acc : Vec Ideal S2x64x1024 .bf16 × Vec Ideal S2x4x128x256 .f32 × Vec Ideal S8x256x128 .f32) (h0 : ¬t.val % 128 = 0) (h1 : t.val % 128 = 127) :
    (stAt0 m c t.val t.isLt acc).2.1 = finV (blk m c t) acc.2.2 := by
  funext y
  rw [stAt0_C m c t acc h0 h1]
  frame_out
  set I := blk m c t with hI
  rw [show X0_1 m c t = I.k from rfl, show X0_2 m c t = I.v from rfl, show iblk m c 4 t = I.gl from rfl, show iblk m c 5 t = I.w from rfl, show iblk m c 6 t = I.b from rfl]
  simp (disch := decide) only [↓ View.readCov_skip, ↓ View.readCov_cons_toLoadRect]
  simp only [kl0_eq, kl1_eq, dl0_eq, dl1_eq]
  canon_tiles x h
  case piece7 =>
    refine finV_at I _ 0 0 _ (fun d v => ?_) x y (by omega) (by dsimp; omega) (by omega) (by omega)
    rw [turn12]
    refine ns00 I _ _ (fun v d => ?_) v d
    rw [read_unread_whole]; pointwise []; rfl
  case piece6 =>
    refine finV_at I _ 0 1 _ (fun d v => ?_) x y (by omega) (by dsimp; omega) (by omega) (by omega)
    rw [turn13]
    refine ns01 I _ _ (fun v d => ?_) v d
    rw [read_unread_whole]; pointwise []; rfl
  case piece5 =>
    refine finV_at I _ 0 2 _ (fun d v => ?_) x y (by omega) (by dsimp; omega) (by omega) (by omega)
    rw [turn14]
    refine ns02 I _ _ (fun v d => ?_) v d
    rw [read_unread_whole]; pointwise []; rfl
  case piece4 =>
    refine finV_at I _ 0 3 _ (fun d v => ?_) x y (by omega) (by dsimp; omega) (by omega) (by omega)
    rw [turn15]
    refine ns03 I _ _ (fun v d => ?_) v d
    rw [read_unread_whole]; pointwise []; rfl
  case piece3 =>
    refine finV_at I _ 1 0 _ (fun d v => ?_) x y (by omega) (by dsimp; omega) (by omega) (by omega)
    rw [turn1]
    refine ns10 I _ _ (fun v d => ?_) v d
    rw [read_unread_whole]; pointwise []; rfl
  case piece2 =>
    refine finV_at I _ 1 1 _ (fun d v => ?_) x y (by omega) (by dsimp; omega) (by omega) (by omega)
    rw [turn2]
    refine ns11 I _ _ (fun v d => ?_) v d
    rw [read_unread_whole]; pointwise []; rfl
  case piece1 =>
    refine finV_at I _ 1 2 _ (fun d v => ?_) x y (by omega) (by dsimp; omega) (by omega) (by omega)
    rw [turn3]
    refine ns12 I _ _ (fun v d => ?_) v d
    rw [read_unread_whole]; pointwise []; rfl
  case piece0 =>
    refine finV_at I _ 1 3 _ (fun d v => ?_) x y (by omega) (by dsimp; omega) (by omega) (by omega)
    rw [turn4]
    refine ns13 I _ _ (fun v d => ?_) v d
    rw [read_unread_whole]; pointwise []; rfl

end Cert.Gla

end
-- ==== Proof.BandAttRef.lean ====
/- The reference of the band attention over the sample, read at an index. -/
module

public import proofs.«01_k».proof.Proof.BandAttEnds
public import proofs.«01_k».proof.Proof.BandAttMax
public import proofs.«01_k».proof.Proof.Points
public import proofs.«01_k».proof.Proof.Gen.Reference13Ideal.Run

@[expose] public section

set_option maxRecDepth 16384

noncomputable section

namespace Cert.Band.SampleRef

open Idealize.ShloMosaic Idealize.ShloMosaic.TcCoe
open Cert.Reference13Ideal Cert.Reference13Ideal.Gen
open Cert.Band.Sample (score expo attn attn_congr rows col head lane attAt bandAll)
open scoped BigOperators

/-! ## The positions and what a row may look at -/

def posQ : IVec S64 32 := addi (broadcastInDim S64 ![] bcast_S_S64 (constantI S_ 32 4096#32)) (iotaInDim S64 32 0)

def posK : IVec S576 32 :=
  concatenate S576 0 [⟨S512, (addi (broadcastInDim S512 ![] bcast_S_S512 (constantI S_ 32 3584#32)) (iotaInDim S512 32 0))⟩, ⟨S64, posQ⟩] concatenates_S512_S64_S576_d0

def chunkK (x : IVec S576 32) : IVec S576 32 :=
  have n := broadcastInDim S576 ![] bcast_S_S576 (id (constantI S_ 32 64#32))
  have d := Host.divsi x n
  select (andi (cmpi .ne (signi x) (broadcastInDim S576 ![] bcast_S_S576 (signi (id (constantI S_ 32 64#32))))) (cmpi .ne (Host.remsi x n) (broadcastInDim S576 ![] bcast_S_S576 (constantI S_ 32 0#32)))) (subi d (broadcastInDim S576 ![] bcast_S_S576 (constantI S_ 32 1#32))) d

def chunkQ (x : IVec S64 32) : IVec S64 32 :=
  have n := broadcastInDim S64 ![] bcast_S_S64 (id (constantI S_ 32 64#32))
  have d := Host.divsi x n
  select (andi (cmpi .ne (signi x) (broadcastInDim S64 ![] bcast_S_S64 (signi (id (constantI S_ 32 64#32))))) (cmpi .ne (Host.remsi x n) (broadcastInDim S64 ![] bcast_S_S64 (constantI S_ 32 0#32)))) (subi d (broadcastInDim S64 ![] bcast_S_S64 (constantI S_ 32 1#32))) d

def visR (pk ck : IVec S576 32) (cq : IVec S64 32) : IVec S64x576 1 :=
  have k := broadcastInDim S64x576 ![0, 1] bcast_S1x576_S64x576_0_1 (broadcastInDim S1x576 ![1] bcast_S576_S1x576_1 ck)
  have q := broadcastInDim S64x1 ![0] bcast_S64_S64x1_0 cq
  andi (andi (broadcastInDim S64x576 ![0, 1] bcast_S1x576_S64x576_0_1 (cmpi .sge (broadcastInDim S1x576 ![1] bcast_S576_S1x576_1 pk) (broadcastInDim S1x576 ![] bcast_S_S1x576 (constantI S_ 32 0#32)))) (cmpi .sle k (broadcastInDim S64x576 ![0, 1] bcast_S64x1_S64x576_0_1 q)))
    (cmpi .sge k (broadcastInDim S64x576 ![0, 1] bcast_S64x1_S64x576_0_1 (subi q (broadcastInDim S64x1 ![] bcast_S_S64x1 (constantI S_ 32 8#32)))))

/-! ## The stages of the reference -/

def rowsR (x : FVec Ideal S32x512x16x64 .f32) (z : FVec Ideal S2048x1024 .bf16) : FVec Ideal S32x576x16x64 .f32 :=
  concatenate S32x576x16x64 1 [⟨S32x512x16x64, x⟩, ⟨S32x64x16x64, (extf .f32 (shapeCast _ z shapeCasts_S2048x1024_S32x64x16x64) bitsLt_bf16_f32 : FVec Ideal S32x64x16x64 .f32)⟩] concatenates_S32x512x16x64_S32x64x16x64_S32x576x16x64_d1

def scoreR (q : FVec Ideal S2048x1024 .bf16) (k : FVec Ideal S32x576x16x64 .f32) (b : FVec Ideal S8x128x576 .f32) : FVec Ideal S32x16x64x576 .f32 :=
  addf (Host.dotGeneral dot_S32x64x16x64_S32x576x16x64_S32x16x64x576_3_3_1_1_02_02 none (extf .f32 (shapeCast _ q shapeCasts_S2048x1024_S32x64x16x64) bitsLt_bf16_f32 : FVec Ideal S32x64x16x64 .f32) k)
    (broadcastInDim S32x16x64x576 ![0, 1, 2, 3] bcast_S1x16x64x576_S32x16x64x576_0_1_2_3 (broadcastInDim S1x16x64x576 ![1, 2, 3] bcast_S16x64x576_S1x16x64x576_1_2_3 (shapeCast _ b shapeCasts_S8x128x576_S16x64x576)))

def seenR (w : IVec S64x576 1) (s : FVec Ideal S32x16x64x576 .f32) : FVec Ideal S32x16x64x576 .f32 :=
  select (broadcastInDim S32x16x64x576 ![0, 1, 2, 3] bcast_S1x1x64x576_S32x16x64x576_0_1_2_3 (broadcastInDim S1x1x64x576 ![2, 3] bcast_S64x576_S1x1x64x576_2_3 w)) s
    (broadcastInDim S32x16x64x576 ![] bcast_S_S32x16x64x576 (id (constant S_ .f32 0xFF800000#32)))

def outR (v : FVec Ideal S32x576x16x64 .f32) (e : FVec Ideal S32x16x64x576 .f32) : FVec Ideal S2048x1024 .bf16 :=
  truncf .bf16 (shapeCast _ (transpose S32x64x16x64 [0, 3, 1, 2] (Host.dotGeneral dot_S32x576x16x64_S32x16x64x576_S32x16x64x64_1_3_3_2_02_01 none v (Host.divf e (broadcastInDim S32x16x64x576 ![0, 1, 2, 3] bcast_S32x16x64x1_S32x16x64x576_0_1_2_3 (broadcastInDim S32x16x64x1 ![0, 1, 2] bcast_S32x16x64_S32x16x64x1_0_1_2 (Host.reduceAdd e (constant S_ .f32 0x00000000#32) reducesTo_S32x16x64x576_S32x16x64_d3 h_S_))) : FVec Ideal S32x16x64x576 .f32)) transposes_S32x16x64x64_S32x64x16x64_0_3_1_2) shapeCasts_S32x64x16x64_S2048x1024) bitsLt_bf16_f32

variable (m : (ℓ : Loc nD τ sig) → Buf (Elt Ideal) ℓ) (c : Dev nD)

abbrev A0 : FVec Ideal S2048x1024 .bf16 := m ((c.tc : Thread nD τ).loc main_arg0)
abbrev A1 : FVec Ideal S2048x1024 .bf16 := m ((c.tc : Thread nD τ).loc main_arg1)
abbrev A2 : FVec Ideal S2048x1024 .bf16 := m ((c.tc : Thread nD τ).loc main_arg2)
abbrev A3 : FVec Ideal S32x512x16x64 .f32 := m ((c.tc : Thread nD τ).loc main_arg3)
abbrev A4 : FVec Ideal S32x512x16x64 .f32 := m ((c.tc : Thread nD τ).loc main_arg4)
abbrev A5 : FVec Ideal S8x128x576 .f32 := m ((c.tc : Thread nD τ).loc main_arg5)

theorem stages : Value.res_main_v59 m c = outR (rowsR (A4 m c) (A2 m c)) (expoR (seenR (visR posK (chunkK posK) (chunkQ posQ)) (scoreR (A0 m c) (rowsR (A3 m c) (A1 m c)) (A5 m c)))) := rfl

theorem posQ_at (i : Fin 64) : posQ (ix1 i) = BitVec.ofNat 32 (4096 + i.val) := by
  pointwise [posQ]
  try (revert i; decide +kernel)

theorem posK_at (j : Fin 576) : posK (ix1 j) = BitVec.ofNat 32 (3584 + j.val) := by
  pointwise [posK, posQ]
  try (revert j; decide +kernel)

theorem chunkQ_at (x : IVec S64 32) (i : Fin 64) (hx : x (ix1 i) = BitVec.ofNat 32 (4096 + i.val)) : chunkQ x (ix1 i) = 64#32 := by
  pointwise [chunkQ]
  simp only [hx]
  clear hx
  revert i
  decide +kernel

theorem chunkK_at (x : IVec S576 32) (j : Fin 576) (hx : x (ix1 j) = BitVec.ofNat 32 (3584 + j.val)) : chunkK x (ix1 j) = BitVec.ofNat 32 (56 + j.val / 64) := by
  pointwise [chunkK]
  simp only [hx]
  clear hx
  revert j
  decide +kernel

theorem vis_at (i : Fin 64) (j : Fin 576) : visR posK (chunkK posK) (chunkQ posQ) (ix2 i j) = 1#1 := by
  pointwise [visR]
  rw [posK_at, chunkK_at _ _ (posK_at j), chunkQ_at _ _ (posQ_at i)]
  clear i
  revert j
  decide +kernel

theorem rows_at (x : FVec Ideal S32x512x16x64 .f32) (z : FVec Ideal S2048x1024 .bf16) (n : Fin 32) (j : Fin 576) (h : Fin 16) (d : Fin 64) :
    rowsR x z (ix4 n j h d) = rows x z n h j d := by
  pointwise [rowsR]
  unfold rows
  refine dite_congr rfl (fun _ => rfl) fun _ => congrArg (fun l => z (ix2 _ l)) (Fin.ext ?_)
  dsimp only [col]
  omega

theorem score_at (q : FVec Ideal S2048x1024 .bf16) (k : FVec Ideal S32x576x16x64 .f32) (b : FVec Ideal S8x128x576 .f32) (n : Fin 32) (h : Fin 16) (i : Fin 64) (j : Fin 576) :
    scoreR q k b (ix4 n h i j) = score (fun e => q (ix2 ⟨n.val * 64 + i.val, by omega⟩ (col h e))) (fun j e => k (ix4 n j h e))
      (fun j => b (ix3 ⟨h.val / 2, by omega⟩ ⟨64 * (h.val % 2) + i.val, by omega⟩ j)) j := by
  pointwise [scoreR]
  unfold score
  refine congrArg₂ (· + ·) (Finset.sum_congr rfl fun x _ => congrArg (fun l => q (ix2 _ l) * _) (Fin.ext ?_)) (congrArg (fun l => b (ix3 _ l j)) (Fin.ext ?_))
  · dsimp only [col]; omega
  · dsimp only; omega

theorem seen_at (w : IVec S64x576 1) (s : FVec Ideal S32x16x64x576 .f32) (hw : ∀ i j, w (ix2 i j) = 1#1) (n : Fin 32) (h : Fin 16) (i : Fin 64) (j : Fin 576) :
    seenR w s (ix4 n h i j) = s (ix4 n h i j) := by
  pointwise [seenR]
  rw [hw]
  exact rfl

theorem out_at (v : FVec Ideal S32x576x16x64 .f32) (e : FVec Ideal S32x16x64x576 .f32) (r : Fin 2048) (l : Fin 1024) :
    outR v e (ix2 r l) = ∑ j, Ideal.div (e (ix4 ⟨r.val / 64, by omega⟩ (head l) ⟨r.val % 64, by omega⟩ j)) (∑ i, e (ix4 ⟨r.val / 64, by omega⟩ (head l) ⟨r.val % 64, by omega⟩ i))
      * v (ix4 ⟨r.val / 64, by omega⟩ j (head l) (lane l)) := by
  pointwise [outR]
  exact Finset.sum_congr rfl fun x _ => mul_comm _ _

theorem final : Value.res_main_v59 m c = bandAll (A0 m c) (A1 m c) (A2 m c) (A3 m c) (A4 m c) (A5 m c) := by
  rw [stages]
  funext y
  refine (congrArg _ (eq_ix2 y)).trans ((out_at _ _ (y 0) (y 1)).trans ?_)
  unfold bandAll attAt attn
  have es (n : Fin 32) (h : Fin 16) (i : Fin 64) (j : Fin 576) :
      expoR (seenR (visR posK (chunkK posK) (chunkQ posQ)) (scoreR (A0 m c) (rowsR (A3 m c) (A1 m c)) (A5 m c))) (ix4 n h i j)
        = expo (score (fun e => A0 m c (ix2 ⟨n.val * 64 + i.val, by omega⟩ (col h e))) (fun j e => rows (A3 m c) (A1 m c) n h j e)
          (fun j => A5 m c (ix3 ⟨h.val / 2, by omega⟩ ⟨64 * (h.val % 2) + i.val, by omega⟩ j))) j := by
    rw [expo_at]
    refine congrArg (fun s => expo s j) (funext fun k => ?_)
    rw [seen_at _ _ vis_at, score_at]
    refine congrArg (fun K => score _ K _ k) (funext fun a => funext fun e => ?_)
    exact rows_at _ _ _ _ _ _
  simp only [es, rows_at]
  try rfl

end Cert.Band.SampleRef

end
-- ==== Proof.GlaProj.lean ====
/- The kernel's input projection of the gated linear attention, the prompt's rows. -/
module

public import proofs.«01_k».proof.Proof.Proj
public import proofs.«01_k».proof.Proof.Gen.Kernel5Ideal.Value
public import Idealize.ShloMosaic.Lib.Pipeline.ValueKit
public import Idealize.ShloMosaic.Lib.Pipeline.ReadBack

@[expose] public section

set_option maxRecDepth 16384

noncomputable section

namespace Cert.Proj.GlaProj

open Idealize.ShloMosaic Idealize.ShloMosaic.TcCoe
open Cert.Kernel5Ideal Cert.Kernel5Ideal.Gen Cert.Kernel5Ideal.Value
open scoped BigOperators

theorem block0 (x : Vec Ideal S512x1024 .f32) (n : Vec Ideal S1x1024 .f32) (w : Vec Ideal S1024x1024 .bf16) (y : S512x1024.Idx) :
    k0_pay2 x n w y = entry (fun k => x (ix2 (y 0) k)) (fun k => n (ix2 0 k)) (fun k => w (ix2 k (y 1))) := by
  unfold entry Ffn.normed
  pointwise [k0_pay2, k0_pay1]

theorem block1 (x : Vec Ideal S512x1024 .f32) (n : Vec Ideal S1x1024 .f32) (w : Vec Ideal S1024x1024 .bf16) (y : S512x1024.Idx) :
    k0_pay3 x n w y = entry (fun k => x (ix2 (y 0) k)) (fun k => n (ix2 0 k)) (fun k => w (ix2 k (y 1))) := by
  unfold entry Ffn.normed
  pointwise [k0_pay3, k0_pay1]

theorem block2 (x : Vec Ideal S512x1024 .f32) (n : Vec Ideal S1x1024 .f32) (w : Vec Ideal S1024x1024 .bf16) (y : S512x1024.Idx) :
    k0_pay4 x n w y = entry (fun k => x (ix2 (y 0) k)) (fun k => n (ix2 0 k)) (fun k => w (ix2 k (y 1))) := by
  unfold entry Ffn.normed
  pointwise [k0_pay4, k0_pay1]

theorem block3 (x : Vec Ideal S512x1024 .f32) (n : Vec Ideal S1x1024 .f32) (w : Vec Ideal S1024x128 .bf16) (y : S512x128.Idx) :
    k0_pay5 x n w y = entry (fun k => x (ix2 (y 0) k)) (fun k => n (ix2 0 k)) (fun k => w (ix2 k (y 1))) := by
  unfold entry Ffn.normed
  pointwise [k0_pay5, k0_pay1]

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- What a block holds. -/
def whole (x : Vec Ideal S512x1024 .f32) (n : Vec Ideal S1x1024 .f32) (w : Vec Ideal S1024x3200 .bf16) : Vec Ideal S512x3200 .f32 := fun y =>
  entry (fun k => x (ix2 (y 0) k)) (fun k => n (ix2 0 k)) (fun k => w (ix2 k (y 1)))

variable (m : (ℓ : Loc nD τ sig) → Buf (Elt Ideal) ℓ) (c : Dev nD)

theorem outs (t : Fin cfg0.N) : outsAt0 m c t = whole (iblk m c 0 t) (iblk m c 1 t) (iblk m c 2 t) := by
  funext y
  unfold outsAt0
  frame_out
  canon_tiles x h using View.cover_of_tiledBy _ ![512, 128] (by sl_kernel_rfl) y
  case piece0 =>
    refine (block3 _ _ _ _).trans ?_
    unfold whole
    refine entry_congr (fun k => ?_) (fun k => rfl) (fun k => ?_)
    · exact congrArg (fun a : Fin 512 => iblk m c 0 t (ix2 a k)) (Fin.ext h0.symm)
    · exact View.ld_unit_apply_of (S := S1024x3200) (iblk m c 2 t) _ _ _ _ _ (Fin.forall_fin_two.2 ⟨(Nat.zero_add _).symm, h1⟩)
  case piece1 =>
    refine (block2 _ _ _ _).trans ?_
    unfold whole
    refine entry_congr (fun k => ?_) (fun k => rfl) (fun k => ?_)
    · exact congrArg (fun a : Fin 512 => iblk m c 0 t (ix2 a k)) (Fin.ext h0.symm)
    · exact View.ld_unit_apply_of (S := S1024x3200) (iblk m c 2 t) _ _ _ _ _ (Fin.forall_fin_two.2 ⟨(Nat.zero_add _).symm, h1⟩)
  case piece2 =>
    refine (block1 _ _ _ _).trans ?_
    unfold whole
    refine entry_congr (fun k => ?_) (fun k => rfl) (fun k => ?_)
    · exact congrArg (fun a : Fin 512 => iblk m c 0 t (ix2 a k)) (Fin.ext h0.symm)
    · exact View.ld_unit_apply_of (S := S1024x3200) (iblk m c 2 t) _ _ _ _ _ (Fin.forall_fin_two.2 ⟨(Nat.zero_add _).symm, h1⟩)
  case piece3 =>
    refine (block0 _ _ _ _).trans ?_
    unfold whole
    refine entry_congr (fun k => ?_) (fun k => rfl) (fun k => ?_)
    · exact congrArg (fun a : Fin 512 => iblk m c 0 t (ix2 a k)) (Fin.ext h0.symm)
    · exact View.ld_unit_apply_of (S := S1024x3200) (iblk m c 2 t) _ _ _ _ _ (Fin.forall_fin_two.2 ⟨(Nat.zero_add _).symm, h1.trans (Nat.zero_add _).symm⟩)

abbrev B2 : Vec Ideal S1024x3088 .f32 := m ((c.tc : Thread nD τ).loc main_arg2)

theorem gain (y : S1x1024.Idx) : (V m c main_v2 : Vec Ideal S1x1024 .f32) y = (m ((c.tc : Thread nD τ).loc main_arg1)) (ix1 (y 1)) := by
  simp only [V, hostOps0, hostOps0_1, hostOps0_2, List.flatten_cons, List.flatten_nil, List.append_nil, List.cons_append, List.nil_append]
  entry_read
  pointwise []

theorem weight (y : S1024x3200.Idx) : (V m c main_v1 : Vec Ideal S1024x3200 .bf16) y = column (B2 m c) (y 1).val (y 0) := by
  simp only [V, hostOps0, hostOps0_1, hostOps0_2, List.flatten_cons, List.flatten_nil, List.append_nil, List.cons_append, List.nil_append]
  entry_read
  unfold column
  show pad S1024x3200 ![0, 0] ![0, 112] ![0, 0] (B2 m c) (sitofp (F := Ideal) .f32 (constantI S_ 32 0#32) : FVec Ideal S_ .f32) pads_S1024x3088_S1024x3200_000_01120 h_S_ y = _
  pointwise []
  split
  · rfl
  · show ((Int.cast (BitVec.toInt 0#32) : ℝ) : EReal) = 0
    norm_num

theorem final : (dats m 0 c).arrAt 3 cfg0.N = fun y => padded prompt (m ((c.tc : Thread nD τ).loc main_arg0)) (m ((c.tc : Thread nD τ).loc main_arg1)) (m ((c.tc : Thread nD τ).loc main_arg2)) (y 0) (y 1) := by
  refine (dats m 0 c).arrAt_eq_of_covers 3 _ (by decide +kernel) fun t _ y => ?_
  blk_simp
  rw [after0_3, outs]
  unfold padded whole prompt
  refine entry_congr (fun k => ?_) (fun k => ?_) (fun k => ?_)
  · blk_point [iblk, V, idx t]
  · refine (show iblk m c 1 t (ix2 0 k) = (V m c main_v2 : Vec Ideal S1x1024 .f32) (ix2 0 k) from ?_).trans (gain m c _)
    blk_point [iblk, idx t]
  · refine (show iblk m c 2 t (ix2 k (y 1)) = (V m c main_v1 : Vec Ideal S1024x3200 .bf16) (ix2 k (y 1)) from ?_).trans ((weight m c _).trans ?_)
    · blk_point [iblk, idx t]
    · exact congrArg (fun a => column (B2 m c) a k) (by blk_simp [idx t])

end Cert.Proj.GlaProj

end
-- ==== Proof.GlaProjRef.lean ====
/- The reference's input projection of the gated linear attention, the prompt's rows. -/
module

public import proofs.«01_k».proof.Proof.Proj
public import proofs.«01_k».proof.Proof.Gen.Reference5Ideal.Run

@[expose] public section

set_option maxRecDepth 16384

noncomputable section

namespace Cert.Proj.GlaProjRef

open Idealize.ShloMosaic Idealize.ShloMosaic.TcCoe
open Cert.Reference5Ideal Cert.Reference5Ideal.Gen
open scoped BigOperators

/-- The reference's array is the padded projection. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = (fun y => padded prompt (m ((c.tc : Thread nD τ).loc main_arg0)) (m ((c.tc : Thread nD τ).loc main_arg1)) (m ((c.tc : Thread nD τ).loc main_arg2)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans (funext fun y => Eq.trans ?_ (padded_eq prompt (m ((c.tc : Thread nD τ).loc main_arg0)) (m ((c.tc : Thread nD τ).loc main_arg1)) (m ((c.tc : Thread nD τ).loc main_arg2)) (y 0) (y 1)).symm), (h c).2⟩) (Value.run m ρ)
  unfold entry Ffn.normed prompt
  pointwise []
  split
  · rfl
  · show ((Int.cast (BitVec.toInt 0#32) : ℝ) : EReal) = 0
    norm_num

end Cert.Proj.GlaProjRef

end
-- ==== Proof.GdnPrompt.lean ====
/- The kernel's input projection of the gated delta rule, the prompt's rows. -/
module

public import proofs.«01_k».proof.Proof.Proj
public import proofs.«01_k».proof.Proof.Gen.Kernel6Ideal.Value
public import Idealize.ShloMosaic.Lib.Pipeline.ValueKit
public import Idealize.ShloMosaic.Lib.Pipeline.ReadBack

@[expose] public section

set_option maxRecDepth 16384

noncomputable section

namespace Cert.Proj.GdnPrompt

open Idealize.ShloMosaic Idealize.ShloMosaic.TcCoe
open Cert.Kernel6Ideal Cert.Kernel6Ideal.Gen Cert.Kernel6Ideal.Value
open scoped BigOperators

theorem block0 (x : Vec Ideal S512x1024 .f32) (n : Vec Ideal S1x1024 .f32) (w : Vec Ideal S1024x1024 .bf16) (y : S512x1024.Idx) :
    k0_pay3 x n w y = entry (fun k => x (ix2 (y 0) k)) (fun k => n (ix2 0 k)) (fun k => w (ix2 k (y 1))) := by
  unfold entry Ffn.normed
  pointwise [k0_pay3, k0_pay2]

theorem block1 (x : Vec Ideal S512x1024 .f32) (n : Vec Ideal S1x1024 .f32) (w : Vec Ideal S1024x1024 .bf16) (y : S512x1024.Idx) :
    k0_pay4 x n w y = entry (fun k => x (ix2 (y 0) k)) (fun k => n (ix2 0 k)) (fun k => w (ix2 k (y 1))) := by
  unfold entry Ffn.normed
  pointwise [k0_pay4, k0_pay2]

theorem block2 (x : Vec Ideal S512x1024 .f32) (n : Vec Ideal S1x1024 .f32) (w : Vec Ideal S1024x1024 .bf16) (y : S512x1024.Idx) :
    k0_pay5 x n w y = entry (fun k => x (ix2 (y 0) k)) (fun k => n (ix2 0 k)) (fun k => w (ix2 k (y 1))) := by
  unfold entry Ffn.normed
  pointwise [k0_pay5, k0_pay2]

theorem block3 (x : Vec Ideal S512x1024 .f32) (n : Vec Ideal S1x1024 .f32) (w : Vec Ideal S1024x1024 .bf16) (y : S512x1024.Idx) :
    k0_pay6 x n w y = entry (fun k => x (ix2 (y 0) k)) (fun k => n (ix2 0 k)) (fun k => w (ix2 k (y 1))) := by
  unfold entry Ffn.normed
  pointwise [k0_pay6, k0_pay2]

theorem block4 (x : Vec Ideal S512x1024 .f32) (n : Vec Ideal S1x1024 .f32) (w : Vec Ideal S1024x128 .bf16) (y : S512x128.Idx) :
    k0_pay1 (k0_pay2 x n) w y = entry (fun k => x (ix2 (y 0) k)) (fun k => n (ix2 0 k)) (fun k => w (ix2 k (y 1))) := by
  unfold entry Ffn.normed
  pointwise [k0_pay1, k0_pay2]

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- What a block holds. -/
def whole (x : Vec Ideal S512x1024 .f32) (n : Vec Ideal S1x1024 .f32) (w : Vec Ideal S1024x4224 .bf16) : Vec Ideal S512x4224 .f32 := fun y =>
  entry (fun k => x (ix2 (y 0) k)) (fun k => n (ix2 0 k)) (fun k => w (ix2 k (y 1)))

variable (m : (ℓ : Loc nD τ sig) → Buf (Elt Ideal) ℓ) (c : Dev nD)

theorem outs (t : Fin cfg0.N) : outsAt0 m c t = whole (iblk m c 0 t) (iblk m c 1 t) (iblk m c 2 t) := by
  funext y
  unfold outsAt0
  frame_out
  canon_tiles x h using View.cover_of_tiledBy _ ![512, 128] (by sl_kernel_rfl) y
  case piece0 =>
    refine (block4 _ _ _ _).trans ?_
    unfold whole
    refine entry_congr (fun k => ?_) (fun k => rfl) (fun k => ?_)
    · exact congrArg (fun a : Fin 512 => iblk m c 0 t (ix2 a k)) (Fin.ext h0.symm)
    · exact View.ld_unit_apply_of (S := S1024x4224) (iblk m c 2 t) _ _ _ _ _ (Fin.forall_fin_two.2 ⟨(Nat.zero_add _).symm, h1⟩)
  case piece1 =>
    refine (block3 _ _ _ _).trans ?_
    unfold whole
    refine entry_congr (fun k => ?_) (fun k => rfl) (fun k => ?_)
    · exact congrArg (fun a : Fin 512 => iblk m c 0 t (ix2 a k)) (Fin.ext h0.symm)
    · exact View.ld_unit_apply_of (S := S1024x4224) (iblk m c 2 t) _ _ _ _ _ (Fin.forall_fin_two.2 ⟨(Nat.zero_add _).symm, h1⟩)
  case piece2 =>
    refine (block2 _ _ _ _).trans ?_
    unfold whole
    refine entry_congr (fun k => ?_) (fun k => rfl) (fun k => ?_)
    · exact congrArg (fun a : Fin 512 => iblk m c 0 t (ix2 a k)) (Fin.ext h0.symm)
    · exact View.ld_unit_apply_of (S := S1024x4224) (iblk m c 2 t) _ _ _ _ _ (Fin.forall_fin_two.2 ⟨(Nat.zero_add _).symm, h1⟩)
  case piece3 =>
    refine (block1 _ _ _ _).trans ?_
    unfold whole
    refine entry_congr (fun k => ?_) (fun k => rfl) (fun k => ?_)
    · exact congrArg (fun a : Fin 512 => iblk m c 0 t (ix2 a k)) (Fin.ext h0.symm)
    · exact View.ld_unit_apply_of (S := S1024x4224) (iblk m c 2 t) _ _ _ _ _ (Fin.forall_fin_two.2 ⟨(Nat.zero_add _).symm, h1⟩)
  case piece4 =>
    refine (block0 _ _ _ _).trans ?_
    unfold whole
    refine entry_congr (fun k => ?_) (fun k => rfl) (fun k => ?_)
    · exact congrArg (fun a : Fin 512 => iblk m c 0 t (ix2 a k)) (Fin.ext h0.symm)
    · exact View.ld_unit_apply_of (S := S1024x4224) (iblk m c 2 t) _ _ _ _ _ (Fin.forall_fin_two.2 ⟨(Nat.zero_add _).symm, h1.trans (Nat.zero_add _).symm⟩)

abbrev B2 : Vec Ideal S1024x4112 .f32 := m ((c.tc : Thread nD τ).loc main_arg2)

theorem gain (y : S1x1024.Idx) : (V m c main_v2 : Vec Ideal S1x1024 .f32) y = (m ((c.tc : Thread nD τ).loc main_arg1)) (ix1 (y 1)) := by
  simp only [V, hostOps0, hostOps0_1, hostOps0_2, List.flatten_cons, List.flatten_nil, List.append_nil, List.cons_append, List.nil_append]
  entry_read
  pointwise []

theorem weight (y : S1024x4224.Idx) : (V m c main_v1 : Vec Ideal S1024x4224 .bf16) y = column (B2 m c) (y 1).val (y 0) := by
  simp only [V, hostOps0, hostOps0_1, hostOps0_2, List.flatten_cons, List.flatten_nil, List.append_nil, List.cons_append, List.nil_append]
  entry_read
  unfold column
  show pad S1024x4224 ![0, 0] ![0, 112] ![0, 0] (B2 m c) (sitofp (F := Ideal) .f32 (constantI S_ 32 0#32) : FVec Ideal S_ .f32) pads_S1024x4112_S1024x4224_000_01120 h_S_ y = _
  pointwise []
  split
  · rfl
  · show ((Int.cast (BitVec.toInt 0#32) : ℝ) : EReal) = 0
    norm_num

theorem final : (dats m 0 c).arrAt 3 cfg0.N = fun y => padded prompt (m ((c.tc : Thread nD τ).loc main_arg0)) (m ((c.tc : Thread nD τ).loc main_arg1)) (m ((c.tc : Thread nD τ).loc main_arg2)) (y 0) (y 1) := by
  refine (dats m 0 c).arrAt_eq_of_covers 3 _ (by decide +kernel) fun t _ y => ?_
  blk_simp
  rw [after0_3, outs]
  unfold padded whole prompt
  refine entry_congr (fun k => ?_) (fun k => ?_) (fun k => ?_)
  · blk_point [iblk, V, idx t]
  · refine (show iblk m c 1 t (ix2 0 k) = (V m c main_v2 : Vec Ideal S1x1024 .f32) (ix2 0 k) from ?_).trans (gain m c _)
    blk_point [iblk, idx t]
  · refine (show iblk m c 2 t (ix2 k (y 1)) = (V m c main_v1 : Vec Ideal S1024x4224 .bf16) (ix2 k (y 1)) from ?_).trans ((weight m c _).trans ?_)
    · blk_point [iblk, idx t]
    · exact congrArg (fun a => column (B2 m c) a k) (by blk_simp [idx t])

end Cert.Proj.GdnPrompt

end
-- ==== Proof.GdnPromptRef.lean ====
/- The reference's input projection of the gated delta rule, the prompt's rows. -/
module

public import proofs.«01_k».proof.Proof.Proj
public import proofs.«01_k».proof.Proof.Gen.Reference6Ideal.Run

@[expose] public section

set_option maxRecDepth 16384

noncomputable section

namespace Cert.Proj.GdnPromptRef

open Idealize.ShloMosaic Idealize.ShloMosaic.TcCoe
open Cert.Reference6Ideal Cert.Reference6Ideal.Gen
open scoped BigOperators

/-- The reference's array is the padded projection. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = (fun y => padded prompt (m ((c.tc : Thread nD τ).loc main_arg0)) (m ((c.tc : Thread nD τ).loc main_arg1)) (m ((c.tc : Thread nD τ).loc main_arg2)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans (funext fun y => Eq.trans ?_ (padded_eq prompt (m ((c.tc : Thread nD τ).loc main_arg0)) (m ((c.tc : Thread nD τ).loc main_arg1)) (m ((c.tc : Thread nD τ).loc main_arg2)) (y 0) (y 1)).symm), (h c).2⟩) (Value.run m ρ)
  unfold entry Ffn.normed prompt
  pointwise []
  split
  · rfl
  · show ((Int.cast (BitVec.toInt 0#32) : ℝ) : EReal) = 0
    norm_num

end Cert.Proj.GdnPromptRef

end
-- ==== Proof.GdnSample.lean ====
/- The kernel's input projection of the gated delta rule, the sample's rows. -/
module

public import proofs.«01_k».proof.Proof.Proj
public import proofs.«01_k».proof.Proof.Gen.Kernel7Ideal.Value
public import Idealize.ShloMosaic.Lib.Pipeline.ValueKit
public import Idealize.ShloMosaic.Lib.Pipeline.ReadBack

@[expose] public section

set_option maxRecDepth 16384

noncomputable section

namespace Cert.Proj.GdnSample

open Idealize.ShloMosaic Idealize.ShloMosaic.TcCoe
open Cert.Kernel7Ideal Cert.Kernel7Ideal.Gen Cert.Kernel7Ideal.Value
open scoped BigOperators

theorem block0 (x : Vec Ideal S512x1024 .f32) (n : Vec Ideal S1x1024 .f32) (w : Vec Ideal S1024x1024 .bf16) (y : S512x1024.Idx) :
    k0_pay3 x n w y = entry (fun k => x (ix2 (y 0) k)) (fun k => n (ix2 0 k)) (fun k => w (ix2 k (y 1))) := by
  unfold entry Ffn.normed
  pointwise [k0_pay3, k0_pay2]

theorem block1 (x : Vec Ideal S512x1024 .f32) (n : Vec Ideal S1x1024 .f32) (w : Vec Ideal S1024x1024 .bf16) (y : S512x1024.Idx) :
    k0_pay4 x n w y = entry (fun k => x (ix2 (y 0) k)) (fun k => n (ix2 0 k)) (fun k => w (ix2 k (y 1))) := by
  unfold entry Ffn.normed
  pointwise [k0_pay4, k0_pay2]

theorem block2 (x : Vec Ideal S512x1024 .f32) (n : Vec Ideal S1x1024 .f32) (w : Vec Ideal S1024x1024 .bf16) (y : S512x1024.Idx) :
    k0_pay5 x n w y = entry (fun k => x (ix2 (y 0) k)) (fun k => n (ix2 0 k)) (fun k => w (ix2 k (y 1))) := by
  unfold entry Ffn.normed
  pointwise [k0_pay5, k0_pay2]

theorem block3 (x : Vec Ideal S512x1024 .f32) (n : Vec Ideal S1x1024 .f32) (w : Vec Ideal S1024x1024 .bf16) (y : S512x1024.Idx) :
    k0_pay6 x n w y = entry (fun k => x (ix2 (y 0) k)) (fun k => n (ix2 0 k)) (fun k => w (ix2 k (y 1))) := by
  unfold entry Ffn.normed
  pointwise [k0_pay6, k0_pay2]

theorem block4 (x : Vec Ideal S512x1024 .f32) (n : Vec Ideal S1x1024 .f32) (w : Vec Ideal S1024x128 .bf16) (y : S512x128.Idx) :
    k0_pay1 (k0_pay2 x n) w y = entry (fun k => x (ix2 (y 0) k)) (fun k => n (ix2 0 k)) (fun k => w (ix2 k (y 1))) := by
  unfold entry Ffn.normed
  pointwise [k0_pay1, k0_pay2]

theorem idx : ∀ t : Fin cfg0.N, win0_0.index t = ![32 + t.val, 0] ∧ win0_1.index t = ![0, 0] ∧ win0_2.index t = ![0, 0] ∧ win0_3.index t = ![t.val, 0] :=
  (by decide +kernel : ∀ t : Fin grid0.N, _)

/-- What a block holds. -/
def whole (x : Vec Ideal S512x1024 .f32) (n : Vec Ideal S1x1024 .f32) (w : Vec Ideal S1024x4224 .bf16) : Vec Ideal S512x4224 .f32 := fun y =>
  entry (fun k => x (ix2 (y 0) k)) (fun k => n (ix2 0 k)) (fun k => w (ix2 k (y 1)))

variable (m : (ℓ : Loc nD τ sig) → Buf (Elt Ideal) ℓ) (c : Dev nD)

theorem outs (t : Fin cfg0.N) : outsAt0 m c t = whole (iblk m c 0 t) (iblk m c 1 t) (iblk m c 2 t) := by
  funext y
  unfold outsAt0
  frame_out
  canon_tiles x h using View.cover_of_tiledBy _ ![512, 128] (by sl_kernel_rfl) y
  case piece0 =>
    refine (block4 _ _ _ _).trans ?_
    unfold whole
    refine entry_congr (fun k => ?_) (fun k => rfl) (fun k => ?_)
    · exact congrArg (fun a : Fin 512 => iblk m c 0 t (ix2 a k)) (Fin.ext h0.symm)
    · exact View.ld_unit_apply_of (S := S1024x4224) (iblk m c 2 t) _ _ _ _ _ (Fin.forall_fin_two.2 ⟨(Nat.zero_add _).symm, h1⟩)
  case piece1 =>
    refine (block3 _ _ _ _).trans ?_
    unfold whole
    refine entry_congr (fun k => ?_) (fun k => rfl) (fun k => ?_)
    · exact congrArg (fun a : Fin 512 => iblk m c 0 t (ix2 a k)) (Fin.ext h0.symm)
    · exact View.ld_unit_apply_of (S := S1024x4224) (iblk m c 2 t) _ _ _ _ _ (Fin.forall_fin_two.2 ⟨(Nat.zero_add _).symm, h1⟩)
  case piece2 =>
    refine (block2 _ _ _ _).trans ?_
    unfold whole
    refine entry_congr (fun k => ?_) (fun k => rfl) (fun k => ?_)
    · exact congrArg (fun a : Fin 512 => iblk m c 0 t (ix2 a k)) (Fin.ext h0.symm)
    · exact View.ld_unit_apply_of (S := S1024x4224) (iblk m c 2 t) _ _ _ _ _ (Fin.forall_fin_two.2 ⟨(Nat.zero_add _).symm, h1⟩)
  case piece3 =>
    refine (block1 _ _ _ _).trans ?_
    unfold whole
    refine entry_congr (fun k => ?_) (fun k => rfl) (fun k => ?_)
    · exact congrArg (fun a : Fin 512 => iblk m c 0 t (ix2 a k)) (Fin.ext h0.symm)
    · exact View.ld_unit_apply_of (S := S1024x4224) (iblk m c 2 t) _ _ _ _ _ (Fin.forall_fin_two.2 ⟨(Nat.zero_add _).symm, h1⟩)
  case piece4 =>
    refine (block0 _ _ _ _).trans ?_
    unfold whole
    refine entry_congr (fun k => ?_) (fun k => rfl) (fun k => ?_)
    · exact congrArg (fun a : Fin 512 => iblk m c 0 t (ix2 a k)) (Fin.ext h0.symm)
    · exact View.ld_unit_apply_of (S := S1024x4224) (iblk m c 2 t) _ _ _ _ _ (Fin.forall_fin_two.2 ⟨(Nat.zero_add _).symm, h1.trans (Nat.zero_add _).symm⟩)

abbrev B2 : Vec Ideal S1024x4112 .f32 := m ((c.tc : Thread nD τ).loc main_arg2)

theorem gain (y : S1x1024.Idx) : (V m c main_v2 : Vec Ideal S1x1024 .f32) y = (m ((c.tc : Thread nD τ).loc main_arg1)) (ix1 (y 1)) := by
  simp only [V, hostOps0, hostOps0_1, hostOps0_2, List.flatten_cons, List.flatten_nil, List.append_nil, List.cons_append, List.nil_append]
  entry_read
  pointwise []

theorem weight (y : S1024x4224.Idx) : (V m c main_v1 : Vec Ideal S1024x4224 .bf16) y = column (B2 m c) (y 1).val (y 0) := by
  simp only [V, hostOps0, hostOps0_1, hostOps0_2, List.flatten_cons, List.flatten_nil, List.append_nil, List.cons_append, List.nil_append]
  entry_read
  unfold column
  show pad S1024x4224 ![0, 0] ![0, 112] ![0, 0] (B2 m c) (sitofp (F := Ideal) .f32 (constantI S_ 32 0#32) : FVec Ideal S_ .f32) pads_S1024x4112_S1024x4224_000_01120 h_S_ y = _
  pointwise []
  split
  · rfl
  · show ((Int.cast (BitVec.toInt 0#32) : ℝ) : EReal) = 0
    norm_num

theorem final : (dats m 0 c).arrAt 3 cfg0.N = fun y => padded sample (m ((c.tc : Thread nD τ).loc main_arg0)) (m ((c.tc : Thread nD τ).loc main_arg1)) (m ((c.tc : Thread nD τ).loc main_arg2)) (y 0) (y 1) := by
  refine (dats m 0 c).arrAt_eq_of_covers 3 _ (by decide +kernel) fun t _ y => ?_
  blk_simp
  rw [after0_3, outs]
  unfold padded whole sample
  refine entry_congr (fun k => ?_) (fun k => ?_) (fun k => ?_)
  · blk_point [iblk, V, idx t]
  · refine (show iblk m c 1 t (ix2 0 k) = (V m c main_v2 : Vec Ideal S1x1024 .f32) (ix2 0 k) from ?_).trans (gain m c _)
    blk_point [iblk, idx t]
  · refine (show iblk m c 2 t (ix2 k (y 1)) = (V m c main_v1 : Vec Ideal S1024x4224 .bf16) (ix2 k (y 1)) from ?_).trans ((weight m c _).trans ?_)
    · blk_point [iblk, idx t]
    · exact congrArg (fun a => column (B2 m c) a k) (by blk_simp [idx t])

end Cert.Proj.GdnSample

end
-- ==== Proof.GdnSampleRef.lean ====
/- The reference's input projection of the gated delta rule, the sample's rows. -/
module

public import proofs.«01_k».proof.Proof.Proj
public import proofs.«01_k».proof.Proof.Gen.Reference7Ideal.Run

@[expose] public section

set_option maxRecDepth 16384

noncomputable section

namespace Cert.Proj.GdnSampleRef

open Idealize.ShloMosaic Idealize.ShloMosaic.TcCoe
open Cert.Reference7Ideal Cert.Reference7Ideal.Gen
open scoped BigOperators

/-- The reference's array is the padded projection. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = (fun y => padded sample (m ((c.tc : Thread nD τ).loc main_arg0)) (m ((c.tc : Thread nD τ).loc main_arg1)) (m ((c.tc : Thread nD τ).loc main_arg2)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans (funext fun y => Eq.trans ?_ (padded_eq sample (m ((c.tc : Thread nD τ).loc main_arg0)) (m ((c.tc : Thread nD τ).loc main_arg1)) (m ((c.tc : Thread nD τ).loc main_arg2)) (y 0) (y 1)).symm), (h c).2⟩) (Value.run m ρ)
  unfold entry Ffn.normed sample
  pointwise []
  split
  · rfl
  · show ((Int.cast (BitVec.toInt 0#32) : ℝ) : EReal) = 0
    norm_num

end Cert.Proj.GdnSampleRef

end
-- ==== Proof.SbPrompt.lean ====
/- The kernel's input projection of the stick-breaking attention, the prompt's rows. -/
module

public import proofs.«01_k».proof.Proof.Proj
public import proofs.«01_k».proof.Proof.Gen.Kernel8Ideal.Value
public import Idealize.ShloMosaic.Lib.Pipeline.ValueKit

@[expose] public section

set_option maxRecDepth 16384

noncomputable section

namespace Cert.Proj.SbPrompt

open Idealize.ShloMosaic Idealize.ShloMosaic.TcCoe
open Cert.Kernel8Ideal Cert.Kernel8Ideal.Gen Cert.Kernel8Ideal.Value
open scoped BigOperators

/-- One block of the queries, -/
theorem block_q (x : Vec Ideal S512x1024 .f32) (n : Vec Ideal S1x1024 .f32) (w : Vec Ideal S1024x1024 .bf16) (y : S512x1024.Idx) :
    k0_pay3 x n w y = entry (fun k => x (ix2 (y 0) k)) (fun k => n (ix2 0 k)) (fun k => w (ix2 k (y 1))) * scale := by
  unfold entry Ffn.normed scale
  pointwise [k0_pay3, k0_pay2]

/-- of the keys -/
theorem block_k (x : Vec Ideal S512x1024 .f32) (n : Vec Ideal S1x1024 .f32) (w : Vec Ideal S1024x1024 .bf16) (y : S512x1024.Idx) :
    k0_pay4 x n w y = entry (fun k => x (ix2 (y 0) k)) (fun k => n (ix2 0 k)) (fun k => w (ix2 k (y 1))) := by
  unfold entry Ffn.normed
  pointwise [k0_pay4, k0_pay2]

theorem block_kb (x : Vec Ideal S512x1024 .f32) (n : Vec Ideal S1x1024 .f32) (w : Vec Ideal S1024x1024 .bf16) (y : S512x1024.Idx) :
    k0_pay5 x n w y = entry (fun k => x (ix2 (y 0) k)) (fun k => n (ix2 0 k)) (fun k => w (ix2 k (y 1))) :=
  block_k x n w y

/-- and of the values. -/
theorem block_v (x : Vec Ideal S512x1024 .f32) (n : Vec Ideal S1x1024 .f32) (w : Vec Ideal S1024x1024 .bf16) (y : S512x1024.Idx) :
    k0_pay6 x n w y = entry (fun k => x (ix2 (y 0) k)) (fun k => n (ix2 0 k)) (fun k => w (ix2 k (y 1))) := by
  unfold entry Ffn.normed
  pointwise [k0_pay6, k0_pay2]

theorem block_vb (x : Vec Ideal S512x1024 .f32) (n : Vec Ideal S1x1024 .f32) (w : Vec Ideal S1024x1024 .bf16) (y : S512x1024.Idx) :
    k0_pay1 (k0_pay6 x n w) y = entry (fun k => x (ix2 (y 0) k)) (fun k => n (ix2 0 k)) (fun k => w (ix2 k (y 1))) :=
  block_v x n w y

theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

theorem query : (dats m 0 c).arrAt 3 cfg0.N = fun y => part prompt first (m ((c.tc : Thread nD τ).loc main_arg0)) (m ((c.tc : Thread nD τ).loc main_arg1)) (m ((c.tc : Thread nD τ).loc main_arg2)) (y 0) (y 1) * scale := by
  refine (dats m 0 c).arrAt_eq_of_covers 3 _ (by decide +kernel) fun t _ y => ?_
  blk_simp
  rw [after0_3]
  frame_out
  rw [block_q]
  refine congrArg (· * scale) ?_
  unfold part prompt first
  refine entry_congr (fun k => ?_) (fun k => ?_) (fun k => ?_)
  · blk_point [iblk, V, idx t]
  · blk_point [iblk, V, idx t]
  · blk_point [iblk, V, idx t]

theorem key : (dats m 0 c).arrAt 4 cfg0.N = fun y => part prompt second (m ((c.tc : Thread nD τ).loc main_arg0)) (m ((c.tc : Thread nD τ).loc main_arg1)) (m ((c.tc : Thread nD τ).loc main_arg2)) (y 0) (y 1) := by
  refine (dats m 0 c).arrAt_eq_of_covers 4 _ (by decide +kernel) fun t _ y => ?_
  blk_simp
  rw [after0_4]
  frame_out
  rw [block_k]
  unfold part prompt second
  refine entry_congr (fun k => ?_) (fun k => ?_) (fun k => ?_)
  · blk_point [iblk, V, idx t]
  · blk_point [iblk, V, idx t]
  · blk_point [iblk, V, idx t]

theorem key_short : (dats m 0 c).arrAt 5 cfg0.N = fun y => part prompt second (m ((c.tc : Thread nD τ).loc main_arg0)) (m ((c.tc : Thread nD τ).loc main_arg1)) (m ((c.tc : Thread nD τ).loc main_arg2)) (y 0) (y 1) := by
  refine (dats m 0 c).arrAt_eq_of_covers 5 _ (by decide +kernel) fun t _ y => ?_
  blk_simp
  rw [after0_5]
  frame_out
  rw [block_kb]
  unfold part prompt second
  refine entry_congr (fun k => ?_) (fun k => ?_) (fun k => ?_)
  · blk_point [iblk, V, idx t]
  · blk_point [iblk, V, idx t]
  · blk_point [iblk, V, idx t]

theorem value : (dats m 0 c).arrAt 6 cfg0.N = fun y => part prompt third (m ((c.tc : Thread nD τ).loc main_arg0)) (m ((c.tc : Thread nD τ).loc main_arg1)) (m ((c.tc : Thread nD τ).loc main_arg2)) (y 0) (y 1) := by
  refine (dats m 0 c).arrAt_eq_of_covers 6 _ (by decide +kernel) fun t _ y => ?_
  blk_simp
  rw [after0_6]
  unfold_out out0_6
  frame_out
  rw [block_v]
  unfold part prompt third
  refine entry_congr (fun k => ?_) (fun k => ?_) (fun k => ?_)
  · blk_point [iblk, V, idx t]
  · blk_point [iblk, V, idx t]
  · blk_point [iblk, V, idx t]

theorem value_short : (dats m 0 c).arrAt 7 cfg0.N = fun y => part prompt third (m ((c.tc : Thread nD τ).loc main_arg0)) (m ((c.tc : Thread nD τ).loc main_arg1)) (m ((c.tc : Thread nD τ).loc main_arg2)) (y 0) (y 1) := by
  refine (dats m 0 c).arrAt_eq_of_covers 7 _ (by decide +kernel) fun t _ y => ?_
  blk_simp
  rw [after0_7]
  unfold_out out0_7
  frame_out
  rw [block_vb]
  unfold part prompt third
  refine entry_congr (fun k => ?_) (fun k => ?_) (fun k => ?_)
  · blk_point [iblk, V, idx t]
  · blk_point [iblk, V, idx t]
  · blk_point [iblk, V, idx t]

end Cert.Proj.SbPrompt

end
-- ==== Proof.SbPromptRef.lean ====
/- The reference's input projection of the stick-breaking attention, the prompt's rows. -/
module

public import proofs.«01_k».proof.Proof.Proj
public import proofs.«01_k».proof.Proof.Gen.Reference8Ideal.Run

@[expose] public section

set_option maxRecDepth 16384

noncomputable section

namespace Cert.Proj.SbPromptRef

open Idealize.ShloMosaic Idealize.ShloMosaic.TcCoe
open Cert.Reference8Ideal Cert.Reference8Ideal.Gen
open scoped BigOperators

/-- The reference's arrays are the projection's parts. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = (fun y => part prompt first (m ((c.tc : Thread nD τ).loc main_arg0)) (m ((c.tc : Thread nD τ).loc main_arg1)) (m ((c.tc : Thread nD τ).loc main_arg2)) (y 0) (y 1) * scale)
      ∧ r.2.mem ((c.tc : Thread nD τ).loc main_v16) = (fun y => part prompt second (m ((c.tc : Thread nD τ).loc main_arg0)) (m ((c.tc : Thread nD τ).loc main_arg1)) (m ((c.tc : Thread nD τ).loc main_arg2)) (y 0) (y 1))
      ∧ r.2.mem ((c.tc : Thread nD τ).loc main_v21) = (fun y => part prompt second (m ((c.tc : Thread nD τ).loc main_arg0)) (m ((c.tc : Thread nD τ).loc main_arg1)) (m ((c.tc : Thread nD τ).loc main_arg2)) (y 0) (y 1))
      ∧ r.2.mem ((c.tc : Thread nD τ).loc main_v17) = (fun y => part prompt third (m ((c.tc : Thread nD τ).loc main_arg0)) (m ((c.tc : Thread nD τ).loc main_arg1)) (m ((c.tc : Thread nD τ).loc main_arg2)) (y 0) (y 1))
      ∧ r.2.mem ((c.tc : Thread nD τ).loc main_v22) = (fun y => part prompt third (m ((c.tc : Thread nD τ).loc main_arg0)) (m ((c.tc : Thread nD τ).loc main_arg1)) (m ((c.tc : Thread nD τ).loc main_arg2)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h0, h1, h2, h3, h4, k⟩ := h c
  unfold part entry Ffn.normed scale prompt first second third
  refine ⟨h0.trans (funext fun y => ?_), h1.trans (funext fun y => ?_), h2.trans (funext fun y => ?_), h3.trans (funext fun y => ?_), h4.trans (funext fun y => ?_), k⟩
  all_goals pointwise []

end Cert.Proj.SbPromptRef

end
-- ==== Proof.SbSample.lean ====
/- The kernel's input projection of the stick-breaking attention, the sample's rows. -/
module

public import proofs.«01_k».proof.Proof.Proj
public import proofs.«01_k».proof.Proof.Gen.Kernel9Ideal.Value
public import Idealize.ShloMosaic.Lib.Pipeline.ValueKit

@[expose] public section

set_option maxRecDepth 16384

noncomputable section

namespace Cert.Proj.SbSample

open Idealize.ShloMosaic Idealize.ShloMosaic.TcCoe
open Cert.Kernel9Ideal Cert.Kernel9Ideal.Gen Cert.Kernel9Ideal.Value
open scoped BigOperators

/-- One block of the queries, -/
theorem block_q (x : Vec Ideal S512x1024 .f32) (n : Vec Ideal S1x1024 .f32) (w : Vec Ideal S1024x1024 .bf16) (y : S512x1024.Idx) :
    k0_pay3 x n w y = entry (fun k => x (ix2 (y 0) k)) (fun k => n (ix2 0 k)) (fun k => w (ix2 k (y 1))) * scale := by
  unfold entry Ffn.normed scale
  pointwise [k0_pay3, k0_pay2]

/-- of the keys -/
theorem block_k (x : Vec Ideal S512x1024 .f32) (n : Vec Ideal S1x1024 .f32) (w : Vec Ideal S1024x1024 .bf16) (y : S512x1024.Idx) :
    k0_pay4 x n w y = entry (fun k => x (ix2 (y 0) k)) (fun k => n (ix2 0 k)) (fun k => w (ix2 k (y 1))) := by
  unfold entry Ffn.normed
  pointwise [k0_pay4, k0_pay2]

theorem block_kb (x : Vec Ideal S512x1024 .f32) (n : Vec Ideal S1x1024 .f32) (w : Vec Ideal S1024x1024 .bf16) (y : S512x1024.Idx) :
    k0_pay5 x n w y = entry (fun k => x (ix2 (y 0) k)) (fun k => n (ix2 0 k)) (fun k => w (ix2 k (y 1))) :=
  block_k x n w y

/-- and of the values. -/
theorem block_v (x : Vec Ideal S512x1024 .f32) (n : Vec Ideal S1x1024 .f32) (w : Vec Ideal S1024x1024 .bf16) (y : S512x1024.Idx) :
    k0_pay6 x n w y = entry (fun k => x (ix2 (y 0) k)) (fun k => n (ix2 0 k)) (fun k => w (ix2 k (y 1))) := by
  unfold entry Ffn.normed
  pointwise [k0_pay6, k0_pay2]

theorem block_vb (x : Vec Ideal S512x1024 .f32) (n : Vec Ideal S1x1024 .f32) (w : Vec Ideal S1024x1024 .bf16) (y : S512x1024.Idx) :
    k0_pay1 (k0_pay6 x n w) y = entry (fun k => x (ix2 (y 0) k)) (fun k => n (ix2 0 k)) (fun k => w (ix2 k (y 1))) :=
  block_v x n w y

theorem idx : ∀ t : Fin cfg0.N, win0_0.index t = ![32 + t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

variable (m : (ℓ : Loc nD τ sig) → Buf (Elt Ideal) ℓ) (c : Dev nD)

theorem query : (dats m 0 c).arrAt 3 cfg0.N = fun y => part sample first (m ((c.tc : Thread nD τ).loc main_arg0)) (m ((c.tc : Thread nD τ).loc main_arg1)) (m ((c.tc : Thread nD τ).loc main_arg2)) (y 0) (y 1) * scale := by
  refine (dats m 0 c).arrAt_eq_of_covers 3 _ (by decide +kernel) fun t _ y => ?_
  blk_simp
  rw [after0_3]
  frame_out
  rw [block_q]
  refine congrArg (· * scale) ?_
  unfold part sample first
  refine entry_congr (fun k => ?_) (fun k => ?_) (fun k => ?_)
  · blk_point [iblk, V, idx t]
  · blk_point [iblk, V, idx t]
  · blk_point [iblk, V, idx t]

theorem key : (dats m 0 c).arrAt 4 cfg0.N = fun y => part sample second (m ((c.tc : Thread nD τ).loc main_arg0)) (m ((c.tc : Thread nD τ).loc main_arg1)) (m ((c.tc : Thread nD τ).loc main_arg2)) (y 0) (y 1) := by
  refine (dats m 0 c).arrAt_eq_of_covers 4 _ (by decide +kernel) fun t _ y => ?_
  blk_simp
  rw [after0_4]
  frame_out
  rw [block_k]
  unfold part sample second
  refine entry_congr (fun k => ?_) (fun k => ?_) (fun k => ?_)
  · blk_point [iblk, V, idx t]
  · blk_point [iblk, V, idx t]
  · blk_point [iblk, V, idx t]

theorem key_short : (dats m 0 c).arrAt 5 cfg0.N = fun y => part sample second (m ((c.tc : Thread nD τ).loc main_arg0)) (m ((c.tc : Thread nD τ).loc main_arg1)) (m ((c.tc : Thread nD τ).loc main_arg2)) (y 0) (y 1) := by
  refine (dats m 0 c).arrAt_eq_of_covers 5 _ (by decide +kernel) fun t _ y => ?_
  blk_simp
  rw [after0_5]
  frame_out
  rw [block_kb]
  unfold part sample second
  refine entry_congr (fun k => ?_) (fun k => ?_) (fun k => ?_)
  · blk_point [iblk, V, idx t]
  · blk_point [iblk, V, idx t]
  · blk_point [iblk, V, idx t]

theorem value : (dats m 0 c).arrAt 6 cfg0.N = fun y => part sample third (m ((c.tc : Thread nD τ).loc main_arg0)) (m ((c.tc : Thread nD τ).loc main_arg1)) (m ((c.tc : Thread nD τ).loc main_arg2)) (y 0) (y 1) := by
  refine (dats m 0 c).arrAt_eq_of_covers 6 _ (by decide +kernel) fun t _ y => ?_
  blk_simp
  rw [after0_6]
  unfold_out out0_6
  frame_out
  rw [block_v]
  unfold part sample third
  refine entry_congr (fun k => ?_) (fun k => ?_) (fun k => ?_)
  · blk_point [iblk, V, idx t]
  · blk_point [iblk, V, idx t]
  · blk_point [iblk, V, idx t]

theorem value_short : (dats m 0 c).arrAt 7 cfg0.N = fun y => part sample third (m ((c.tc : Thread nD τ).loc main_arg0)) (m ((c.tc : Thread nD τ).loc main_arg1)) (m ((c.tc : Thread nD τ).loc main_arg2)) (y 0) (y 1) := by
  refine (dats m 0 c).arrAt_eq_of_covers 7 _ (by decide +kernel) fun t _ y => ?_
  blk_simp
  rw [after0_7]
  unfold_out out0_7
  frame_out
  rw [block_vb]
  unfold part sample third
  refine entry_congr (fun k => ?_) (fun k => ?_) (fun k => ?_)
  · blk_point [iblk, V, idx t]
  · blk_point [iblk, V, idx t]
  · blk_point [iblk, V, idx t]

end Cert.Proj.SbSample

end
-- ==== Proof.SbSampleRef.lean ====
/- The reference's input projection of the stick-breaking attention, the sample's rows. -/
module

public import proofs.«01_k».proof.Proof.Proj
public import proofs.«01_k».proof.Proof.Gen.Reference9Ideal.Run

@[expose] public section

set_option maxRecDepth 16384

noncomputable section

namespace Cert.Proj.SbSampleRef

open Idealize.ShloMosaic Idealize.ShloMosaic.TcCoe
open Cert.Reference9Ideal Cert.Reference9Ideal.Gen
open scoped BigOperators

/-- The reference's arrays are the projection's parts. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = (fun y => part sample first (m ((c.tc : Thread nD τ).loc main_arg0)) (m ((c.tc : Thread nD τ).loc main_arg1)) (m ((c.tc : Thread nD τ).loc main_arg2)) (y 0) (y 1) * scale)
      ∧ r.2.mem ((c.tc : Thread nD τ).loc main_v16) = (fun y => part sample second (m ((c.tc : Thread nD τ).loc main_arg0)) (m ((c.tc : Thread nD τ).loc main_arg1)) (m ((c.tc : Thread nD τ).loc main_arg2)) (y 0) (y 1))
      ∧ r.2.mem ((c.tc : Thread nD τ).loc main_v21) = (fun y => part sample second (m ((c.tc : Thread nD τ).loc main_arg0)) (m ((c.tc : Thread nD τ).loc main_arg1)) (m ((c.tc : Thread nD τ).loc main_arg2)) (y 0) (y 1))
      ∧ r.2.mem ((c.tc : Thread nD τ).loc main_v17) = (fun y => part sample third (m ((c.tc : Thread nD τ).loc main_arg0)) (m ((c.tc : Thread nD τ).loc main_arg1)) (m ((c.tc : Thread nD τ).loc main_arg2)) (y 0) (y 1))
      ∧ r.2.mem ((c.tc : Thread nD τ).loc main_v22) = (fun y => part sample third (m ((c.tc : Thread nD τ).loc main_arg0)) (m ((c.tc : Thread nD τ).loc main_arg1)) (m ((c.tc : Thread nD τ).loc main_arg2)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h0, h1, h2, h3, h4, k⟩ := h c
  unfold part entry Ffn.normed scale sample first second third
  refine ⟨h0.trans (funext fun y => ?_), h1.trans (funext fun y => ?_), h2.trans (funext fun y => ?_), h3.trans (funext fun y => ?_), h4.trans (funext fun y => ?_), k⟩
  all_goals pointwise []

end Cert.Proj.SbSampleRef

end
-- ==== Proof.BandPrompt.lean ====
/- The kernel's input projection of the band attention, the prompt's rows. -/
module

public import proofs.«01_k».proof.Proof.HeadNorm
public import proofs.«01_k».proof.Proof.Gen.Kernel10Ideal.Value
public import Idealize.ShloMosaic.Lib.Pipeline.ValueKit

@[expose] public section

set_option maxRecDepth 16384

noncomputable section

namespace Cert.Proj.BandPrompt

open Idealize.ShloMosaic Idealize.ShloMosaic.TcCoe
open Cert.Kernel10Ideal Cert.Kernel10Ideal.Gen Cert.Kernel10Ideal.Value
open scoped BigOperators

/-- A block of products. -/
theorem block (x : Vec Ideal S512x1024 .f32) (n : Vec Ideal S1x1024 .f32) (w : Vec Ideal S1024x1024 .bf16) (y : S512x1024.Idx) :
    k0_pay2 x n w y = entry (fun k => x (ix2 (y 0) k)) (fun k => n (ix2 0 k)) (fun k => w (ix2 k (y 1))) := by
  unfold entry Ffn.normed
  pointwise [k0_pay2, k0_pay1]

theorem block' (x : Vec Ideal S512x1024 .f32) (n : Vec Ideal S1x1024 .f32) (w : Vec Ideal S1024x1024 .bf16) (y : S512x1024.Idx) :
    k0_pay30 (k0_pay1 x n) w y = entry (fun k => x (ix2 (y 0) k)) (fun k => n (ix2 0 k)) (fun k => w (ix2 k (y 1))) := by
  unfold entry Ffn.normed
  pointwise [k0_pay30, k0_pay1]

theorem block_v (x : Vec Ideal S512x1024 .f32) (n : Vec Ideal S1x1024 .f32) (w : Vec Ideal S1024x1024 .bf16) (y : S512x1024.Idx) :
    k0_pay56 (k0_pay1 x n) w y = entry (fun k => x (ix2 (y 0) k)) (fun k => n (ix2 0 k)) (fun k => w (ix2 k (y 1))) := by
  unfold entry Ffn.normed
  pointwise [k0_pay56, k0_pay1]

theorem block_vb (x : Vec Ideal S512x1024 .f32) (n : Vec Ideal S1x1024 .f32) (w : Vec Ideal S1024x1024 .bf16) (y : S512x1024.Idx) :
    k0_pay57 (k0_pay1 x n) w y = entry (fun k => x (ix2 (y 0) k)) (fun k => n (ix2 0 k)) (fun k => w (ix2 k (y 1))) :=
  block_v x n w y

/-- Two heads side by side, at an index. -/
theorem two (v : FVec Ideal S512x128 .f32) (g : Vec Ideal S1x128 .f32) (y : S512x128.Idx) :
    k0_pay16 v g y = pairs (fun l => v (ix2 (y 0) l)) (fun l => g (ix2 0 l)) (y 1) := by
  refine Eq.trans ?_ (pairs_select _ _ _)
  pointwise [k0_pay16]

theorem fits (p : ℕ) (h : p < 8) : Shape.Slices S512x1024 ![0, 128 * p] S512x128 := by
  interval_cases p <;> decide

def slot (p : ℕ) (h : p < 8) (v : FVec Ideal S512x1024 .f32) : FVec Ideal S512x128 .f32 := extractStridedSlice S512x128 ![0, 128 * p] v (fits p h)

theorem slot_at (p : ℕ) (h : p < 8) (v : FVec Ideal S512x1024 .f32) (r : Fin 512) (l : Fin 128) : slot p h v (ix2 r l) = v (ix2 r ⟨128 * p + l.val, by omega⟩) := by
  unfold slot
  pointwise []

theorem piece (p : ℕ) (hp : p < 8) (v : FVec Ideal S512x1024 .f32) (g : Vec Ideal S1x128 .f32) (h : Fin 64 → EReal)
    (hg : ∀ l : Fin 128, g (ix2 0 l) = h ⟨l.val % 64, Nat.mod_lt _ (by norm_num)⟩) (r : Fin 512) (l : Fin 128) (j : Fin 1024) (hj : 128 * p + l.val = j.val) :
    k0_pay16 (slot p hp v) g (ix2 r l) = heads (fun j => v (ix2 r j)) h j := by
  refine (two _ _ _).trans (Eq.trans ?_ (pairs_eq (fun j => v (ix2 r j)) h p hp l j hj))
  exact congrArg₂ (fun a b => pairs a b l) (funext fun k => slot_at p hp v r k) (funext hg)

/-- The eight pairs, joined. -/
def stack (v : FVec Ideal S512x1024 .f32) (g : Vec Ideal S1x128 .f32) : FVec Ideal S512x1024 .f32 :=
  concatenate S512x1024 1 [⟨S512x128, k0_pay16 (slot 0 (by decide) v) g⟩, ⟨S512x128, k0_pay16 (slot 1 (by decide) v) g⟩, ⟨S512x128, k0_pay16 (slot 2 (by decide) v) g⟩, ⟨S512x128, k0_pay16 (slot 3 (by decide) v) g⟩, ⟨S512x128, k0_pay16 (slot 4 (by decide) v) g⟩, ⟨S512x128, k0_pay16 (slot 5 (by decide) v) g⟩, ⟨S512x128, k0_pay16 (slot 6 (by decide) v) g⟩, ⟨S512x128, k0_pay16 (slot 7 (by decide) v) g⟩] concatenates_S512x128_S512x128_S512x128_S512x128_S512x128_S512x128_S512x128_S512x128_S512x1024_d1

theorem stack_at (v : FVec Ideal S512x1024 .f32) (g : Vec Ideal S1x128 .f32) (y : S512x1024.Idx) (h : Fin 64 → EReal)
    (hg : ∀ l : Fin 128, g (ix2 0 l) = h ⟨l.val % 64, Nat.mod_lt _ (by norm_num)⟩) :
    (stack v g y : EReal) = heads (fun j => v (ix2 (y 0) j)) h (y 1) := by
  have hy : (y 1).val < 1024 := (y 1).isLt
  unfold stack
  pointwise []
  by_cases h0 : (y 1).val < 128
  · rw [dif_pos h0]; exact piece 0 (by decide) v g h hg (y 0) _ (y 1) (by simp only; omega)
  · rw [dif_neg h0]
    by_cases h1 : (y 1).val - 128 < 128
    · rw [dif_pos h1]; exact piece 1 (by decide) v g h hg (y 0) _ (y 1) (by simp only; omega)
    · rw [dif_neg h1]
      by_cases h2 : (y 1).val - 128 - 128 < 128
      · rw [dif_pos h2]; exact piece 2 (by decide) v g h hg (y 0) _ (y 1) (by simp only; omega)
      · rw [dif_neg h2]
        by_cases h3 : (y 1).val - 128 - 128 - 128 < 128
        · rw [dif_pos h3]; exact piece 3 (by decide) v g h hg (y 0) _ (y 1) (by simp only; omega)
        · rw [dif_neg h3]
          by_cases h4 : (y 1).val - 128 - 128 - 128 - 128 < 128
          · rw [dif_pos h4]; exact piece 4 (by decide) v g h hg (y 0) _ (y 1) (by simp only; omega)
          · rw [dif_neg h4]
            by_cases h5 : (y 1).val - 128 - 128 - 128 - 128 - 128 < 128
            · rw [dif_pos h5]; exact piece 5 (by decide) v g h hg (y 0) _ (y 1) (by simp only; omega)
            · rw [dif_neg h5]
              by_cases h6 : (y 1).val - 128 - 128 - 128 - 128 - 128 - 128 < 128
              · rw [dif_pos h6]; exact piece 6 (by decide) v g h hg (y 0) _ (y 1) (by simp only; omega)
              · rw [dif_neg h6]
                exact piece 7 (by decide) v g h hg (y 0) _ (y 1) (by simp only; omega)

/-- One block of the queries, -/
theorem q_at (x : Vec Ideal S512x1024 .f32) (n : Vec Ideal S1x1024 .f32) (w : Vec Ideal S1024x1024 .bf16) (g : Vec Ideal S1x128 .f32) (y : S512x1024.Idx) (h : Fin 64 → EReal)
    (hg : ∀ l : Fin 128, g (ix2 0 l) = h ⟨l.val % 64, Nat.mod_lt _ (by norm_num)⟩) :
    (k0_pay29 (k0_pay6 (k0_pay3 x n w) (k0_pay4 g) (k0_pay5 x n w)) (k0_pay7 (k0_pay2 x n w) g) (k0_pay13 (k0_pay8 (k0_pay2 x n w)) (k0_pay9 g) k0_pay10 (k0_pay11 (k0_pay2 x n w)) (k0_pay12 (k0_pay2 x n w)))
      (k0_pay14 (k0_pay2 x n w) g) (k0_pay16 (k0_pay15 (k0_pay2 x n w)) g) (k0_pay23 (k0_pay17 (k0_pay2 x n w)) (k0_pay18 g) k0_pay19 (k0_pay21 (k0_pay2 x n w)) (k0_pay22 (k0_pay2 x n w))) (k0_pay24 (k0_pay2 x n w) g)
      (k0_pay25 (k0_pay2 x n w)) (k0_pay26 g) k0_pay27 (k0_pay28 (k0_pay2 x n w)) (Scalar.ofBits .f32 0x00000000#32) y : EReal)
    = heads (fun j => entry (fun k => x (ix2 (y 0) k)) (fun k => n (ix2 0 k)) (fun k => w (ix2 k j))) h (y 1) * eighth := by
  refine (show _ = (stack (k0_pay2 x n w) g y : EReal) * eighth from rfl).trans ?_
  refine congrArg (· * eighth) ((stack_at _ _ _ h hg).trans ?_)
  exact heads_congr (fun j => block x n w (ix2 (y 0) j)) (fun _ => rfl) rfl

/-- of the keys. -/
theorem k_at (x : Vec Ideal S512x1024 .f32) (n : Vec Ideal S1x1024 .f32) (w : Vec Ideal S1024x1024 .bf16) (g : Vec Ideal S1x128 .f32) (y : S512x1024.Idx) (h : Fin 64 → EReal)
    (hg : ∀ l : Fin 128, g (ix2 0 l) = h ⟨l.val % 64, Nat.mod_lt _ (by norm_num)⟩) :
    (k0_pay54 (k0_pay30 (k0_pay1 x n) w) (k0_pay37 (k0_pay31 (k0_pay1 x n) w) (k0_pay32 g) k0_pay33 (k0_pay35 (k0_pay1 x n) w) (k0_pay36 (k0_pay1 x n) w)) (k0_pay38 (k0_pay30 (k0_pay1 x n) w) g) (k0_pay41 (k0_pay39 (k0_pay30 (k0_pay1 x n) w)) (k0_pay40 g)) (k0_pay45 (k0_pay42 (k0_pay30 (k0_pay1 x n) w)) (k0_pay43 g) (k0_pay44 (k0_pay30 (k0_pay1 x n) w)) (Scalar.ofBits .f32 0x3C800000#32)) (k0_pay46 (k0_pay30 (k0_pay1 x n) w) g) (k0_pay52 (k0_pay47 (k0_pay30 (k0_pay1 x n) w)) (k0_pay48 g) k0_pay49 (k0_pay50 (k0_pay30 (k0_pay1 x n) w)) (k0_pay51 (k0_pay30 (k0_pay1 x n) w))) (k0_pay53 (k0_pay30 (k0_pay1 x n) w) g) g y : EReal)
    = heads (fun j => entry (fun k => x (ix2 (y 0) k)) (fun k => n (ix2 0 k)) (fun k => w (ix2 k j))) h (y 1) := by
  refine (show _ = (stack (k0_pay30 (k0_pay1 x n) w) g y : EReal) from rfl).trans ?_
  refine (stack_at _ _ _ h hg).trans ?_
  exact heads_congr (fun j => block' x n w (ix2 (y 0) j)) (fun _ => rfl) rfl

theorem kb_at (x : Vec Ideal S512x1024 .f32) (n : Vec Ideal S1x1024 .f32) (w : Vec Ideal S1024x1024 .bf16) (g : Vec Ideal S1x128 .f32) (y : S512x1024.Idx) (h : Fin 64 → EReal)
    (hg : ∀ l : Fin 128, g (ix2 0 l) = h ⟨l.val % 64, Nat.mod_lt _ (by norm_num)⟩) :
    (k0_pay55 (k0_pay30 (k0_pay1 x n) w) (k0_pay37 (k0_pay31 (k0_pay1 x n) w) (k0_pay32 g) k0_pay33 (k0_pay35 (k0_pay1 x n) w) (k0_pay36 (k0_pay1 x n) w)) (k0_pay38 (k0_pay30 (k0_pay1 x n) w) g) (k0_pay41 (k0_pay39 (k0_pay30 (k0_pay1 x n) w)) (k0_pay40 g)) (k0_pay45 (k0_pay42 (k0_pay30 (k0_pay1 x n) w)) (k0_pay43 g) (k0_pay44 (k0_pay30 (k0_pay1 x n) w)) (Scalar.ofBits .f32 0x3C800000#32)) (k0_pay46 (k0_pay30 (k0_pay1 x n) w) g) (k0_pay52 (k0_pay47 (k0_pay30 (k0_pay1 x n) w)) (k0_pay48 g) k0_pay49 (k0_pay50 (k0_pay30 (k0_pay1 x n) w)) (k0_pay51 (k0_pay30 (k0_pay1 x n) w))) (k0_pay53 (k0_pay30 (k0_pay1 x n) w) g) g y : EReal)
    = heads (fun j => entry (fun k => x (ix2 (y 0) k)) (fun k => n (ix2 0 k)) (fun k => w (ix2 k j))) h (y 1) :=
  k_at x n w g y h hg

theorem idx : ∀ t : Fin cfg0.N, win0_0.index t = ![t.val, 0] ∧ win0_1.index t = ![0, 0] ∧ win0_2.index t = ![0, 0] ∧ win0_3.index t = ![0, 0] ∧ win0_4.index t = ![0, 0]
    ∧ win0_5.index t = ![t.val, 0] ∧ win0_6.index t = ![t.val, 0] ∧ win0_7.index t = ![t.val, 0] ∧ win0_8.index t = ![t.val, 0] ∧ win0_9.index t = ![t.val, 0] :=
  (by decide +kernel : ∀ t : Fin grid0.N, _)

variable (m : (ℓ : Loc nD τ sig) → Buf (Elt Ideal) ℓ) (c : Dev nD)

theorem gain_q (l : Fin 128) : (V m c main_v5 : Vec Ideal S1x128 .f32) (ix2 0 l) = (m ((c.tc : Thread nD τ).loc main_arg3)) (ix1 ⟨l.val % 64, Nat.mod_lt _ (by norm_num)⟩) := by
  simp only [V, hostOps0, List.flatten_cons, List.flatten_nil, List.append_nil, List.cons_append, List.nil_append]
  entry_read
  pointwise []

theorem gain_k (l : Fin 128) : (V m c main_v9 : Vec Ideal S1x128 .f32) (ix2 0 l) = (m ((c.tc : Thread nD τ).loc main_arg4)) (ix1 ⟨l.val % 64, Nat.mod_lt _ (by norm_num)⟩) := by
  simp only [V, hostOps0, List.flatten_cons, List.flatten_nil, List.append_nil, List.cons_append, List.nil_append]
  entry_read
  pointwise []

theorem gq (t : Fin cfg0.N) (l : Fin 128) : iblk m c 3 t (ix2 0 l) = (m ((c.tc : Thread nD τ).loc main_arg3)) (ix1 ⟨l.val % 64, Nat.mod_lt _ (by norm_num)⟩) := by
  refine (show iblk m c 3 t (ix2 0 l) = (V m c main_v5 : Vec Ideal S1x128 .f32) (ix2 0 l) from ?_).trans (gain_q m c l)
  blk_point [iblk, idx t]

theorem gk (t : Fin cfg0.N) (l : Fin 128) : iblk m c 4 t (ix2 0 l) = (m ((c.tc : Thread nD τ).loc main_arg4)) (ix1 ⟨l.val % 64, Nat.mod_lt _ (by norm_num)⟩) := by
  refine (show iblk m c 4 t (ix2 0 l) = (V m c main_v9 : Vec Ideal S1x128 .f32) (ix2 0 l) from ?_).trans (gain_k m c l)
  blk_point [iblk, idx t]

theorem query : (dats m 0 c).arrAt 5 cfg0.N = fun y => heads (fun j => part prompt first (m ((c.tc : Thread nD τ).loc main_arg0)) (m ((c.tc : Thread nD τ).loc main_arg1)) (m ((c.tc : Thread nD τ).loc main_arg2)) (y 0) j) (fun d => (m ((c.tc : Thread nD τ).loc main_arg3)) (ix1 d)) (y 1) * eighth := by
  refine (dats m 0 c).arrAt_eq_of_covers 5 _ (by decide +kernel) fun t _ y => ?_
  blk_simp
  rw [after0_5]
  unfold_out out0_5
  frame_out
  refine (q_at _ _ _ _ _ (fun d => (m ((c.tc : Thread nD τ).loc main_arg3)) (ix1 d)) (gq m c t)).trans ?_
  refine congrArg (· * eighth) ?_
  refine heads_congr (fun j => ?_) (fun _ => rfl) (Fin.ext (by blk_simp [idx t]))
  unfold part prompt first
  refine entry_congr (fun k => ?_) (fun k => ?_) (fun k => ?_)
  · blk_point [iblk, V, idx t]
  · blk_point [iblk, V, idx t]
  · blk_point [iblk, V, idx t]

theorem key : (dats m 0 c).arrAt 6 cfg0.N = fun y => heads (fun j => part prompt second (m ((c.tc : Thread nD τ).loc main_arg0)) (m ((c.tc : Thread nD τ).loc main_arg1)) (m ((c.tc : Thread nD τ).loc main_arg2)) (y 0) j) (fun d => (m ((c.tc : Thread nD τ).loc main_arg4)) (ix1 d)) (y 1) := by
  refine (dats m 0 c).arrAt_eq_of_covers 6 _ (by decide +kernel) fun t _ y => ?_
  blk_simp
  rw [after0_6]
  unfold_out out0_6
  frame_out
  refine (k_at _ _ _ _ _ (fun d => (m ((c.tc : Thread nD τ).loc main_arg4)) (ix1 d)) (gk m c t)).trans ?_
  refine heads_congr (fun j => ?_) (fun _ => rfl) (Fin.ext (by blk_simp [idx t]))
  unfold part prompt second
  refine entry_congr (fun k => ?_) (fun k => ?_) (fun k => ?_)
  · blk_point [iblk, V, idx t]
  · blk_point [iblk, V, idx t]
  · blk_point [iblk, V, idx t]

theorem key_short : (dats m 0 c).arrAt 7 cfg0.N = fun y => heads (fun j => part prompt second (m ((c.tc : Thread nD τ).loc main_arg0)) (m ((c.tc : Thread nD τ).loc main_arg1)) (m ((c.tc : Thread nD τ).loc main_arg2)) (y 0) j) (fun d => (m ((c.tc : Thread nD τ).loc main_arg4)) (ix1 d)) (y 1) := by
  refine (dats m 0 c).arrAt_eq_of_covers 7 _ (by decide +kernel) fun t _ y => ?_
  blk_simp
  rw [after0_7]
  unfold_out out0_7
  frame_out
  refine (kb_at _ _ _ _ _ (fun d => (m ((c.tc : Thread nD τ).loc main_arg4)) (ix1 d)) (gk m c t)).trans ?_
  refine heads_congr (fun j => ?_) (fun _ => rfl) (Fin.ext (by blk_simp [idx t]))
  unfold part prompt second
  refine entry_congr (fun k => ?_) (fun k => ?_) (fun k => ?_)
  · blk_point [iblk, V, idx t]
  · blk_point [iblk, V, idx t]
  · blk_point [iblk, V, idx t]

theorem value : (dats m 0 c).arrAt 8 cfg0.N = fun y => part prompt third (m ((c.tc : Thread nD τ).loc main_arg0)) (m ((c.tc : Thread nD τ).loc main_arg1)) (m ((c.tc : Thread nD τ).loc main_arg2)) (y 0) (y 1) := by
  refine (dats m 0 c).arrAt_eq_of_covers 8 _ (by decide +kernel) fun t _ y => ?_
  blk_simp
  rw [after0_8]
  unfold_out out0_8
  frame_out
  refine (block_v _ _ _ _).trans ?_
  unfold part prompt third
  refine entry_congr (fun k => ?_) (fun k => ?_) (fun k => ?_)
  · blk_point [iblk, V, idx t]
  · blk_point [iblk, V, idx t]
  · blk_point [iblk, V, idx t]

theorem value_short : (dats m 0 c).arrAt 9 cfg0.N = fun y => part prompt third (m ((c.tc : Thread nD τ).loc main_arg0)) (m ((c.tc : Thread nD τ).loc main_arg1)) (m ((c.tc : Thread nD τ).loc main_arg2)) (y 0) (y 1) := by
  refine (dats m 0 c).arrAt_eq_of_covers 9 _ (by decide +kernel) fun t _ y => ?_
  blk_simp
  rw [after0_9]
  unfold_out out0_9
  frame_out
  refine (block_vb _ _ _ _).trans ?_
  unfold part prompt third
  refine entry_congr (fun k => ?_) (fun k => ?_) (fun k => ?_)
  · blk_point [iblk, V, idx t]
  · blk_point [iblk, V, idx t]
  · blk_point [iblk, V, idx t]

end Cert.Proj.BandPrompt

end
-- ==== Proof.BandPromptRef.lean ====
/- The reference's input projection of the band attention, the prompt's rows. -/
module

public import proofs.«01_k».proof.Proof.HeadNorm
public import proofs.«01_k».proof.Proof.Gen.Reference10Ideal.Run

@[expose] public section

set_option maxRecDepth 16384

noncomputable section

namespace Cert.Proj.BandPromptRef

open Idealize.ShloMosaic Idealize.ShloMosaic.TcCoe
open Cert.Reference10Ideal Cert.Reference10Ideal.Gen
open scoped BigOperators

/-- The reference's arrays are the projection's parts, the queries and the keys normed by head. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = (fun y => heads (fun j => part prompt first (m ((c.tc : Thread nD τ).loc main_arg0)) (m ((c.tc : Thread nD τ).loc main_arg1)) (m ((c.tc : Thread nD τ).loc main_arg2)) (y 0) j) (fun d => (m ((c.tc : Thread nD τ).loc main_arg3)) (ix1 d)) (y 1) * eighth)
      ∧ r.2.mem ((c.tc : Thread nD τ).loc main_v49) = (fun y => heads (fun j => part prompt second (m ((c.tc : Thread nD τ).loc main_arg0)) (m ((c.tc : Thread nD τ).loc main_arg1)) (m ((c.tc : Thread nD τ).loc main_arg2)) (y 0) j) (fun d => (m ((c.tc : Thread nD τ).loc main_arg4)) (ix1 d)) (y 1))
      ∧ r.2.mem ((c.tc : Thread nD τ).loc main_v51) = (fun y => heads (fun j => part prompt second (m ((c.tc : Thread nD τ).loc main_arg0)) (m ((c.tc : Thread nD τ).loc main_arg1)) (m ((c.tc : Thread nD τ).loc main_arg2)) (y 0) j) (fun d => (m ((c.tc : Thread nD τ).loc main_arg4)) (ix1 d)) (y 1))
      ∧ r.2.mem ((c.tc : Thread nD τ).loc main_v17) = (fun y => part prompt third (m ((c.tc : Thread nD τ).loc main_arg0)) (m ((c.tc : Thread nD τ).loc main_arg1)) (m ((c.tc : Thread nD τ).loc main_arg2)) (y 0) (y 1))
      ∧ r.2.mem ((c.tc : Thread nD τ).loc main_v52) = (fun y => part prompt third (m ((c.tc : Thread nD τ).loc main_arg0)) (m ((c.tc : Thread nD τ).loc main_arg1)) (m ((c.tc : Thread nD τ).loc main_arg2)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h0, h1, h2, h3, h4, k⟩ := h c
  unfold heads part entry Ffn.normed eighth prompt first second third mate
  refine ⟨h0.trans (funext fun y => ?_), h1.trans (funext fun y => ?_), h2.trans (funext fun y => ?_), h3.trans (funext fun y => ?_), h4.trans (funext fun y => ?_), k⟩
  · pointwise [Value.res_main_v50, Value.res_main_v49]
  · pointwise [Value.res_main_v49]
  · pointwise [Value.res_main_v51, Value.res_main_v49]
  · pointwise []
  · pointwise []

end Cert.Proj.BandPromptRef

end
-- ==== Proof.BandSample.lean ====
/- The kernel's input projection of the band attention, the sample's rows. -/
module

public import proofs.«01_k».proof.Proof.HeadNorm
public import proofs.«01_k».proof.Proof.Gen.Kernel11Ideal.Value
public import Idealize.ShloMosaic.Lib.Pipeline.ValueKit

@[expose] public section

set_option maxRecDepth 16384

noncomputable section

namespace Cert.Proj.BandSample

open Idealize.ShloMosaic Idealize.ShloMosaic.TcCoe
open Cert.Kernel11Ideal Cert.Kernel11Ideal.Gen Cert.Kernel11Ideal.Value
open scoped BigOperators

/-- A block of products. -/
theorem block (x : Vec Ideal S512x1024 .f32) (n : Vec Ideal S1x1024 .f32) (w : Vec Ideal S1024x1024 .bf16) (y : S512x1024.Idx) :
    k0_pay2 x n w y = entry (fun k => x (ix2 (y 0) k)) (fun k => n (ix2 0 k)) (fun k => w (ix2 k (y 1))) := by
  unfold entry Ffn.normed
  pointwise [k0_pay2, k0_pay1]

theorem block' (x : Vec Ideal S512x1024 .f32) (n : Vec Ideal S1x1024 .f32) (w : Vec Ideal S1024x1024 .bf16) (y : S512x1024.Idx) :
    k0_pay30 (k0_pay1 x n) w y = entry (fun k => x (ix2 (y 0) k)) (fun k => n (ix2 0 k)) (fun k => w (ix2 k (y 1))) := by
  unfold entry Ffn.normed
  pointwise [k0_pay30, k0_pay1]

theorem block_v (x : Vec Ideal S512x1024 .f32) (n : Vec Ideal S1x1024 .f32) (w : Vec Ideal S1024x1024 .bf16) (y : S512x1024.Idx) :
    k0_pay56 (k0_pay1 x n) w y = entry (fun k => x (ix2 (y 0) k)) (fun k => n (ix2 0 k)) (fun k => w (ix2 k (y 1))) := by
  unfold entry Ffn.normed
  pointwise [k0_pay56, k0_pay1]

theorem block_vb (x : Vec Ideal S512x1024 .f32) (n : Vec Ideal S1x1024 .f32) (w : Vec Ideal S1024x1024 .bf16) (y : S512x1024.Idx) :
    k0_pay57 (k0_pay1 x n) w y = entry (fun k => x (ix2 (y 0) k)) (fun k => n (ix2 0 k)) (fun k => w (ix2 k (y 1))) :=
  block_v x n w y

/-- Two heads side by side, at an index. -/
theorem two (v : FVec Ideal S512x128 .f32) (g : Vec Ideal S1x128 .f32) (y : S512x128.Idx) :
    k0_pay16 v g y = pairs (fun l => v (ix2 (y 0) l)) (fun l => g (ix2 0 l)) (y 1) := by
  refine Eq.trans ?_ (pairs_select _ _ _)
  pointwise [k0_pay16]

theorem fits (p : ℕ) (h : p < 8) : Shape.Slices S512x1024 ![0, 128 * p] S512x128 := by
  interval_cases p <;> decide

def slot (p : ℕ) (h : p < 8) (v : FVec Ideal S512x1024 .f32) : FVec Ideal S512x128 .f32 := extractStridedSlice S512x128 ![0, 128 * p] v (fits p h)

theorem slot_at (p : ℕ) (h : p < 8) (v : FVec Ideal S512x1024 .f32) (r : Fin 512) (l : Fin 128) : slot p h v (ix2 r l) = v (ix2 r ⟨128 * p + l.val, by omega⟩) := by
  unfold slot
  pointwise []

theorem piece (p : ℕ) (hp : p < 8) (v : FVec Ideal S512x1024 .f32) (g : Vec Ideal S1x128 .f32) (h : Fin 64 → EReal)
    (hg : ∀ l : Fin 128, g (ix2 0 l) = h ⟨l.val % 64, Nat.mod_lt _ (by norm_num)⟩) (r : Fin 512) (l : Fin 128) (j : Fin 1024) (hj : 128 * p + l.val = j.val) :
    k0_pay16 (slot p hp v) g (ix2 r l) = heads (fun j => v (ix2 r j)) h j := by
  refine (two _ _ _).trans (Eq.trans ?_ (pairs_eq (fun j => v (ix2 r j)) h p hp l j hj))
  exact congrArg₂ (fun a b => pairs a b l) (funext fun k => slot_at p hp v r k) (funext hg)

/-- The eight pairs, joined. -/
def stack (v : FVec Ideal S512x1024 .f32) (g : Vec Ideal S1x128 .f32) : FVec Ideal S512x1024 .f32 :=
  concatenate S512x1024 1 [⟨S512x128, k0_pay16 (slot 0 (by decide) v) g⟩, ⟨S512x128, k0_pay16 (slot 1 (by decide) v) g⟩, ⟨S512x128, k0_pay16 (slot 2 (by decide) v) g⟩, ⟨S512x128, k0_pay16 (slot 3 (by decide) v) g⟩, ⟨S512x128, k0_pay16 (slot 4 (by decide) v) g⟩, ⟨S512x128, k0_pay16 (slot 5 (by decide) v) g⟩, ⟨S512x128, k0_pay16 (slot 6 (by decide) v) g⟩, ⟨S512x128, k0_pay16 (slot 7 (by decide) v) g⟩] concatenates_S512x128_S512x128_S512x128_S512x128_S512x128_S512x128_S512x128_S512x128_S512x1024_d1

theorem stack_at (v : FVec Ideal S512x1024 .f32) (g : Vec Ideal S1x128 .f32) (y : S512x1024.Idx) (h : Fin 64 → EReal)
    (hg : ∀ l : Fin 128, g (ix2 0 l) = h ⟨l.val % 64, Nat.mod_lt _ (by norm_num)⟩) :
    (stack v g y : EReal) = heads (fun j => v (ix2 (y 0) j)) h (y 1) := by
  have hy : (y 1).val < 1024 := (y 1).isLt
  unfold stack
  pointwise []
  by_cases h0 : (y 1).val < 128
  · rw [dif_pos h0]; exact piece 0 (by decide) v g h hg (y 0) _ (y 1) (by simp only; omega)
  · rw [dif_neg h0]
    by_cases h1 : (y 1).val - 128 < 128
    · rw [dif_pos h1]; exact piece 1 (by decide) v g h hg (y 0) _ (y 1) (by simp only; omega)
    · rw [dif_neg h1]
      by_cases h2 : (y 1).val - 128 - 128 < 128
      · rw [dif_pos h2]; exact piece 2 (by decide) v g h hg (y 0) _ (y 1) (by simp only; omega)
      · rw [dif_neg h2]
        by_cases h3 : (y 1).val - 128 - 128 - 128 < 128
        · rw [dif_pos h3]; exact piece 3 (by decide) v g h hg (y 0) _ (y 1) (by simp only; omega)
        · rw [dif_neg h3]
          by_cases h4 : (y 1).val - 128 - 128 - 128 - 128 < 128
          · rw [dif_pos h4]; exact piece 4 (by decide) v g h hg (y 0) _ (y 1) (by simp only; omega)
          · rw [dif_neg h4]
            by_cases h5 : (y 1).val - 128 - 128 - 128 - 128 - 128 < 128
            · rw [dif_pos h5]; exact piece 5 (by decide) v g h hg (y 0) _ (y 1) (by simp only; omega)
            · rw [dif_neg h5]
              by_cases h6 : (y 1).val - 128 - 128 - 128 - 128 - 128 - 128 < 128
              · rw [dif_pos h6]; exact piece 6 (by decide) v g h hg (y 0) _ (y 1) (by simp only; omega)
              · rw [dif_neg h6]
                exact piece 7 (by decide) v g h hg (y 0) _ (y 1) (by simp only; omega)

/-- One block of the queries, -/
theorem q_at (x : Vec Ideal S512x1024 .f32) (n : Vec Ideal S1x1024 .f32) (w : Vec Ideal S1024x1024 .bf16) (g : Vec Ideal S1x128 .f32) (y : S512x1024.Idx) (h : Fin 64 → EReal)
    (hg : ∀ l : Fin 128, g (ix2 0 l) = h ⟨l.val % 64, Nat.mod_lt _ (by norm_num)⟩) :
    (k0_pay29 (k0_pay6 (k0_pay3 x n w) (k0_pay4 g) (k0_pay5 x n w)) (k0_pay7 (k0_pay2 x n w) g) (k0_pay13 (k0_pay8 (k0_pay2 x n w)) (k0_pay9 g) k0_pay10 (k0_pay11 (k0_pay2 x n w)) (k0_pay12 (k0_pay2 x n w)))
      (k0_pay14 (k0_pay2 x n w) g) (k0_pay16 (k0_pay15 (k0_pay2 x n w)) g) (k0_pay23 (k0_pay17 (k0_pay2 x n w)) (k0_pay18 g) k0_pay19 (k0_pay21 (k0_pay2 x n w)) (k0_pay22 (k0_pay2 x n w))) (k0_pay24 (k0_pay2 x n w) g)
      (k0_pay25 (k0_pay2 x n w)) (k0_pay26 g) k0_pay27 (k0_pay28 (k0_pay2 x n w)) (Scalar.ofBits .f32 0x00000000#32) y : EReal)
    = heads (fun j => entry (fun k => x (ix2 (y 0) k)) (fun k => n (ix2 0 k)) (fun k => w (ix2 k j))) h (y 1) * eighth := by
  refine (show _ = (stack (k0_pay2 x n w) g y : EReal) * eighth from rfl).trans ?_
  refine congrArg (· * eighth) ((stack_at _ _ _ h hg).trans ?_)
  exact heads_congr (fun j => block x n w (ix2 (y 0) j)) (fun _ => rfl) rfl

/-- of the keys. -/
theorem k_at (x : Vec Ideal S512x1024 .f32) (n : Vec Ideal S1x1024 .f32) (w : Vec Ideal S1024x1024 .bf16) (g : Vec Ideal S1x128 .f32) (y : S512x1024.Idx) (h : Fin 64 → EReal)
    (hg : ∀ l : Fin 128, g (ix2 0 l) = h ⟨l.val % 64, Nat.mod_lt _ (by norm_num)⟩) :
    (k0_pay54 (k0_pay30 (k0_pay1 x n) w) (k0_pay37 (k0_pay31 (k0_pay1 x n) w) (k0_pay32 g) k0_pay33 (k0_pay35 (k0_pay1 x n) w) (k0_pay36 (k0_pay1 x n) w)) (k0_pay38 (k0_pay30 (k0_pay1 x n) w) g) (k0_pay41 (k0_pay39 (k0_pay30 (k0_pay1 x n) w)) (k0_pay40 g)) (k0_pay45 (k0_pay42 (k0_pay30 (k0_pay1 x n) w)) (k0_pay43 g) (k0_pay44 (k0_pay30 (k0_pay1 x n) w)) (Scalar.ofBits .f32 0x3C800000#32)) (k0_pay46 (k0_pay30 (k0_pay1 x n) w) g) (k0_pay52 (k0_pay47 (k0_pay30 (k0_pay1 x n) w)) (k0_pay48 g) k0_pay49 (k0_pay50 (k0_pay30 (k0_pay1 x n) w)) (k0_pay51 (k0_pay30 (k0_pay1 x n) w))) (k0_pay53 (k0_pay30 (k0_pay1 x n) w) g) g y : EReal)
    = heads (fun j => entry (fun k => x (ix2 (y 0) k)) (fun k => n (ix2 0 k)) (fun k => w (ix2 k j))) h (y 1) := by
  refine (show _ = (stack (k0_pay30 (k0_pay1 x n) w) g y : EReal) from rfl).trans ?_
  refine (stack_at _ _ _ h hg).trans ?_
  exact heads_congr (fun j => block' x n w (ix2 (y 0) j)) (fun _ => rfl) rfl

theorem kb_at (x : Vec Ideal S512x1024 .f32) (n : Vec Ideal S1x1024 .f32) (w : Vec Ideal S1024x1024 .bf16) (g : Vec Ideal S1x128 .f32) (y : S512x1024.Idx) (h : Fin 64 → EReal)
    (hg : ∀ l : Fin 128, g (ix2 0 l) = h ⟨l.val % 64, Nat.mod_lt _ (by norm_num)⟩) :
    (k0_pay55 (k0_pay30 (k0_pay1 x n) w) (k0_pay37 (k0_pay31 (k0_pay1 x n) w) (k0_pay32 g) k0_pay33 (k0_pay35 (k0_pay1 x n) w) (k0_pay36 (k0_pay1 x n) w)) (k0_pay38 (k0_pay30 (k0_pay1 x n) w) g) (k0_pay41 (k0_pay39 (k0_pay30 (k0_pay1 x n) w)) (k0_pay40 g)) (k0_pay45 (k0_pay42 (k0_pay30 (k0_pay1 x n) w)) (k0_pay43 g) (k0_pay44 (k0_pay30 (k0_pay1 x n) w)) (Scalar.ofBits .f32 0x3C800000#32)) (k0_pay46 (k0_pay30 (k0_pay1 x n) w) g) (k0_pay52 (k0_pay47 (k0_pay30 (k0_pay1 x n) w)) (k0_pay48 g) k0_pay49 (k0_pay50 (k0_pay30 (k0_pay1 x n) w)) (k0_pay51 (k0_pay30 (k0_pay1 x n) w))) (k0_pay53 (k0_pay30 (k0_pay1 x n) w) g) g y : EReal)
    = heads (fun j => entry (fun k => x (ix2 (y 0) k)) (fun k => n (ix2 0 k)) (fun k => w (ix2 k j))) h (y 1) :=
  k_at x n w g y h hg

theorem idx : ∀ t : Fin cfg0.N, win0_0.index t = ![32 + t.val, 0] ∧ win0_1.index t = ![0, 0] ∧ win0_2.index t = ![0, 0] ∧ win0_3.index t = ![0, 0] ∧ win0_4.index t = ![0, 0]
    ∧ win0_5.index t = ![t.val, 0] ∧ win0_6.index t = ![t.val, 0] ∧ win0_7.index t = ![t.val, 0] ∧ win0_8.index t = ![t.val, 0] ∧ win0_9.index t = ![t.val, 0] :=
  (by decide +kernel : ∀ t : Fin grid0.N, _)

variable (m : (ℓ : Loc nD τ sig) → Buf (Elt Ideal) ℓ) (c : Dev nD)

theorem gain_q (l : Fin 128) : (V m c main_v5 : Vec Ideal S1x128 .f32) (ix2 0 l) = (m ((c.tc : Thread nD τ).loc main_arg3)) (ix1 ⟨l.val % 64, Nat.mod_lt _ (by norm_num)⟩) := by
  simp only [V, hostOps0, List.flatten_cons, List.flatten_nil, List.append_nil, List.cons_append, List.nil_append]
  entry_read
  pointwise []

theorem gain_k (l : Fin 128) : (V m c main_v9 : Vec Ideal S1x128 .f32) (ix2 0 l) = (m ((c.tc : Thread nD τ).loc main_arg4)) (ix1 ⟨l.val % 64, Nat.mod_lt _ (by norm_num)⟩) := by
  simp only [V, hostOps0, List.flatten_cons, List.flatten_nil, List.append_nil, List.cons_append, List.nil_append]
  entry_read
  pointwise []

theorem gq (t : Fin cfg0.N) (l : Fin 128) : iblk m c 3 t (ix2 0 l) = (m ((c.tc : Thread nD τ).loc main_arg3)) (ix1 ⟨l.val % 64, Nat.mod_lt _ (by norm_num)⟩) := by
  refine (show iblk m c 3 t (ix2 0 l) = (V m c main_v5 : Vec Ideal S1x128 .f32) (ix2 0 l) from ?_).trans (gain_q m c l)
  blk_point [iblk, idx t]

theorem gk (t : Fin cfg0.N) (l : Fin 128) : iblk m c 4 t (ix2 0 l) = (m ((c.tc : Thread nD τ).loc main_arg4)) (ix1 ⟨l.val % 64, Nat.mod_lt _ (by norm_num)⟩) := by
  refine (show iblk m c 4 t (ix2 0 l) = (V m c main_v9 : Vec Ideal S1x128 .f32) (ix2 0 l) from ?_).trans (gain_k m c l)
  blk_point [iblk, idx t]

theorem query : (dats m 0 c).arrAt 5 cfg0.N = fun y => heads (fun j => part sample first (m ((c.tc : Thread nD τ).loc main_arg0)) (m ((c.tc : Thread nD τ).loc main_arg1)) (m ((c.tc : Thread nD τ).loc main_arg2)) (y 0) j) (fun d => (m ((c.tc : Thread nD τ).loc main_arg3)) (ix1 d)) (y 1) * eighth := by
  refine (dats m 0 c).arrAt_eq_of_covers 5 _ (by decide +kernel) fun t _ y => ?_
  blk_simp
  rw [after0_5]
  unfold_out out0_5
  frame_out
  refine (q_at _ _ _ _ _ (fun d => (m ((c.tc : Thread nD τ).loc main_arg3)) (ix1 d)) (gq m c t)).trans ?_
  refine congrArg (· * eighth) ?_
  refine heads_congr (fun j => ?_) (fun _ => rfl) (Fin.ext (by blk_simp [idx t]))
  unfold part sample first
  refine entry_congr (fun k => ?_) (fun k => ?_) (fun k => ?_)
  · blk_point [iblk, V, idx t]
  · blk_point [iblk, V, idx t]
  · blk_point [iblk, V, idx t]

theorem key : (dats m 0 c).arrAt 6 cfg0.N = fun y => heads (fun j => part sample second (m ((c.tc : Thread nD τ).loc main_arg0)) (m ((c.tc : Thread nD τ).loc main_arg1)) (m ((c.tc : Thread nD τ).loc main_arg2)) (y 0) j) (fun d => (m ((c.tc : Thread nD τ).loc main_arg4)) (ix1 d)) (y 1) := by
  refine (dats m 0 c).arrAt_eq_of_covers 6 _ (by decide +kernel) fun t _ y => ?_
  blk_simp
  rw [after0_6]
  unfold_out out0_6
  frame_out
  refine (k_at _ _ _ _ _ (fun d => (m ((c.tc : Thread nD τ).loc main_arg4)) (ix1 d)) (gk m c t)).trans ?_
  refine heads_congr (fun j => ?_) (fun _ => rfl) (Fin.ext (by blk_simp [idx t]))
  unfold part sample second
  refine entry_congr (fun k => ?_) (fun k => ?_) (fun k => ?_)
  · blk_point [iblk, V, idx t]
  · blk_point [iblk, V, idx t]
  · blk_point [iblk, V, idx t]

theorem key_short : (dats m 0 c).arrAt 7 cfg0.N = fun y => heads (fun j => part sample second (m ((c.tc : Thread nD τ).loc main_arg0)) (m ((c.tc : Thread nD τ).loc main_arg1)) (m ((c.tc : Thread nD τ).loc main_arg2)) (y 0) j) (fun d => (m ((c.tc : Thread nD τ).loc main_arg4)) (ix1 d)) (y 1) := by
  refine (dats m 0 c).arrAt_eq_of_covers 7 _ (by decide +kernel) fun t _ y => ?_
  blk_simp
  rw [after0_7]
  unfold_out out0_7
  frame_out
  refine (kb_at _ _ _ _ _ (fun d => (m ((c.tc : Thread nD τ).loc main_arg4)) (ix1 d)) (gk m c t)).trans ?_
  refine heads_congr (fun j => ?_) (fun _ => rfl) (Fin.ext (by blk_simp [idx t]))
  unfold part sample second
  refine entry_congr (fun k => ?_) (fun k => ?_) (fun k => ?_)
  · blk_point [iblk, V, idx t]
  · blk_point [iblk, V, idx t]
  · blk_point [iblk, V, idx t]

theorem value : (dats m 0 c).arrAt 8 cfg0.N = fun y => part sample third (m ((c.tc : Thread nD τ).loc main_arg0)) (m ((c.tc : Thread nD τ).loc main_arg1)) (m ((c.tc : Thread nD τ).loc main_arg2)) (y 0) (y 1) := by
  refine (dats m 0 c).arrAt_eq_of_covers 8 _ (by decide +kernel) fun t _ y => ?_
  blk_simp
  rw [after0_8]
  unfold_out out0_8
  frame_out
  refine (block_v _ _ _ _).trans ?_
  unfold part sample third
  refine entry_congr (fun k => ?_) (fun k => ?_) (fun k => ?_)
  · blk_point [iblk, V, idx t]
  · blk_point [iblk, V, idx t]
  · blk_point [iblk, V, idx t]

theorem value_short : (dats m 0 c).arrAt 9 cfg0.N = fun y => part sample third (m ((c.tc : Thread nD τ).loc main_arg0)) (m ((c.tc : Thread nD τ).loc main_arg1)) (m ((c.tc : Thread nD τ).loc main_arg2)) (y 0) (y 1) := by
  refine (dats m 0 c).arrAt_eq_of_covers 9 _ (by decide +kernel) fun t _ y => ?_
  blk_simp
  rw [after0_9]
  unfold_out out0_9
  frame_out
  refine (block_vb _ _ _ _).trans ?_
  unfold part sample third
  refine entry_congr (fun k => ?_) (fun k => ?_) (fun k => ?_)
  · blk_point [iblk, V, idx t]
  · blk_point [iblk, V, idx t]
  · blk_point [iblk, V, idx t]

end Cert.Proj.BandSample

end
-- ==== Proof.BandSampleRef.lean ====
/- The reference's input projection of the band attention, the sample's rows. -/
module

public import proofs.«01_k».proof.Proof.HeadNorm
public import proofs.«01_k».proof.Proof.Gen.Reference11Ideal.Run

@[expose] public section

set_option maxRecDepth 16384

noncomputable section

namespace Cert.Proj.BandSampleRef

open Idealize.ShloMosaic Idealize.ShloMosaic.TcCoe
open Cert.Reference11Ideal Cert.Reference11Ideal.Gen
open scoped BigOperators

/-- The reference's arrays are the projection's parts, the queries and the keys normed by head. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = (fun y => heads (fun j => part sample first (m ((c.tc : Thread nD τ).loc main_arg0)) (m ((c.tc : Thread nD τ).loc main_arg1)) (m ((c.tc : Thread nD τ).loc main_arg2)) (y 0) j) (fun d => (m ((c.tc : Thread nD τ).loc main_arg3)) (ix1 d)) (y 1) * eighth)
      ∧ r.2.mem ((c.tc : Thread nD τ).loc main_v49) = (fun y => heads (fun j => part sample second (m ((c.tc : Thread nD τ).loc main_arg0)) (m ((c.tc : Thread nD τ).loc main_arg1)) (m ((c.tc : Thread nD τ).loc main_arg2)) (y 0) j) (fun d => (m ((c.tc : Thread nD τ).loc main_arg4)) (ix1 d)) (y 1))
      ∧ r.2.mem ((c.tc : Thread nD τ).loc main_v51) = (fun y => heads (fun j => part sample second (m ((c.tc : Thread nD τ).loc main_arg0)) (m ((c.tc : Thread nD τ).loc main_arg1)) (m ((c.tc : Thread nD τ).loc main_arg2)) (y 0) j) (fun d => (m ((c.tc : Thread nD τ).loc main_arg4)) (ix1 d)) (y 1))
      ∧ r.2.mem ((c.tc : Thread nD τ).loc main_v17) = (fun y => part sample third (m ((c.tc : Thread nD τ).loc main_arg0)) (m ((c.tc : Thread nD τ).loc main_arg1)) (m ((c.tc : Thread nD τ).loc main_arg2)) (y 0) (y 1))
      ∧ r.2.mem ((c.tc : Thread nD τ).loc main_v52) = (fun y => part sample third (m ((c.tc : Thread nD τ).loc main_arg0)) (m ((c.tc : Thread nD τ).loc main_arg1)) (m ((c.tc : Thread nD τ).loc main_arg2)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h0, h1, h2, h3, h4, k⟩ := h c
  unfold heads part entry Ffn.normed eighth sample first second third mate
  refine ⟨h0.trans (funext fun y => ?_), h1.trans (funext fun y => ?_), h2.trans (funext fun y => ?_), h3.trans (funext fun y => ?_), h4.trans (funext fun y => ?_), k⟩
  · pointwise [Value.res_main_v50, Value.res_main_v49]
  · pointwise [Value.res_main_v49]
  · pointwise [Value.res_main_v51, Value.res_main_v49]
  · pointwise []
  · pointwise []

end Cert.Proj.BandSampleRef

end
-- ==== Proof.GlaSampleNames.lean ====
/- The sample's call runs the same body as the prompt's: each of its functions is the one the prompt's has. -/
module

public import proofs.«01_k».proof.Proof.Gen.KernelIdeal.Skeleton
public import proofs.«01_k».proof.Proof.Gen.Kernel12Ideal.Skeleton
public import Idealize.ShloMosaic.Lib.Pointwise

@[expose] public section

set_option maxRecDepth 16384

noncomputable section

namespace Cert.Gla.Sample

open Idealize.ShloMosaic Idealize.ShloMosaic.TcCoe

theorem e1 : Cert.Kernel12Ideal.Gen.k0_pay1 (F := Ideal) = Cert.KernelIdeal.Gen.k0_pay1 := rfl
theorem e2 : Cert.Kernel12Ideal.Gen.k0_pay2 (F := Ideal) = Cert.KernelIdeal.Gen.k0_pay2 := rfl
theorem e3 : Cert.Kernel12Ideal.Gen.k0_pay3 (F := Ideal) = Cert.KernelIdeal.Gen.k0_pay3 := rfl
theorem e4 : Cert.Kernel12Ideal.Gen.k0_pay4 (F := Ideal) = Cert.KernelIdeal.Gen.k0_pay4 := rfl
theorem e9 : Cert.Kernel12Ideal.Gen.k0_pay9 (F := Ideal) = Cert.KernelIdeal.Gen.k0_pay12 := rfl
theorem e10 : Cert.Kernel12Ideal.Gen.k0_pay10 (F := Ideal) = Cert.KernelIdeal.Gen.k0_pay13 := rfl
theorem e11 : Cert.Kernel12Ideal.Gen.k0_pay11 (F := Ideal) = Cert.KernelIdeal.Gen.k0_pay14 := rfl
theorem e12 : Cert.Kernel12Ideal.Gen.k0_pay12 (F := Ideal) = Cert.KernelIdeal.Gen.k0_pay15 := rfl
theorem e17 : Cert.Kernel12Ideal.Gen.k0_pay17 = Cert.KernelIdeal.Gen.k0_pay18 := rfl
theorem e18 : Cert.Kernel12Ideal.Gen.k0_pay18 (F := Ideal) = Cert.KernelIdeal.Gen.k0_pay19 := rfl
theorem e19 : Cert.Kernel12Ideal.Gen.k0_pay19 (F := Ideal) = Cert.KernelIdeal.Gen.k0_pay20 := rfl
theorem e20 : Cert.Kernel12Ideal.Gen.k0_pay20 (F := Ideal) = Cert.KernelIdeal.Gen.k0_pay21 := rfl
theorem e21 : Cert.Kernel12Ideal.Gen.k0_pay21 (F := Ideal) = Cert.KernelIdeal.Gen.k0_pay22 := rfl
theorem e22 : Cert.Kernel12Ideal.Gen.k0_pay22 (F := Ideal) = Cert.KernelIdeal.Gen.k0_pay23 := rfl
theorem e23 : Cert.Kernel12Ideal.Gen.k0_pay23 (F := Ideal) = Cert.KernelIdeal.Gen.k0_pay24 := rfl
theorem e24 : Cert.Kernel12Ideal.Gen.k0_pay24 (F := Ideal) = Cert.KernelIdeal.Gen.k0_pay25 := rfl
theorem e25 : Cert.Kernel12Ideal.Gen.k0_pay25 (F := Ideal) = Cert.KernelIdeal.Gen.k0_pay26 := rfl
theorem e26 : Cert.Kernel12Ideal.Gen.k0_pay26 (F := Ideal) = Cert.KernelIdeal.Gen.k0_pay27 := rfl
theorem e27 : Cert.Kernel12Ideal.Gen.k0_pay27 (F := Ideal) = Cert.KernelIdeal.Gen.k0_pay28 := rfl
theorem e28 : Cert.Kernel12Ideal.Gen.k0_pay28 (F := Ideal) = Cert.KernelIdeal.Gen.k0_pay29 := rfl
theorem e29 : Cert.Kernel12Ideal.Gen.k0_pay29 (F := Ideal) = Cert.KernelIdeal.Gen.k0_pay30 := rfl
theorem e30 : Cert.Kernel12Ideal.Gen.k0_pay30 (F := Ideal) = Cert.KernelIdeal.Gen.k0_pay31 := rfl
theorem e31 : Cert.Kernel12Ideal.Gen.k0_pay31 (F := Ideal) = Cert.KernelIdeal.Gen.k0_pay32 := rfl
theorem e32 : Cert.Kernel12Ideal.Gen.k0_pay32 (F := Ideal) = Cert.KernelIdeal.Gen.k0_pay33 := rfl
theorem e33 : Cert.Kernel12Ideal.Gen.k0_pay33 (F := Ideal) = Cert.KernelIdeal.Gen.k0_pay34 := rfl
theorem e34 : Cert.Kernel12Ideal.Gen.k0_pay34 (F := Ideal) = Cert.KernelIdeal.Gen.k0_pay35 := rfl
theorem e35 : Cert.Kernel12Ideal.Gen.k0_pay35 (F := Ideal) = Cert.KernelIdeal.Gen.k0_pay36 := rfl
theorem e36 : Cert.Kernel12Ideal.Gen.k0_pay36 (F := Ideal) = Cert.KernelIdeal.Gen.k0_pay37 := rfl
theorem e37 : Cert.Kernel12Ideal.Gen.k0_pay37 (F := Ideal) = Cert.KernelIdeal.Gen.k0_pay38 := rfl
theorem e38 : Cert.Kernel12Ideal.Gen.k0_pay38 (F := Ideal) = Cert.KernelIdeal.Gen.k0_pay39 := rfl
theorem e39 : Cert.Kernel12Ideal.Gen.k0_pay39 (F := Ideal) = Cert.KernelIdeal.Gen.k0_pay40 := rfl
theorem e40 : Cert.Kernel12Ideal.Gen.k0_pay40 (F := Ideal) = Cert.KernelIdeal.Gen.k0_pay41 := rfl
theorem e41 : Cert.Kernel12Ideal.Gen.k0_pay41 (F := Ideal) = Cert.KernelIdeal.Gen.k0_pay42 := rfl
theorem e42 : Cert.Kernel12Ideal.Gen.k0_pay42 (F := Ideal) = Cert.KernelIdeal.Gen.k0_pay43 := rfl
theorem e43 : Cert.Kernel12Ideal.Gen.k0_pay43 (F := Ideal) = Cert.KernelIdeal.Gen.k0_pay44 := rfl
theorem e44 : Cert.Kernel12Ideal.Gen.k0_pay44 (F := Ideal) = Cert.KernelIdeal.Gen.k0_pay45 := rfl
theorem e45 : Cert.Kernel12Ideal.Gen.k0_pay45 (F := Ideal) = Cert.KernelIdeal.Gen.k0_pay46 := rfl
theorem e46 : Cert.Kernel12Ideal.Gen.k0_pay46 (F := Ideal) = Cert.KernelIdeal.Gen.k0_pay47 := rfl
theorem e47 : Cert.Kernel12Ideal.Gen.k0_pay47 (F := Ideal) = Cert.KernelIdeal.Gen.k0_pay48 := rfl
theorem e48 : Cert.Kernel12Ideal.Gen.k0_pay48 (F := Ideal) = Cert.KernelIdeal.Gen.k0_pay49 := rfl
theorem e49 : Cert.Kernel12Ideal.Gen.k0_pay49 (F := Ideal) = Cert.KernelIdeal.Gen.k0_pay50 := rfl
theorem e50 : Cert.Kernel12Ideal.Gen.k0_pay50 (F := Ideal) = Cert.KernelIdeal.Gen.k0_pay51 := rfl
theorem e51 : Cert.Kernel12Ideal.Gen.k0_pay51 (F := Ideal) = Cert.KernelIdeal.Gen.k0_pay52 := rfl
theorem e52 : Cert.Kernel12Ideal.Gen.k0_pay52 (F := Ideal) = Cert.KernelIdeal.Gen.k0_pay53 := rfl
theorem e53 : Cert.Kernel12Ideal.Gen.k0_pay53 (F := Ideal) = Cert.KernelIdeal.Gen.k0_pay54 := rfl
theorem e54 : Cert.Kernel12Ideal.Gen.k0_pay54 (F := Ideal) = Cert.KernelIdeal.Gen.k0_pay55 := rfl
theorem e55 : Cert.Kernel12Ideal.Gen.k0_pay55 (F := Ideal) = Cert.KernelIdeal.Gen.k0_pay56 := rfl
theorem e56 : Cert.Kernel12Ideal.Gen.k0_pay56 (F := Ideal) = Cert.KernelIdeal.Gen.k0_pay57 := rfl
theorem e57 : Cert.Kernel12Ideal.Gen.k0_pay57 (F := Ideal) = Cert.KernelIdeal.Gen.k0_pay58 := rfl
theorem e58 : Cert.Kernel12Ideal.Gen.k0_pay58 (F := Ideal) = Cert.KernelIdeal.Gen.k0_pay59 := rfl
theorem e59 : Cert.Kernel12Ideal.Gen.k0_pay59 (F := Ideal) = Cert.KernelIdeal.Gen.k0_pay60 := rfl
theorem e60 : Cert.Kernel12Ideal.Gen.k0_pay60 (F := Ideal) = Cert.KernelIdeal.Gen.k0_pay61 := rfl
theorem e61 : Cert.Kernel12Ideal.Gen.k0_pay61 (F := Ideal) = Cert.KernelIdeal.Gen.k0_pay62 := rfl
theorem e62 : Cert.Kernel12Ideal.Gen.k0_pay62 (F := Ideal) = Cert.KernelIdeal.Gen.k0_pay63 := rfl
theorem e63 : Cert.Kernel12Ideal.Gen.k0_pay63 (F := Ideal) = Cert.KernelIdeal.Gen.k0_pay64 := rfl
theorem e64 : Cert.Kernel12Ideal.Gen.k0_pay64 (F := Ideal) = Cert.KernelIdeal.Gen.k0_pay65 := rfl
theorem e65 : Cert.Kernel12Ideal.Gen.k0_pay65 (F := Ideal) = Cert.KernelIdeal.Gen.k0_pay66 := rfl
theorem e66 : Cert.Kernel12Ideal.Gen.k0_pay66 (F := Ideal) = Cert.KernelIdeal.Gen.k0_pay67 := rfl
theorem e67 : Cert.Kernel12Ideal.Gen.k0_pay67 (F := Ideal) = Cert.KernelIdeal.Gen.k0_pay68 := rfl
theorem e68 : Cert.Kernel12Ideal.Gen.k0_pay68 (F := Ideal) = Cert.KernelIdeal.Gen.k0_pay69 := rfl
theorem e69 : Cert.Kernel12Ideal.Gen.k0_pay69 (F := Ideal) = Cert.KernelIdeal.Gen.k0_pay70 := rfl
theorem e70 : Cert.Kernel12Ideal.Gen.k0_pay70 (F := Ideal) = Cert.KernelIdeal.Gen.k0_pay71 := rfl
theorem e71 : Cert.Kernel12Ideal.Gen.k0_pay71 (F := Ideal) = Cert.KernelIdeal.Gen.k0_pay72 := rfl
theorem e72 : Cert.Kernel12Ideal.Gen.k0_pay72 (F := Ideal) = Cert.KernelIdeal.Gen.k0_pay73 := rfl
theorem e73 : Cert.Kernel12Ideal.Gen.k0_pay73 (F := Ideal) = Cert.KernelIdeal.Gen.k0_pay74 := rfl
theorem e74 : Cert.Kernel12Ideal.Gen.k0_pay74 (F := Ideal) = Cert.KernelIdeal.Gen.k0_pay75 := rfl
theorem e75 : Cert.Kernel12Ideal.Gen.k0_pay75 (F := Ideal) = Cert.KernelIdeal.Gen.k0_pay76 := rfl
theorem e76 : Cert.Kernel12Ideal.Gen.k0_pay76 (F := Ideal) = Cert.KernelIdeal.Gen.k0_pay77 := rfl
theorem e77 : Cert.Kernel12Ideal.Gen.k0_pay77 (F := Ideal) = Cert.KernelIdeal.Gen.k0_pay78 := rfl
theorem e78 : Cert.Kernel12Ideal.Gen.k0_pay78 (F := Ideal) = Cert.KernelIdeal.Gen.k0_pay79 := rfl
theorem e79 : Cert.Kernel12Ideal.Gen.k0_pay79 (F := Ideal) = Cert.KernelIdeal.Gen.k0_pay80 := rfl
theorem e80 : Cert.Kernel12Ideal.Gen.k0_pay80 (F := Ideal) = Cert.KernelIdeal.Gen.k0_pay81 := rfl
theorem e81 : Cert.Kernel12Ideal.Gen.k0_pay81 (F := Ideal) = Cert.KernelIdeal.Gen.k0_pay82 := rfl
theorem e82 : Cert.Kernel12Ideal.Gen.k0_pay82 (F := Ideal) = Cert.KernelIdeal.Gen.k0_pay83 := rfl
theorem e83 : Cert.Kernel12Ideal.Gen.k0_pay83 (F := Ideal) = Cert.KernelIdeal.Gen.k0_pay84 := rfl
theorem e84 : Cert.Kernel12Ideal.Gen.k0_pay84 (F := Ideal) = Cert.KernelIdeal.Gen.k0_pay85 := rfl
theorem e85 : Cert.Kernel12Ideal.Gen.k0_pay85 (F := Ideal) = Cert.KernelIdeal.Gen.k0_pay86 := rfl
theorem e86 : Cert.Kernel12Ideal.Gen.k0_pay86 (F := Ideal) = Cert.KernelIdeal.Gen.k0_pay87 := rfl
theorem e87 : Cert.Kernel12Ideal.Gen.k0_pay87 (F := Ideal) = Cert.KernelIdeal.Gen.k0_pay88 := rfl
theorem e88 : Cert.Kernel12Ideal.Gen.k0_pay88 (F := Ideal) = Cert.KernelIdeal.Gen.k0_pay89 := rfl
theorem e89 : Cert.Kernel12Ideal.Gen.k0_pay89 (F := Ideal) = Cert.KernelIdeal.Gen.k0_pay90 := rfl
theorem e90 : Cert.Kernel12Ideal.Gen.k0_pay90 (F := Ideal) = Cert.KernelIdeal.Gen.k0_pay91 := rfl
theorem e91 : Cert.Kernel12Ideal.Gen.k0_pay91 (F := Ideal) = Cert.KernelIdeal.Gen.k0_pay92 := rfl
theorem e92 : Cert.Kernel12Ideal.Gen.k0_pay92 (F := Ideal) = Cert.KernelIdeal.Gen.k0_pay93 := rfl
theorem e93 : Cert.Kernel12Ideal.Gen.k0_pay93 (F := Ideal) = Cert.KernelIdeal.Gen.k0_pay94 := rfl
theorem e94 : Cert.Kernel12Ideal.Gen.k0_pay94 (F := Ideal) = Cert.KernelIdeal.Gen.k0_pay95 := rfl
theorem e95 : Cert.Kernel12Ideal.Gen.k0_pay95 (F := Ideal) = Cert.KernelIdeal.Gen.k0_pay96 := rfl
theorem e96 : Cert.Kernel12Ideal.Gen.k0_pay96 (F := Ideal) = Cert.KernelIdeal.Gen.k0_pay97 := rfl
theorem e97 : Cert.Kernel12Ideal.Gen.k0_pay97 (F := Ideal) = Cert.KernelIdeal.Gen.k0_pay98 := rfl
theorem e98 : Cert.Kernel12Ideal.Gen.k0_pay98 (F := Ideal) = Cert.KernelIdeal.Gen.k0_pay99 := rfl
theorem e99 : Cert.Kernel12Ideal.Gen.k0_pay99 (F := Ideal) = Cert.KernelIdeal.Gen.k0_pay100 := rfl
theorem e100 : Cert.Kernel12Ideal.Gen.k0_pay100 (F := Ideal) = Cert.KernelIdeal.Gen.k0_pay101 := rfl
theorem e101 : Cert.Kernel12Ideal.Gen.k0_pay101 (F := Ideal) = Cert.KernelIdeal.Gen.k0_pay102 := rfl
theorem e102 : Cert.Kernel12Ideal.Gen.k0_pay102 (F := Ideal) = Cert.KernelIdeal.Gen.k0_pay103 := rfl
theorem e103 : Cert.Kernel12Ideal.Gen.k0_pay103 (F := Ideal) = Cert.KernelIdeal.Gen.k0_pay104 := rfl
theorem e104 : Cert.Kernel12Ideal.Gen.k0_pay104 (F := Ideal) = Cert.KernelIdeal.Gen.k0_pay105 := rfl
theorem e105 : Cert.Kernel12Ideal.Gen.k0_pay105 (F := Ideal) = Cert.KernelIdeal.Gen.k0_pay106 := rfl
theorem e106 : Cert.Kernel12Ideal.Gen.k0_pay106 (F := Ideal) = Cert.KernelIdeal.Gen.k0_pay107 := rfl
theorem e107 : Cert.Kernel12Ideal.Gen.k0_pay107 (F := Ideal) = Cert.KernelIdeal.Gen.k0_pay108 := rfl
theorem e108 : Cert.Kernel12Ideal.Gen.k0_pay108 (F := Ideal) = Cert.KernelIdeal.Gen.k0_pay109 := rfl
theorem e109 : Cert.Kernel12Ideal.Gen.k0_pay109 (F := Ideal) = Cert.KernelIdeal.Gen.k0_pay110 := rfl
theorem e110 : Cert.Kernel12Ideal.Gen.k0_pay110 (F := Ideal) = Cert.KernelIdeal.Gen.k0_pay111 := rfl
theorem e111 : Cert.Kernel12Ideal.Gen.k0_pay111 (F := Ideal) = Cert.KernelIdeal.Gen.k0_pay112 := rfl

end Cert.Gla.Sample

end
-- ==== Proof.GlaSampleRows.lean ====
/- The rows of the sample that a grid point reads, off the arguments. -/
module

public import proofs.«01_k».proof.Proof.Points

@[expose] public section

noncomputable section

namespace Cert.Gla.Sample

open Idealize.ShloMosaic Idealize.ShloMosaic.TcCoe
open Cert.KernelIdeal

/-- Sequence `g` of pair `p`. -/
def seq (p : Fin 16) (g : Fin 2) : Fin 32 := ⟨2 * p + g, by omega⟩

/-- Its row `i`. -/
def row (p : Fin 16) (g : Fin 2) (i : Fin 64) : Fin 2048 := ⟨(2 * p + g) * 64 + i, by omega⟩

variable (a0 : Vec Ideal ⟨2, ![2048, 3200]⟩ .f32) (a1 : Vec Ideal S16x512 .f32) (a2 : Vec Ideal S512 .f32) (a3 : Vec Ideal S256 .f32)

/-- The blocks of pair `p`, read off the arguments. -/
def argIn (p : Fin 16) : In where
  q := fun y => a0 (ix2 (row p (y 0) (y 1)) ⟨(y 2).val, by have h : (y 2).val < 512 := (y 2).isLt; omega⟩)
  k := fun y => a0 (ix2 (row p (y 0) (y 1)) ⟨512 + (y 2).val, by have h : (y 2).val < 512 := (y 2).isLt; omega⟩)
  v := fun y => a0 (ix2 (row p (y 0) (y 1)) ⟨1024 + (y 2).val, by have h : (y 2).val < 1024 := (y 2).isLt; omega⟩)
  r := fun y => a0 (ix2 (row p (y 0) (y 1)) ⟨2048 + (y 2).val, by have h : (y 2).val < 1024 := (y 2).isLt; omega⟩)
  gl := fun y => a0 (ix2 (row p (y 0) (y 1)) ⟨3072 + (y 2).val, by have h : (y 2).val < 128 := (y 2).isLt; omega⟩)
  w := fun y => if h : (y 0).val < 16 then a1 (ix2 ⟨(y 0).val, h⟩ (y 1)) else 0
  b := fun y => a2 (ix1 (y 1))
  n := fun y => a3 (ix1 (y 1))

/-- The state as the body carries it: a slot for each sequence and head, turned. -/
def turned (s : Vec Ideal S2x4x128x256 .f32) : Vec Ideal S8x256x128 .f32 := fun y =>
  s (ix4 ⟨(y 0).val / 4, by have h : (y 0).val < 8 := (y 0).isLt; omega⟩ ⟨(y 0).val % 4, Nat.mod_lt _ (by decide)⟩ (y 2) (y 1))

theorem turned_slot (s : Vec Ideal S2x4x128x256 .f32) (g : Fin 2) (h : Fin 4) (v : Fin 256) (d : Fin 128) :
    turned s (ix3 (slot g h) v d) = s (ix4 g h d v) := by
  have e1 : (⟨(4 * g.val + h.val) / 4, by omega⟩ : Fin 2) = g := Fin.ext (by show (4 * g.val + h.val) / 4 = _; omega)
  have e2 : (⟨(4 * g.val + h.val) % 4, Nat.mod_lt _ (by decide)⟩ : Fin 4) = h := Fin.ext (by show (4 * g.val + h.val) % 4 = _; omega)
  exact (congrArg₂ (fun a b => s (ix4 a b d v)) e1 e2 : s (ix4 ⟨(4 * g.val + h.val) / 4, _⟩ ⟨(4 * g.val + h.val) % 4, _⟩ d v) = _)

/-- The state pair `p` starts from. -/
def state (a4 : Vec Ideal ⟨4, ![32, 4, 128, 256]⟩ .f32) (p : Fin 16) : Vec Ideal S8x256x128 .f32 :=
  turned fun y => a4 (ix4 (seq p (y 0)) (y 1) (y 2) (y 3))

theorem state_slot (a4 : Vec Ideal ⟨4, ![32, 4, 128, 256]⟩ .f32) (p : Fin 16) (g : Fin 2) (h : Fin 4) (v : Fin 256) (d : Fin 128) :
    state a4 p (ix3 (slot g h) v d) = a4 (ix4 (seq p g) h d v) := turned_slot _ g h v d

/-- The pair of a sequence. -/
def pair (b : Fin 32) : Fin 16 := ⟨b / 2, by omega⟩

/-- Which of the pair it is. -/
def side (b : Fin 32) : Fin 2 := ⟨b % 2, Nat.mod_lt _ (by decide)⟩

theorem seq_pair (b : Fin 32) : seq (pair b) (side b) = b := Fin.ext (by show 2 * (b.val / 2) + b.val % 2 = _; omega)

/-- The output array. -/
def outAll (a4 : Vec Ideal ⟨4, ![32, 4, 128, 256]⟩ .f32) : Vec Ideal ⟨3, ![32, 64, 1024]⟩ .bf16 := fun y =>
  outV (argIn a0 a1 a2 a3 (pair (y 0))) (state a4 (pair (y 0))) (ix3 (side (y 0)) (y 1) (y 2))

/-- The final state. -/
def finAll (a4 : Vec Ideal ⟨4, ![32, 4, 128, 256]⟩ .f32) : Vec Ideal ⟨4, ![32, 4, 128, 256]⟩ .f32 := fun y =>
  finV (argIn a0 a1 a2 a3 (pair (y 0))) (state a4 (pair (y 0))) (ix4 (side (y 0)) (y 1) (y 2) (y 3))

end Cert.Gla.Sample

end
-- ==== Proof.GlaSample.lean ====
/- What the sample's call holds after a grid point: two sequences of one chunk, over the given state. -/
module

public import proofs.«01_k».proof.Proof.Points
public import proofs.«01_k».proof.Proof.GlaSampleNames
public import proofs.«01_k».proof.Proof.GlaSampleRows
public import proofs.«01_k».proof.Proof.Gen.Kernel12Ideal.Value
public import Idealize.ShloMosaic.Lib.Pipeline.ValueKit

@[expose] public section

set_option maxRecDepth 16384

noncomputable section

namespace Cert.Gla.Sample

open Idealize.ShloMosaic Idealize.ShloMosaic.TcCoe
open Cert.Kernel12Ideal Cert.Kernel12Ideal.Gen Cert.Kernel12Ideal.Value
open scoped BigOperators

theorem start00 (s : Vec Ideal S2x4x128x256 .f32) (v : Fin 256) (d : Fin 128) :
    k0_pay5 (View.ld s (Rect.unit ![0, 0, 0, 0] ![1, 1, 128, 256] inb_S2x4x128x256_S1x1x128x256_0_0_0_0)) (ix3 0 v d) = turned s (ix3 (slot 0 0) v d) := by
  rw [turned_slot]
  pointwise [k0_pay5]
  try rfl

theorem start01 (s : Vec Ideal S2x4x128x256 .f32) (v : Fin 256) (d : Fin 128) :
    k0_pay6 (View.ld s (Rect.unit ![0, 1, 0, 0] ![1, 1, 128, 256] inb_S2x4x128x256_S1x1x128x256_0_1_0_0)) (ix3 0 v d) = turned s (ix3 (slot 0 1) v d) := by
  rw [turned_slot]
  pointwise [k0_pay6]
  try rfl

theorem start02 (s : Vec Ideal S2x4x128x256 .f32) (v : Fin 256) (d : Fin 128) :
    k0_pay7 (View.ld s (Rect.unit ![0, 2, 0, 0] ![1, 1, 128, 256] inb_S2x4x128x256_S1x1x128x256_0_2_0_0)) (ix3 0 v d) = turned s (ix3 (slot 0 2) v d) := by
  rw [turned_slot]
  pointwise [k0_pay7]
  try rfl

theorem start03 (s : Vec Ideal S2x4x128x256 .f32) (v : Fin 256) (d : Fin 128) :
    k0_pay8 (View.ld s (Rect.unit ![0, 3, 0, 0] ![1, 1, 128, 256] inb_S2x4x128x256_S1x1x128x256_0_3_0_0)) (ix3 0 v d) = turned s (ix3 (slot 0 3) v d) := by
  rw [turned_slot]
  pointwise [k0_pay8]
  try rfl

theorem start10 (s : Vec Ideal S2x4x128x256 .f32) (v : Fin 256) (d : Fin 128) :
    k0_pay13 (View.ld s (Rect.unit ![1, 0, 0, 0] ![1, 1, 128, 256] inb_S2x4x128x256_S1x1x128x256_1_0_0_0)) (ix3 0 v d) = turned s (ix3 (slot 1 0) v d) := by
  rw [turned_slot]
  pointwise [k0_pay13]
  try rfl

theorem start11 (s : Vec Ideal S2x4x128x256 .f32) (v : Fin 256) (d : Fin 128) :
    k0_pay14 (View.ld s (Rect.unit ![1, 1, 0, 0] ![1, 1, 128, 256] inb_S2x4x128x256_S1x1x128x256_1_1_0_0)) (ix3 0 v d) = turned s (ix3 (slot 1 1) v d) := by
  rw [turned_slot]
  pointwise [k0_pay14]
  try rfl

theorem start12 (s : Vec Ideal S2x4x128x256 .f32) (v : Fin 256) (d : Fin 128) :
    k0_pay15 (View.ld s (Rect.unit ![1, 2, 0, 0] ![1, 1, 128, 256] inb_S2x4x128x256_S1x1x128x256_1_2_0_0)) (ix3 0 v d) = turned s (ix3 (slot 1 2) v d) := by
  rw [turned_slot]
  pointwise [k0_pay15]
  try rfl

theorem start13 (s : Vec Ideal S2x4x128x256 .f32) (v : Fin 256) (d : Fin 128) :
    k0_pay16 (View.ld s (Rect.unit ![1, 3, 0, 0] ![1, 1, 128, 256] inb_S2x4x128x256_S1x1x128x256_1_3_0_0)) (ix3 0 v d) = turned s (ix3 (slot 1 3) v d) := by
  rw [turned_slot]
  pointwise [k0_pay16]
  try rfl

variable (m : (ℓ : Loc nD τ sig) → Buf (Elt Ideal) ℓ) (c : Dev nD)

/-- The blocks point `t` reads. -/
def blk (t : Fin cfg0.N) : In :=
  ⟨X0_0 m c t, X0_1 m c t, X0_2 m c t, X0_3 m c t, iblk m c 4 t, iblk m c 5 t, iblk m c 6 t, iblk m c 7 t⟩

/-- The state point `t` reads. -/
abbrev given (t : Fin cfg0.N) : Vec Ideal S2x4x128x256 .f32 := iblk m c 8 t

theorem outs (t : Fin cfg0.N) : (outsAt0 m c t).1 = outV (blk m c t) (turned (given m c t)) := by
  funext y
  unfold outsAt0
  frame_out
  set I := blk m c t with hI
  rw [show X0_0 m c t = I.q from rfl, show X0_1 m c t = I.k from rfl, show X0_2 m c t = I.v from rfl, show X0_3 m c t = I.r from rfl, show iblk m c 4 t = I.gl from rfl, show iblk m c 5 t = I.w from rfl, show iblk m c 6 t = I.b from rfl, show iblk m c 7 t = I.n from rfl]
  simp (disch := decide) only [↓ View.readCov_skip, ↓ View.readCov_cons_toLoadRect]
  simp only [e1, e2, e3, e4, e9, e10, e11, e12, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59, e60, e61, e62, e63, e64, e65, e66, e67, e68, e69, e70, e71, e72, e73, e74, e75, e76, e77, e78, e79, e80, e81, e82, e83, e84, e85, e86, e87, e88, e89, e90, e91, e92, e93, e94, e95, e96, e97, e98, e99, e100, e101, e102, e103, e104, e105, e106, e107, e108, e109, e110, e111]
  simp only [qe0_eq, qe1_eq, ke0_eq, ke1_eq]
  canon_tiles x h
  case piece7 =>
    refine outV_at I _ 0 0 _ (fun i v => ?_) x y (by omega) (by omega) (by omega)
    rw [att00, oo00 I (turned (given m c t))]
    · exact out00 I _ i v
    · exact start00 _
  case piece6 =>
    refine outV_at I _ 0 1 _ (fun i v => ?_) x y (by omega) (by omega) (by omega)
    rw [att01, oo01 I (turned (given m c t))]
    · exact out01 I _ i v
    · exact start01 _
  case piece5 =>
    refine outV_at I _ 0 2 _ (fun i v => ?_) x y (by omega) (by omega) (by omega)
    rw [att02, oo02 I (turned (given m c t))]
    · exact out02 I _ i v
    · exact start02 _
  case piece4 =>
    refine outV_at I _ 0 3 _ (fun i v => ?_) x y (by omega) (by omega) (by omega)
    rw [att03, oo03 I (turned (given m c t))]
    · exact out03 I _ i v
    · exact start03 _
  case piece3 =>
    refine outV_at I _ 1 0 _ (fun i v => ?_) x y (by omega) (by omega) (by omega)
    rw [att10, oo10 I (turned (given m c t))]
    · exact out10 I _ i v
    · exact start10 _
  case piece2 =>
    refine outV_at I _ 1 1 _ (fun i v => ?_) x y (by omega) (by omega) (by omega)
    rw [att11, oo11 I (turned (given m c t))]
    · exact out11 I _ i v
    · exact start11 _
  case piece1 =>
    refine outV_at I _ 1 2 _ (fun i v => ?_) x y (by omega) (by omega) (by omega)
    rw [att12, oo12 I (turned (given m c t))]
    · exact out12 I _ i v
    · exact start12 _
  case piece0 =>
    refine outV_at I _ 1 3 _ (fun i v => ?_) x y (by omega) (by omega) (by omega)
    rw [att13, oo13 I (turned (given m c t))]
    · exact out13 I _ i v
    · exact start13 _

set_option maxHeartbeats 1000000 in
theorem fins (t : Fin cfg0.N) : (outsAt0 m c t).2 = finV (blk m c t) (turned (given m c t)) := by
  funext y
  unfold outsAt0
  frame_out
  set I := blk m c t with hI
  rw [show X0_1 m c t = I.k from rfl, show X0_2 m c t = I.v from rfl, show iblk m c 4 t = I.gl from rfl, show iblk m c 5 t = I.w from rfl, show iblk m c 6 t = I.b from rfl]
  simp (disch := decide) only [↓ View.readCov_skip, ↓ View.readCov_cons_toLoadRect]
  simp only [e1, e2, e3, e4, e9, e10, e11, e12, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59, e60, e61, e62, e63, e64, e65, e66, e67, e68, e69, e70, e71, e72, e73, e74, e75, e76, e77, e78, e79, e80, e81, e82, e83, e84, e85, e86, e87, e88, e89, e90, e91, e92, e93, e94, e95, e96, e97, e98, e99, e100, e101, e102, e103, e104, e105, e106, e107, e108, e109, e110, e111]
  simp only [kl0_eq, kl1_eq, dl0_eq, dl1_eq]
  canon_tiles x h
  case piece7 =>
    refine finV_at I _ 0 0 _ (fun d v => ?_) x y (by omega) (by dsimp; omega) (by omega) (by omega)
    rw [turn12]
    refine ns00 I _ _ (fun v d => ?_) v d
    exact start00 _ v d
  case piece6 =>
    refine finV_at I _ 0 1 _ (fun d v => ?_) x y (by omega) (by dsimp; omega) (by omega) (by omega)
    rw [turn13]
    refine ns01 I _ _ (fun v d => ?_) v d
    exact start01 _ v d
  case piece5 =>
    refine finV_at I _ 0 2 _ (fun d v => ?_) x y (by omega) (by dsimp; omega) (by omega) (by omega)
    rw [turn14]
    refine ns02 I _ _ (fun v d => ?_) v d
    exact start02 _ v d
  case piece4 =>
    refine finV_at I _ 0 3 _ (fun d v => ?_) x y (by omega) (by dsimp; omega) (by omega) (by omega)
    rw [turn15]
    refine ns03 I _ _ (fun v d => ?_) v d
    exact start03 _ v d
  case piece3 =>
    refine finV_at I _ 1 0 _ (fun d v => ?_) x y (by omega) (by dsimp; omega) (by omega) (by omega)
    rw [turn1]
    refine ns10 I _ _ (fun v d => ?_) v d
    exact start10 _ v d
  case piece2 =>
    refine finV_at I _ 1 1 _ (fun d v => ?_) x y (by omega) (by dsimp; omega) (by omega) (by omega)
    rw [turn2]
    refine ns11 I _ _ (fun v d => ?_) v d
    exact start11 _ v d
  case piece1 =>
    refine finV_at I _ 1 2 _ (fun d v => ?_) x y (by omega) (by dsimp; omega) (by omega) (by omega)
    rw [turn3]
    refine ns12 I _ _ (fun v d => ?_) v d
    exact start12 _ v d
  case piece0 =>
    refine finV_at I _ 1 3 _ (fun d v => ?_) x y (by omega) (by dsimp; omega) (by omega) (by omega)
    rw [turn4]
    refine ns13 I _ _ (fun v d => ?_) v d
    exact start13 _ v d

end Cert.Gla.Sample

end
-- ==== Proof.GlaSampleEnds.lean ====
/- The sample's two arrays after its call, over the arguments. -/
module

public import proofs.«01_k».proof.Proof.GlaSample

@[expose] public section

set_option maxRecDepth 16384

noncomputable section

namespace Cert.Gla.Sample

open Idealize.ShloMosaic Idealize.ShloMosaic.TcCoe
open Cert.Kernel12Ideal Cert.Kernel12Ideal.Gen Cert.Kernel12Ideal.Value
open scoped BigOperators

theorem idx : ∀ t : Fin cfg0.N, win0_0.index t = ![t.val, 0, 0] ∧ win0_1.index t = ![t.val, 0, 1] ∧ win0_2.index t = ![t.val, 0, 1]
    ∧ win0_3.index t = ![t.val, 0, 2] ∧ win0_4.index t = ![t.val, 0, 24] ∧ win0_5.index t = ![0, 0] ∧ win0_6.index t = ![0, 0]
    ∧ win0_7.index t = ![0, 0] ∧ win0_8.index t = ![t.val, 0, 0, 0] ∧ win0_9.index t = ![t.val, 0, 0] ∧ win0_10.index t = ![t.val, 0, 0, 0] :=
  (by decide +kernel : ∀ t : Fin grid0.N, _)

variable (m : (ℓ : Loc nD τ sig) → Buf (Elt Ideal) ℓ) (c : Dev nD)

abbrev B0 : Vec Ideal S2048x3200 .f32 := m ((c.tc : Thread nD τ).loc main_arg0)
abbrev B1 : Vec Ideal S16x512 .f32 := m ((c.tc : Thread nD τ).loc main_arg1)
abbrev B2 : Vec Ideal S512 .f32 := m ((c.tc : Thread nD τ).loc main_arg2)
abbrev B3 : Vec Ideal S256 .f32 := m ((c.tc : Thread nD τ).loc main_arg3)
abbrev B4 : Vec Ideal S32x4x128x256 .f32 := m ((c.tc : Thread nD τ).loc main_arg4)

theorem v4_at (y : S32x64x3200.Idx) : (V m c main_v4 : Vec Ideal S32x64x3200 .f32) y = B0 m c (ix2 ⟨(y 0).val * 64 + (y 1).val, by have h0 : (y 0).val < 32 := (y 0).isLt; have h1 : (y 1).val < 64 := (y 1).isLt; omega⟩ (y 2)) := by
  simp only [V, hostOps0, hostOps0_1, hostOps0_2, List.flatten_cons, List.flatten_nil, List.append_nil, List.cons_append, List.nil_append]
  entry_read
  pointwise []
  try rfl

theorem v1_at (y : S128x512.Idx) : (V m c main_v1 : Vec Ideal S128x512 .bf16) y = if h : (y 0).val < 16 then B1 m c (ix2 ⟨(y 0).val, h⟩ (y 1)) else 0 := by
  simp only [V, hostOps0, hostOps0_1, hostOps0_2, List.flatten_cons, List.flatten_nil, List.append_nil, List.cons_append, List.nil_append]
  entry_read
  show pad S128x512 ![0, 0] ![112, 0] ![0, 0] (B1 m c) (sitofp (F := Ideal) .f32 (constantI S_ 32 0#32) : FVec Ideal S_ .f32) pads_S16x512_S128x512_01120_000 h_S_ y = _
  pointwise []
  split
  · rfl
  · show ((Int.cast (BitVec.toInt 0#32) : ℝ) : EReal) = 0
    norm_num

theorem v2_at (y : S1x512.Idx) : (V m c main_v2 : Vec Ideal S1x512 .f32) y = B2 m c (ix1 (y 1)) := by
  simp only [V, hostOps0, hostOps0_1, hostOps0_2, List.flatten_cons, List.flatten_nil, List.append_nil, List.cons_append, List.nil_append]
  entry_read
  pointwise []

theorem v3_at (y : S1x256.Idx) : (V m c main_v3 : Vec Ideal S1x256 .f32) y = B3 m c (ix1 (y 1)) := by
  simp only [V, hostOps0, hostOps0_1, hostOps0_2, List.flatten_cons, List.flatten_nil, List.append_nil, List.cons_append, List.nil_append]
  entry_read
  pointwise []

variable (t : Fin cfg0.N) (n : Fin 16) (h : t.val = n.val)

include h in
theorem q_blk (y : S2x64x512.Idx) : X0_0 m c t y = (argIn (B0 m c) (B1 m c) (B2 m c) (B3 m c) n).q y := by
  unfold X0_0 Pipeline.Window.fill
  rw [dif_pos (moved0_0 t y)]
  unfold iblk
  refine (v4_at m c _).trans ?_
  unfold argIn row
  refine congrArg₂ (fun a b => B0 m c (ix2 a b)) (Fin.ext ?_) (Fin.ext ?_)
  · blk_simp [idx t]
    show (t.val * 2 + (y 0).val) * 64 + (y 1).val = (2 * n.val + (y 0).val) * 64 + (y 1).val
    rw [h]
    omega
  · blk_simp [idx t]

include h in
theorem k_blk (y : S2x64x512.Idx) : X0_1 m c t y = (argIn (B0 m c) (B1 m c) (B2 m c) (B3 m c) n).k y := by
  unfold X0_1 Pipeline.Window.fill
  rw [dif_pos (moved0_1 t y)]
  unfold iblk
  refine (v4_at m c _).trans ?_
  unfold argIn row
  refine congrArg₂ (fun a b => B0 m c (ix2 a b)) (Fin.ext ?_) (Fin.ext ?_)
  · blk_simp [idx t]
    show (t.val * 2 + (y 0).val) * 64 + (y 1).val = (2 * n.val + (y 0).val) * 64 + (y 1).val
    rw [h]
    omega
  · blk_simp [idx t]

include h in
theorem v_blk (y : S2x64x1024.Idx) : X0_2 m c t y = (argIn (B0 m c) (B1 m c) (B2 m c) (B3 m c) n).v y := by
  unfold X0_2 Pipeline.Window.fill
  rw [dif_pos (moved0_2 t y)]
  unfold iblk
  refine (v4_at m c _).trans ?_
  unfold argIn row
  refine congrArg₂ (fun a b => B0 m c (ix2 a b)) (Fin.ext ?_) (Fin.ext ?_)
  · blk_simp [idx t]
    show (t.val * 2 + (y 0).val) * 64 + (y 1).val = (2 * n.val + (y 0).val) * 64 + (y 1).val
    rw [h]
    omega
  · blk_simp [idx t]

include h in
theorem r_blk (y : S2x64x1024.Idx) : X0_3 m c t y = (argIn (B0 m c) (B1 m c) (B2 m c) (B3 m c) n).r y := by
  unfold X0_3 Pipeline.Window.fill
  rw [dif_pos (moved0_3 t y)]
  unfold iblk
  refine (v4_at m c _).trans ?_
  unfold argIn row
  refine congrArg₂ (fun a b => B0 m c (ix2 a b)) (Fin.ext ?_) (Fin.ext ?_)
  · blk_simp [idx t]
    show (t.val * 2 + (y 0).val) * 64 + (y 1).val = (2 * n.val + (y 0).val) * 64 + (y 1).val
    rw [h]
    omega
  · blk_simp [idx t]

include h in
theorem gl_blk (y : S2x64x128.Idx) : iblk m c 4 t y = (argIn (B0 m c) (B1 m c) (B2 m c) (B3 m c) n).gl y := by
  unfold iblk
  refine (v4_at m c _).trans ?_
  unfold argIn row
  refine congrArg₂ (fun a b => B0 m c (ix2 a b)) (Fin.ext ?_) (Fin.ext ?_)
  · blk_simp [idx t]
    show (t.val * 2 + (y 0).val) * 64 + (y 1).val = (2 * n.val + (y 0).val) * 64 + (y 1).val
    rw [h]
    omega
  · blk_simp [idx t]

theorem w_blk (y : S128x512.Idx) : iblk m c 5 t y = (argIn (B0 m c) (B1 m c) (B2 m c) (B3 m c) n).w y := by
  unfold iblk
  have e : ((cfg0.win 5).blk t).view.emb y = y := by blk_ext [idx t]
  refine Eq.trans (congrArg (V m c main_v1) e) ?_
  exact v1_at m c y

theorem b_blk (y : S1x512.Idx) : iblk m c 6 t y = (argIn (B0 m c) (B1 m c) (B2 m c) (B3 m c) n).b y := by
  unfold iblk
  have e : ((cfg0.win 6).blk t).view.emb y = y := by blk_ext [idx t]
  refine Eq.trans (congrArg (V m c main_v2) e) ?_
  exact v2_at m c y

theorem n_blk (y : S1x256.Idx) : iblk m c 7 t y = (argIn (B0 m c) (B1 m c) (B2 m c) (B3 m c) n).n y := by
  unfold iblk
  have e : ((cfg0.win 7).blk t).view.emb y = y := by blk_ext [idx t]
  refine Eq.trans (congrArg (V m c main_v3) e) ?_
  exact v3_at m c y

include h in
/-- The blocks at a grid point are the rows of its pair. -/
theorem blk_eq : blk m c t = argIn (B0 m c) (B1 m c) (B2 m c) (B3 m c) n := by
  unfold blk
  rw [In.mk.injEq]
  exact ⟨funext (q_blk m c t n h), funext (k_blk m c t n h), funext (v_blk m c t n h), funext (r_blk m c t n h),
    funext (gl_blk m c t n h), funext (w_blk m c t n), funext (b_blk m c t n), funext (n_blk m c t n)⟩

include h in
theorem given_eq : turned (given m c t) = state (B4 m c) n := by
  unfold state
  refine congrArg turned (funext fun y => ?_)
  show iblk m c 8 t y = _
  unfold seq
  blk_point [iblk, V, idx t]

theorem out_final : (dats m 0 c).arrAt 9 cfg0.N = outAll (B0 m c) (B1 m c) (B2 m c) (B3 m c) (B4 m c) := by
  refine (dats m 0 c).arrAt_eq_of_covers 9 _ (by decide +kernel) fun t _ y => ?_
  blk_simp
  rw [after0_9, outs]
  unfold outAll
  have y0 : (y 0).val < 2 := (y 0).isLt
  have e0 : ((win0_9.blk t).view.emb y 0).val = t.val * 2 + (y 0).val := by blk_simp [idx t]
  have e1 : ((win0_9.blk t).view.emb y 1).val = (y 1).val := by blk_simp [idx t]
  have e2 : ((win0_9.blk t).view.emb y 2).val = (y 2).val := by blk_simp [idx t]
  have hp : t.val = (pair ((win0_9.blk t).view.emb y 0)).val := by
    show t.val = ((win0_9.blk t).view.emb y 0).val / 2
    rw [e0]
    omega
  rw [blk_eq m c t _ hp, given_eq m c t _ hp]
  refine congrArg (outV _ _) (funext fun a => Fin.ext ?_)
  match a with
    | ⟨0, _⟩ => show (y 0).val = ((win0_9.blk t).view.emb y 0).val % 2; rw [e0]; omega
    | ⟨1, _⟩ => show (y 1).val = ((win0_9.blk t).view.emb y 1).val; rw [e1]
    | ⟨2, _⟩ => show (y 2).val = ((win0_9.blk t).view.emb y 2).val; rw [e2]

theorem fin_final : (dats m 0 c).arrAt 10 cfg0.N = finAll (B0 m c) (B1 m c) (B2 m c) (B3 m c) (B4 m c) := by
  refine (dats m 0 c).arrAt_eq_of_covers 10 _ (by decide +kernel) fun t _ y => ?_
  blk_simp
  rw [after0_10, fins]
  unfold finAll
  have y0 : (y 0).val < 2 := (y 0).isLt
  have e0 : ((win0_10.blk t).view.emb y 0).val = t.val * 2 + (y 0).val := by blk_simp [idx t]
  have e1 : ((win0_10.blk t).view.emb y 1).val = (y 1).val := by blk_simp [idx t]
  have e2 : ((win0_10.blk t).view.emb y 2).val = (y 2).val := by blk_simp [idx t]
  have e3 : ((win0_10.blk t).view.emb y 3).val = (y 3).val := by blk_simp [idx t]
  have hp : t.val = (pair ((win0_10.blk t).view.emb y 0)).val := by
    show t.val = ((win0_10.blk t).view.emb y 0).val / 2
    rw [e0]
    omega
  rw [blk_eq m c t _ hp, given_eq m c t _ hp]
  refine congrArg (finV _ _) (funext fun a => Fin.ext ?_)
  match a with
    | ⟨0, _⟩ => show (y 0).val = ((win0_10.blk t).view.emb y 0).val % 2; rw [e0]; omega
    | ⟨1, _⟩ => show (y 1).val = ((win0_10.blk t).view.emb y 1).val; rw [e1]
    | ⟨2, _⟩ => show (y 2).val = ((win0_10.blk t).view.emb y 2).val; rw [e2]
    | ⟨3, _⟩ => show (y 3).val = ((win0_10.blk t).view.emb y 3).val; rw [e3]

end Cert.Gla.Sample

end
-- ==== Proof.Running.lean ====
/- The reference's running sum along the rows of a chunk, read at an index. -/
module

public import proofs.«01_k».proof.Proof.Gen.ReferenceIdeal.Step
public import Idealize.ShloMosaic.Lib.Pointwise

@[expose] public section

noncomputable section

namespace Cert.Gla

open Idealize.ShloMosaic Idealize.ShloMosaic.TcCoe
open Cert.ReferenceIdeal Cert.ReferenceIdeal.Gen
open scoped BigOperators

theorem foldl_sum {n : ℕ} (f : Fin n → EReal) (a : EReal) : (List.finRange n).foldl (fun r k => r + f k) a = a + ∑ k, f k := by
  rw [← List.sum_ofFn, List.ofFn_eq_map]
  generalize List.finRange n = l
  induction l generalizing a with
  | nil => simp
  | cons k l ih => rw [List.foldl_cons, ih, List.map_cons, List.sum_cons, add_assoc]

/-- The window: one row of each of the other axes, 64 along the chunk. -/
abbrev Win : Shape := ⟨5, ![1, 1, 1, 64, 1]⟩

/-- A place in the window is its row. -/
def winRow : Fin 64 ≃ Win.Idx where
  toFun k := ix5 (0 : Fin 1) (0 : Fin 1) (0 : Fin 1) k (0 : Fin 1)
  invFun w := w 3
  left_inv _ := rfl
  right_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
    | ⟨4, _⟩ => exact Subsingleton.elim (α := Fin 1) _ _

/-- A window of the 64 rows up to row `i`, the rows before the first left out, is the rows up to `i`. -/
theorem shift_sum (i : Fin 64) (f : Fin 64 → EReal) :
    (∑ k : Fin 64, if h : 63 ≤ i.val + k.val then f ⟨i.val + k.val - 63, by omega⟩ else 0) = ∑ j : Fin 64, if j ≤ i then f j else 0 := by
  rw [← Finset.sum_filter]
  have e : ∀ k : Fin 64, (if h : 63 ≤ i.val + k.val then f ⟨i.val + k.val - 63, by omega⟩ else 0)
      = if 63 ≤ i.val + k.val then f ⟨(i.val + k.val - 63) % 64, Nat.mod_lt _ (by decide)⟩ else 0 := fun k => by
    by_cases h : 63 ≤ i.val + k.val
    · rw [dif_pos h, if_pos h]
      congr 1
      exact Fin.ext (Nat.mod_eq_of_lt (by omega)).symm
    · rw [dif_neg h, if_neg h]
  rw [Finset.sum_congr rfl fun k _ => e k, ← Finset.sum_filter]
  refine Finset.sum_nbij' (fun k => ⟨(i.val + k.val - 63) % 64, Nat.mod_lt _ (by decide)⟩) (fun j => ⟨(j.val + 63 - i.val) % 64, Nat.mod_lt _ (by decide)⟩)
    (fun k hk => ?_) (fun j hj => ?_) (fun k hk => ?_) (fun j hj => ?_) (fun k hk => rfl)
  · simp only [Finset.mem_filter, Finset.mem_univ, true_and, Fin.le_def] at hk ⊢; omega
  · simp only [Finset.mem_filter, Finset.mem_univ, true_and, Fin.le_def] at hj ⊢; omega
  · simp only [Finset.mem_filter, Finset.mem_univ, true_and] at hk; exact Fin.ext (by dsimp only; omega)
  · simp only [Finset.mem_filter, Finset.mem_univ, true_and, Fin.le_def] at hj; exact Fin.ext (by dsimp only; omega)

theorem running (x : FVec Ideal S128x2x4x64x128 .f32) (init : FVec Ideal S_ .f32) (hi : init (Shape.Idx.first h_S_) = (0 : EReal))
    (n : Fin 128) (g : Fin 2) (h : Fin 4) (i : Fin 64) (d : Fin 128) :
    (Host.reduceWindowAdd ![1, 1, 1, 64, 1] ![1, 1, 1, 1, 1] ![0, 0, 0, 63, 0] ![0, 0, 0, 0, 0] x init
      reduceWindows_S128x2x4x64x128_S128x2x4x64x128_w1s1p0_0_w1s1p0_0_w1s1p0_0_w64s1p63_0_w1s1p0_0 h_S_ : FVec Ideal S128x2x4x64x128 .f32)
        (ix5 n g h i d) = ∑ j : Fin 64, if j ≤ i then x (ix5 n g h j d) else (0 : EReal) := by
  unfold Host.reduceWindowAdd
  rw [Ideal.hostReduceWindowAdd_def]
  unfold Ideal.hostReduceWindowAdd Host.reduceWindow
  dsimp only
  rw [foldl_sum, hi, zero_add]
  refine Eq.trans ?_ (shift_sum i fun j => x (ix5 n g h j d))
  refine Fintype.sum_equiv (Win.rowMajor.symm.trans winRow.symm) _ _ fun k => ?_
  obtain ⟨r, rfl⟩ := (winRow.trans Win.rowMajor).surjective k
  simp only [Equiv.trans_apply, Equiv.symm_apply_apply]
  by_cases hk : 63 ≤ i.val + r.val
  · rw [dif_pos hk, dif_pos]
    · refine congrArg x (funext fun a => Fin.ext ?_)
      match a with
      | ⟨0, _⟩ => show n.val * 1 + 0 - 0 = n.val; omega
      | ⟨1, _⟩ => show g.val * 1 + 0 - 0 = g.val; omega
      | ⟨2, _⟩ => show h.val * 1 + 0 - 0 = h.val; omega
      | ⟨3, _⟩ => show i.val * 1 + r.val - 63 = i.val + r.val - 63; omega
      | ⟨4, _⟩ => show d.val * 1 + 0 - 0 = d.val; omega
    · intro a
      match a with
      | ⟨0, _⟩ => show 0 ≤ n.val * 1 + 0 ∧ n.val * 1 + 0 - 0 < 128; omega
      | ⟨1, _⟩ => show 0 ≤ g.val * 1 + 0 ∧ g.val * 1 + 0 - 0 < 2; omega
      | ⟨2, _⟩ => show 0 ≤ h.val * 1 + 0 ∧ h.val * 1 + 0 - 0 < 4; omega
      | ⟨3, _⟩ => show 63 ≤ i.val * 1 + r.val ∧ i.val * 1 + r.val - 63 < 64; omega
      | ⟨4, _⟩ => show 0 ≤ d.val * 1 + 0 ∧ d.val * 1 + 0 - 0 < 128; omega
  · rw [dif_neg hk, dif_neg]
    intro hin
    have := (hin 3).1
    change 63 ≤ i.val * 1 + r.val at this
    omega

end Cert.Gla

end
-- ==== Proof.GlaSampleRef.lean ====
/- The reference of the sample's linear attention: its one chunk, as the same functions of the rows it reads. -/
module

public import proofs.«01_k».proof.Proof.Points
public import proofs.«01_k».proof.Proof.Running
public import proofs.«01_k».proof.Proof.GlaSampleRows
public import proofs.«01_k».proof.Proof.Gen.Reference12Ideal.Run

@[expose] public section

set_option maxRecDepth 16384

noncomputable section

namespace Cert.Gla.SampleRef

open Idealize.ShloMosaic Idealize.ShloMosaic.TcCoe
open Cert.Reference12Ideal Cert.Reference12Ideal.Gen
open Cert.Gla.Sample (row seq argIn state pair side seq_pair outAll finAll)
open scoped BigOperators

theorem running (x : FVec Ideal S1x32x4x64x128 .f32) (init : FVec Ideal S_ .f32) (hi : init (Shape.Idx.first h_S_) = (0 : EReal))
    (n : Fin 1) (g : Fin 32) (h : Fin 4) (i : Fin 64) (d : Fin 128) :
    (Host.reduceWindowAdd ![1, 1, 1, 64, 1] ![1, 1, 1, 1, 1] ![0, 0, 0, 63, 0] ![0, 0, 0, 0, 0] x init
      reduceWindows_S1x32x4x64x128_S1x32x4x64x128_w1s1p0_0_w1s1p0_0_w1s1p0_0_w64s1p63_0_w1s1p0_0 h_S_ : FVec Ideal S1x32x4x64x128 .f32)
        (ix5 n g h i d) = ∑ j : Fin 64, if j ≤ i then x (ix5 n g h j d) else (0 : EReal) := by
  unfold Host.reduceWindowAdd
  rw [Ideal.hostReduceWindowAdd_def]
  unfold Ideal.hostReduceWindowAdd Host.reduceWindow
  dsimp only
  rw [foldl_sum, hi, zero_add]
  refine Eq.trans ?_ (shift_sum i fun j => x (ix5 n g h j d))
  refine Fintype.sum_equiv (Win.rowMajor.symm.trans winRow.symm) _ _ fun k => ?_
  obtain ⟨r, rfl⟩ := (winRow.trans Win.rowMajor).surjective k
  simp only [Equiv.trans_apply, Equiv.symm_apply_apply]
  by_cases hk : 63 ≤ i.val + r.val
  · rw [dif_pos hk, dif_pos]
    · refine congrArg x (funext fun a => Fin.ext ?_)
      match a with
      | ⟨0, _⟩ => show n.val * 1 + 0 - 0 = n.val; omega
      | ⟨1, _⟩ => show g.val * 1 + 0 - 0 = g.val; omega
      | ⟨2, _⟩ => show h.val * 1 + 0 - 0 = h.val; omega
      | ⟨3, _⟩ => show i.val * 1 + r.val - 63 = i.val + r.val - 63; omega
      | ⟨4, _⟩ => show d.val * 1 + 0 - 0 = d.val; omega
    · intro a
      match a with
      | ⟨0, _⟩ => show 0 ≤ n.val * 1 + 0 ∧ n.val * 1 + 0 - 0 < 1; omega
      | ⟨1, _⟩ => show 0 ≤ g.val * 1 + 0 ∧ g.val * 1 + 0 - 0 < 32; omega
      | ⟨2, _⟩ => show 0 ≤ h.val * 1 + 0 ∧ h.val * 1 + 0 - 0 < 4; omega
      | ⟨3, _⟩ => show 63 ≤ i.val * 1 + r.val ∧ i.val * 1 + r.val - 63 < 64; omega
      | ⟨4, _⟩ => show 0 ≤ d.val * 1 + 0 ∧ d.val * 1 + 0 - 0 < 128; omega
  · rw [dif_neg hk, dif_neg]
    intro hin
    have := (hin 3).1
    change 63 ≤ i.val * 1 + r.val at this
    omega

/-! ## The stages of the reference -/

def preR (a0 : FVec Ideal S2048x3200 .f32) (a1 : FVec Ideal S16x512 .f32) (a2 : FVec Ideal S512 .f32) : FVec Ideal S32x64x512 .f32 :=
  addf (Host.dotGeneral dot_S32x64x16_S16x512_S32x64x512_2_0_01_1_n_n none (extractStridedSlice S32x64x16 ![0, 0, 3072] (shapeCast _ a0 shapeCasts_S2048x3200_S32x64x3200) slices_S32x64x3200_S32x64x16_0_0_3072) a1)
    (broadcastInDim S32x64x512 ![0, 1, 2] bcast_S1x1x512_S32x64x512_0_1_2 (broadcastInDim S1x1x512 ![2] bcast_S512_S1x1x512_2 a2))

def lgR (x : FVec Ideal S32x64x512 .f32) : FVec Ideal S32x64x512 .f32 :=
  have n1 := Host.negf x
  have n2 : FVec Ideal S32x64x512 .f32 := broadcastInDim S32x64x512 ![] bcast_S_S32x64x512 (constant S_ .f32 0x00000000#32)
  have n3 := subf n1 n2
  Host.divf (Host.negf (select (cmpf .une n3 n3) (addf n1 n2) (addf (maximumf n1 n2) (Host.log1p (Host.exp (Host.negf (Host.absf n3)))))))
    (broadcastInDim S32x64x512 ![] bcast_S_S32x64x512 (constant S_ .f32 0x41800000#32))

def chunkK (x : FVec Ideal S32x64x4x128 .f32) : FVec Ideal S1x32x4x64x128 .f32 :=
  transpose S1x32x4x64x128 [0, 1, 3, 2, 4] (transpose S1x32x64x4x128 [1, 0, 2, 3, 4] (shapeCast S32x1x64x4x128 x shapeCasts_S32x64x4x128_S32x1x64x4x128) transposes_S32x1x64x4x128_S1x32x64x4x128_1_0_2_3_4) transposes_S1x32x64x4x128_S1x32x4x64x128_0_1_3_2_4

def headK (x : FVec Ideal S32x64x512 .f32) : FVec Ideal S32x64x4x128 .f32 := shapeCast _ x shapeCasts_S32x64x512_S32x64x4x128

def zeroR : FVec Ideal S_ .f32 := broadcastInDim S_ ![] bcast_S_S_ (constant S_ .f32 0x00000000#32)

def cumR (x : FVec Ideal S1x32x4x64x128 .f32) : FVec Ideal S1x32x4x64x128 .f32 :=
  Host.reduceWindowAdd ![1, 1, 1, 64, 1] ![1, 1, 1, 1, 1] ![0, 0, 0, 63, 0] ![0, 0, 0, 0, 0] x zeroR reduceWindows_S1x32x4x64x128_S1x32x4x64x128_w1s1p0_0_w1s1p0_0_w1s1p0_0_w64s1p63_0_w1s1p0_0 h_S_

def qR (a0 : FVec Ideal S2048x3200 .f32) : FVec Ideal S1x32x4x64x128 .f32 :=
  chunkK (mulf (headK (extractStridedSlice S32x64x512 ![0, 0, 0] (shapeCast _ a0 shapeCasts_S2048x3200_S32x64x3200) slices_S32x64x3200_S32x64x512_0_0_0))
    (broadcastInDim S32x64x4x128 ![] bcast_S_S32x64x4x128 (constant S_ .f32 0x3DB504F3#32)))

def kR (a0 : FVec Ideal S2048x3200 .f32) : FVec Ideal S1x32x4x64x128 .f32 :=
  chunkK (headK (extractStridedSlice S32x64x512 ![0, 0, 512] (shapeCast _ a0 shapeCasts_S2048x3200_S32x64x3200) slices_S32x64x3200_S32x64x512_0_0_512))

def vR (a0 : FVec Ideal S2048x3200 .f32) : FVec Ideal S1x32x4x64x256 .f32 :=
  transpose S1x32x4x64x256 [0, 1, 3, 2, 4] (transpose S1x32x64x4x256 [1, 0, 2, 3, 4] (shapeCast S32x1x64x4x256 (shapeCast S32x64x4x256 (extractStridedSlice S32x64x1024 ![0, 0, 1024] (shapeCast _ a0 shapeCasts_S2048x3200_S32x64x3200) slices_S32x64x3200_S32x64x1024_0_0_1024) shapeCasts_S32x64x1024_S32x64x4x256) shapeCasts_S32x64x4x256_S32x1x64x4x256) transposes_S32x1x64x4x256_S1x32x64x4x256_1_0_2_3_4) transposes_S1x32x64x4x256_S1x32x4x64x256_0_1_3_2_4

def lastR (b : FVec Ideal S1x32x4x64x128 .f32) : FVec Ideal S1x32x4x1x128 .f32 :=
  extractStridedSlice S1x32x4x1x128 ![0, 0, 0, 63, 0] b slices_S1x32x4x64x128_S1x32x4x1x128_0_0_0_63_0

def qeR (q b : FVec Ideal S1x32x4x64x128 .f32) : FVec Ideal S1x32x4x64x128 .f32 := mulf q (Host.exp b)

def keR (k b : FVec Ideal S1x32x4x64x128 .f32) : FVec Ideal S1x32x4x64x128 .f32 := mulf k (Host.exp (Host.negf b))

def klR (k b : FVec Ideal S1x32x4x64x128 .f32) : FVec Ideal S1x32x4x64x128 .f32 :=
  mulf k (Host.exp (subf (broadcastInDim S1x32x4x64x128 ![0, 1, 2, 3, 4] bcast_S1x32x4x1x128_S1x32x4x64x128_0_1_2_3_4 (lastR b)) b))

def attR (qe ke : FVec Ideal S1x32x4x64x128 .f32) : FVec Ideal S1x32x4x64x64 .f32 :=
  select (broadcastInDim S1x32x4x64x64 ![3, 4] bcast_S64x64_S1x32x4x64x64_3_4 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1))))
    (Host.dotGeneral dot_S1x32x4x64x128_S1x32x4x64x128_S1x32x4x64x64_4_4_3_3_012_012 none qe ke)
    (broadcastInDim S1x32x4x64x64 ![] bcast_S_S1x32x4x64x64 (id (constant S_ .f32 0x00000000#32)))

def ooR (att : FVec Ideal S1x32x4x64x64 .f32) (v : FVec Ideal S1x32x4x64x256 .f32) (qe : FVec Ideal S1x32x4x64x128 .f32) (a4 : FVec Ideal S32x4x128x256 .f32) : FVec Ideal S1x32x4x64x256 .f32 :=
  addf (Host.dotGeneral dot_S1x32x4x64x64_S1x32x4x64x256_S1x32x4x64x256_4_3_3_4_012_012 none att v)
    (Host.dotGeneral dot_S1x32x4x64x128_S1x32x4x128x256_S1x32x4x64x256_4_3_3_4_012_012 none qe (broadcastInDim S1x32x4x128x256 ![1, 2, 3, 4] bcast_S32x4x128x256_S1x32x4x128x256_1_2_3_4 a4))

def outR (o : FVec Ideal S1x32x4x64x256 .f32) (a0 : FVec Ideal S2048x3200 .f32) (a3 : FVec Ideal S256 .f32) : FVec Ideal S32x64x1024 .bf16 :=
  have n8 : FVec Ideal S32x64x4x256 .f32 := shapeCast S32x64x4x256 (transpose S32x1x64x4x256 [1, 0, 2, 3, 4] (transpose S1x32x64x4x256 [0, 1, 3, 2, 4] o transposes_S1x32x4x64x256_S1x32x64x4x256_0_1_3_2_4) transposes_S1x32x64x4x256_S32x1x64x4x256_1_0_2_3_4) shapeCasts_S32x1x64x4x256_S32x64x4x256
  have n9 : FVec Ideal S32x64x1024 .f32 := extractStridedSlice S32x64x1024 ![0, 0, 2048] (shapeCast _ a0 shapeCasts_S2048x3200_S32x64x3200) slices_S32x64x3200_S32x64x1024_0_0_2048
  have n10 : FVec Ideal S32x64x1024 .f32 := broadcastInDim S32x64x1024 ![] bcast_S_S32x64x1024 (constant S_ .f32 0x3F800000#32)
  truncf .bf16 (mulf (shapeCast S32x64x1024 (mulf (mulf n8 (broadcastInDim S32x64x4x256 ![0, 1, 2, 3] bcast_S32x64x4x1_S32x64x4x256_0_1_2_3 (Host.rsqrt (addf (Host.divf (broadcastInDim S32x64x4x1 ![0, 1, 2] bcast_S32x64x4_S32x64x4x1_0_1_2 (Host.reduceAdd (mulf n8 n8) (constant S_ .f32 0x00000000#32) reducesTo_S32x64x4x256_S32x64x4_d3 h_S_)) (broadcastInDim S32x64x4x1 ![] bcast_S_S32x64x4x1 (constant S_ .f32 0x43800000#32))) (broadcastInDim S32x64x4x1 ![] bcast_S_S32x64x4x1 (constant S_ .f32 0x358637BD#32))))))
    (broadcastInDim S32x64x4x256 ![0, 1, 2, 3] bcast_S1x1x1x256_S32x64x4x256_0_1_2_3 (broadcastInDim S1x1x1x256 ![3] bcast_S256_S1x1x1x256_3 a3))) shapeCasts_S32x64x4x256_S32x64x1024)
    (mulf n9 (Host.divf n10 (addf n10 (Host.exp (Host.negf n9)))))) bitsLt_bf16_f32

def finR (b kl : FVec Ideal S1x32x4x64x128 .f32) (v : FVec Ideal S1x32x4x64x256 .f32) (a4 : FVec Ideal S32x4x128x256 .f32) : FVec Ideal S32x4x128x256 .f32 :=
  addf (mulf (broadcastInDim S32x4x128x256 ![0, 1, 2, 3] bcast_S32x4x128x1_S32x4x128x256_0_1_2_3 (broadcastInDim S32x4x128x1 ![0, 1, 2] bcast_S32x4x128_S32x4x128x1_0_1_2 (shapeCast S32x4x128 (Host.exp (shapeCast S1x32x4x128 (lastR b) shapeCasts_S1x32x4x1x128_S1x32x4x128)) shapeCasts_S1x32x4x128_S32x4x128))) a4)
    (shapeCast S32x4x128x256 (Host.dotGeneral dot_S1x32x4x64x128_S1x32x4x64x256_S1x32x4x128x256_3_3_4_4_012_012 none kl v) shapeCasts_S1x32x4x128x256_S32x4x128x256)

def bR (a0 : FVec Ideal S2048x3200 .f32) (a1 : FVec Ideal S16x512 .f32) (a2 : FVec Ideal S512 .f32) : FVec Ideal S1x32x4x64x128 .f32 :=
  cumR (chunkK (headK (lgR (preR a0 a1 a2))))

section
variable (m : (ℓ : Loc nD τ sig) → Buf (Elt Ideal) ℓ) (c : Dev nD)

abbrev A0 : FVec Ideal S2048x3200 .f32 := m ((c.tc : Thread nD τ).loc main_arg0)
abbrev A1 : FVec Ideal S16x512 .f32 := m ((c.tc : Thread nD τ).loc main_arg1)
abbrev A2 : FVec Ideal S512 .f32 := m ((c.tc : Thread nD τ).loc main_arg2)
abbrev A3 : FVec Ideal S256 .f32 := m ((c.tc : Thread nD τ).loc main_arg3)
abbrev A4 : FVec Ideal S32x4x128x256 .f32 := m ((c.tc : Thread nD τ).loc main_arg4)

theorem out_stages : Value.res_main_v80 m c
    = outR (ooR (attR (qeR (qR (A0 m c)) (bR (A0 m c) (A1 m c) (A2 m c))) (keR (kR (A0 m c)) (bR (A0 m c) (A1 m c) (A2 m c)))) (vR (A0 m c)) (qeR (qR (A0 m c)) (bR (A0 m c) (A1 m c) (A2 m c))) (A4 m c)) (A0 m c) (A3 m c) := rfl

theorem fin_stages : Value.res_main_v56 m c
    = finR (bR (A0 m c) (A1 m c) (A2 m c)) (klR (kR (A0 m c)) (bR (A0 m c) (A1 m c) (A2 m c))) (vR (A0 m c)) (A4 m c) := rfl
end

/-! ## Each stage at an index -/

variable (a0 : FVec Ideal S2048x3200 .f32) (a1 : FVec Ideal S16x512 .f32) (a2 : FVec Ideal S512 .f32) (a3 : FVec Ideal S256 .f32) (a4 : FVec Ideal S32x4x128x256 .f32)
variable (p : Fin 16) (g : Fin 2) (h : Fin 4) (i : Fin 64)

theorem pre_ref (c : Fin 512) : preR a0 a1 a2 (ix3 (seq p g) i c) = pre (argIn a0 a1 a2 a3 p) g i c := by
  unfold pre argIn
  pointwise [preR]
  simp only [mul_zero, Finset.sum_const_zero, add_zero]
  rfl

theorem lg_ref (x : FVec Ideal S32x64x512 .f32) (y : S32x64x512.Idx) : lgR x y = lg (x y) := by
  rw [← lg_eq]
  pointwise [lgR]
  rw [if_neg (not_not_intro rfl)]

theorem v32_ref (d : Fin 128) : chunkK (headK (lgR (preR a0 a1 a2))) (ix5 0 (seq p g) h i d) = lg (pre (argIn a0 a1 a2 a3 p) g i (kc h d)) := by
  rw [← pre_ref, ← lg_ref]
  pointwise [chunkK, headK]
  exact congrArg₂ (fun a b => lgR (preR a0 a1 a2) (ix3 (seq p g) a b)) (Fin.ext (by dsimp only)) (Fin.ext (by show _ = 128 * h.val + d.val; dsimp only; omega))

theorem cum_ref (d : Fin 128) : bR a0 a1 a2 (ix5 0 (seq p g) h i d) = cum (argIn a0 a1 a2 a3 p) g i (kc h d) := by
  unfold bR cumR
  refine (running _ _ (by pointwise [zeroR]) 0 (seq p g) h i d).trans ?_
  simp only [v32_ref a0 a1 a2 a3]
  rfl

theorem q_ref (d : Fin 128) : qR a0 (ix5 0 (seq p g) h i d) = (argIn a0 a1 a2 a3 p).q (ix3 g i (kc h d)) * Ideal.ofBits .f32 0x3DB504F3#32 := by
  unfold argIn
  pointwise [qR, chunkK, headK]
  refine congrArg (· * _) (congrArg₂ (fun a b => a0 (ix2 a b)) (Fin.ext ?_) (Fin.ext ?_))
  · show _ = (2 * p.val + g.val) * 64 + i.val; dsimp only [seq]
  · show _ = 128 * h.val + d.val; dsimp only; omega

theorem k_ref (d : Fin 128) : kR a0 (ix5 0 (seq p g) h i d) = (argIn a0 a1 a2 a3 p).k (ix3 g i (kc h d)) := by
  unfold argIn
  pointwise [kR, chunkK, headK]
  refine congrArg₂ (fun a b => a0 (ix2 a b)) (Fin.ext ?_) (Fin.ext ?_)
  · show _ = (2 * p.val + g.val) * 64 + i.val; dsimp only [seq]
  · show _ = 512 + (128 * h.val + d.val); dsimp only; omega

theorem v_ref (v : Fin 256) : vR a0 (ix5 0 (seq p g) h i v) = (argIn a0 a1 a2 a3 p).v (ix3 g i (vc h v)) := by
  unfold argIn
  pointwise [vR]
  refine congrArg₂ (fun a b => a0 (ix2 a b)) (Fin.ext ?_) (Fin.ext ?_)
  · show _ = (2 * p.val + g.val) * 64 + i.val; dsimp only [seq]
  · show _ = 1024 + (256 * h.val + v.val); dsimp only; omega

theorem qe_ref (d : Fin 128) : qeR (qR a0) (bR a0 a1 a2) (ix5 0 (seq p g) h i d) = qe (argIn a0 a1 a2 a3 p) g i (kc h d) := by
  pointwise [qeR]
  rw [q_ref a0 a1 a2 a3, cum_ref a0 a1 a2 a3]
  rfl

theorem ke_ref (d : Fin 128) : keR (kR a0) (bR a0 a1 a2) (ix5 0 (seq p g) h i d) = ke (argIn a0 a1 a2 a3 p) g i (kc h d) := by
  pointwise [keR]
  rw [k_ref a0 a1 a2 a3, cum_ref a0 a1 a2 a3]
  unfold ke
  rw [zero_sub]

theorem kl_ref (d : Fin 128) : klR (kR a0) (bR a0 a1 a2) (ix5 0 (seq p g) h i d) = kl (argIn a0 a1 a2 a3 p) g i (kc h d) := by
  pointwise [klR, lastR]
  rw [k_ref a0 a1 a2 a3, cum_ref a0 a1 a2 a3, cum_ref a0 a1 a2 a3]
  rfl

theorem att_ref (j : Fin 64) : attR (qeR (qR a0) (bR a0 a1 a2)) (keR (kR a0) (bR a0 a1 a2)) (ix5 0 (seq p g) h i j) = att (argIn a0 a1 a2 a3 p) g h i j := by
  pointwise [attR]
  simp only [qe_ref a0 a1 a2 a3, ke_ref a0 a1 a2 a3]
  rw [show IntOp.addi (BitVec.ofNat 32 i.val) 0#32 = BitVec.ofNat 32 i.val from BitVec.add_zero _, sge_iff]
  unfold att
  split
  · rfl
  · show (constant S_ .f32 0#32 : FVec Ideal S_ .f32) ix0 = 0
    pointwise []

/-- The mixer's output before its norm. -/
theorem oo_ref (v : Fin 256) :
    ooR (attR (qeR (qR a0) (bR a0 a1 a2)) (keR (kR a0) (bR a0 a1 a2))) (vR a0) (qeR (qR a0) (bR a0 a1 a2)) a4 (ix5 0 (seq p g) h i v)
      = oo (argIn a0 a1 a2 a3 p) (state a4 p) g h i v := by
  pointwise [ooR]
  simp only [att_ref a0 a1 a2 a3, v_ref a0 a1 a2 a3, qe_ref a0 a1 a2 a3]
  unfold oo
  simp only [Cert.Gla.Sample.state_slot]

theorem fin_ref (d : Fin 128) (v : Fin 256) :
    finR (bR a0 a1 a2) (klR (kR a0) (bR a0 a1 a2)) (vR a0) a4 (ix4 (seq p g) h d v) = ns (argIn a0 a1 a2 a3 p) (state a4 p) g h v d := by
  pointwise [finR, lastR]
  simp only [kl_ref a0 a1 a2 a3, v_ref a0 a1 a2 a3, cum_ref a0 a1 a2 a3]
  unfold ns
  simp only [Cert.Gla.Sample.state_slot]
  exact congrArg₂ (· + ·) (mul_comm _ _) (Finset.sum_congr rfl fun j _ => mul_comm _ _)

theorem out_ref (v : Fin 256) :
    outR (ooR (attR (qeR (qR a0) (bR a0 a1 a2)) (keR (kR a0) (bR a0 a1 a2))) (vR a0) (qeR (qR a0) (bR a0 a1 a2)) a4) a0 a3 (ix3 (seq p g) i ⟨256 * h + v, by omega⟩)
      = out (argIn a0 a1 a2 a3 p) (state a4 p) g h i v := by
  have ho := fun w => oo_ref a0 a1 a2 a3 a4 p g h i w
  revert ho
  generalize ooR (attR (qeR (qR a0) (bR a0 a1 a2)) (keR (kR a0) (bR a0 a1 a2))) (vR a0) (qeR (qR a0) (bR a0 a1 a2)) a4 = o
  intro ho
  unfold out
  simp only [← ho]
  clear ho
  unfold argIn
  pointwise [outR]
  rw [zero_sub]
  rfl

theorem out_all (m : (ℓ : Loc nD τ sig) → Buf (Elt Ideal) ℓ) (c : Dev nD) :
    Value.res_main_v80 m c = outAll (A0 m c) (A1 m c) (A2 m c) (A3 m c) (A4 m c) := by
  rw [out_stages]
  funext y
  have b2 : (y 2).val < 1024 := (y 2).isLt
  have hy : y = ix3 (seq (pair (y 0)) (side (y 0))) (y 1) ⟨256 * ((⟨(y 2).val / 256, by omega⟩ : Fin 4) : ℕ) + ((⟨(y 2).val % 256, by omega⟩ : Fin 256) : ℕ), by dsimp only; omega⟩ := by
    funext a
    match a with
    | ⟨0, _⟩ => exact (seq_pair (y 0)).symm
    | ⟨1, _⟩ => rfl
    | ⟨2, _⟩ => exact Fin.ext (by show (y 2).val = 256 * ((y 2).val / 256) + (y 2).val % 256; omega)
  exact (congrArg _ hy).trans (out_ref (A0 m c) (A1 m c) (A2 m c) (A3 m c) (A4 m c) (pair (y 0)) (side (y 0)) _ (y 1) _)

theorem fin_all (m : (ℓ : Loc nD τ sig) → Buf (Elt Ideal) ℓ) (c : Dev nD) :
    Value.res_main_v56 m c = finAll (A0 m c) (A1 m c) (A2 m c) (A3 m c) (A4 m c) := by
  rw [fin_stages]
  funext y
  have hy : y = ix4 (seq (pair (y 0)) (side (y 0))) (y 1) (y 2) (y 3) := by
    funext a
    match a with
    | ⟨0, _⟩ => exact (seq_pair (y 0)).symm
    | ⟨1, _⟩ => rfl
    | ⟨2, _⟩ => rfl
    | ⟨3, _⟩ => rfl
  exact (congrArg _ hy).trans (fin_ref (A0 m c) (A1 m c) (A2 m c) (A3 m c) (A4 m c) (pair (y 0)) (side (y 0)) (y 1) (y 2) (y 3))

end Cert.Gla.SampleRef

end
-- ==== Proof.Plain.lean ====
/- The kernel's feed-forward half step over one array of rows. -/
module

public import proofs.«01_k».proof.Proof.Ffn
public import proofs.«01_k».proof.Proof.Gen.Kernel3Ideal.Value
public import Idealize.ShloMosaic.Lib.Pointwise
public import Idealize.ShloMosaic.Lib.ValueIdx
public import Idealize.ShloMosaic.Lib.Claim
public import Idealize.ShloMosaic.Lib.Pipeline.ValueKit

@[expose] public section

set_option maxRecDepth 16384

noncomputable section

namespace Cert.Ffn.Plain

open Idealize.ShloMosaic Idealize.ShloMosaic.TcCoe
open Cert.Kernel3Ideal Cert.Kernel3Ideal.Gen Cert.Kernel3Ideal.Value
open scoped BigOperators

theorem block_at (x : Vec Ideal S512x1024 .f32) (n : Vec Ideal S1x1024 .f32) (wg wu : Vec Ideal S1024x2816 .bf16) (wd : Vec Ideal S2816x1024 .bf16)
    (y : S512x1024.Idx) :
    k0_pay1 x n wg wu wd y
      = half (fun k => x (ix2 (y 0) k)) (fun k => n (ix2 0 k)) (fun k f => wg (ix2 k f)) (fun k f => wu (ix2 k f)) (fun f j => wd (ix2 f j)) (y 1) := by
  unfold half hidden normed
  pointwise [k0_pay1]

theorem idx : ∀ t : Fin cfg0.N, win0_0.index t = ![t.val, 0] ∧ win0_1.index t = ![0, 0] ∧ win0_2.index t = ![0, 0] ∧ win0_3.index t = ![0, 1] ∧ win0_4.index t = ![0, 0] ∧ win0_5.index t = ![t.val, 0] :=
  (by decide +kernel : ∀ t : Fin grid0.N, _)

variable (m : (ℓ : Loc nD τ sig) → Buf (Elt Ideal) ℓ) (c : Dev nD)

/-- The kernel's array is the half step over its rows. -/
theorem final : (dats m 0 c).arrAt 5 cfg0.N
    = rows (whole (m ((c.tc : Thread nD τ).loc main_arg0))) (m ((c.tc : Thread nD τ).loc main_arg1)) (m ((c.tc : Thread nD τ).loc main_arg2)) (m ((c.tc : Thread nD τ).loc main_arg3)) := by
  refine (dats m 0 c).arrAt_eq_of_covers 5 _ (by decide +kernel) fun t _ y => ?_
  blk_simp
  rw [after0_5]
  frame_out
  rw [block_at]
  unfold rows whole
  refine half_congr (fun k => ?_) (fun k => ?_) (fun k f => ?_) (fun k f => ?_) (fun f j => ?_) ?_
  · blk_point [iblk, V, idx t]
  · blk_point [iblk, V, idx t]
  · blk_point [iblk, V, idx t]
  · blk_point [iblk, V, idx t]
  · blk_point [iblk, V, idx t]
  · exact Fin.ext (by blk_simp [idx t])

end Cert.Ffn.Plain

end
-- ==== Proof.PlainRef.lean ====
/- The reference's feed-forward half step over one array of rows. -/
module

public import proofs.«01_k».proof.Proof.Ffn
public import proofs.«01_k».proof.Proof.Gen.Reference3Ideal.Run
public import Idealize.ShloMosaic.Lib.Pointwise
public import Idealize.ShloMosaic.Lib.ValueIdx
public import Idealize.ShloMosaic.Lib.Claim

@[expose] public section

set_option maxRecDepth 16384

noncomputable section

namespace Cert.Ffn.PlainRef

open Idealize.ShloMosaic Idealize.ShloMosaic.TcCoe
open Cert.Reference3Ideal Cert.Reference3Ideal.Gen
open scoped BigOperators

/-- The reference's array is the half step over its rows. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21)
          = rows (whole (m ((c.tc : Thread nD τ).loc main_arg0))) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans (funext fun y => ?_), (h c).2⟩) (Value.run m ρ)
  unfold rows half hidden normed whole
  simp only [neg_of]
  pointwise []

end Cert.Ffn.PlainRef

end
-- ==== Proof.Parts.lean ====
/- The kernel's feed-forward half step over two arrays of rows. -/
module

public import proofs.«01_k».proof.Proof.Ffn
public import proofs.«01_k».proof.Proof.Gen.Kernel4Ideal.Value
public import Idealize.ShloMosaic.Lib.Pointwise
public import Idealize.ShloMosaic.Lib.ValueIdx
public import Idealize.ShloMosaic.Lib.Claim
public import Idealize.ShloMosaic.Lib.Pipeline.ValueKit

@[expose] public section

set_option maxRecDepth 16384

noncomputable section

namespace Cert.Ffn.Parts

open Idealize.ShloMosaic Idealize.ShloMosaic.TcCoe
open Cert.Kernel4Ideal Cert.Kernel4Ideal.Gen Cert.Kernel4Ideal.Value
open scoped BigOperators

/-- The block's rows: of the first array where the step asks for it, else of the second. -/
theorem pick_first (i : grid0.Coords) (h : Scalar.cmpi .slt (BitVec.ofNat 32 (i 0).val) 32#32 = 1#1) (a b : Vec Ideal S512x1024 .f32) :
    k0_pay2 i a b = a := by
  unfold k0_pay2
  show Scalar.select (Scalar.cmpi .slt (BitVec.ofNat 32 (i 0).val) 32#32) a b = a
  rw [h]; rfl

theorem pick_second (i : grid0.Coords) (h : Scalar.cmpi .slt (BitVec.ofNat 32 (i 0).val) 32#32 = 0#1) (a b : Vec Ideal S512x1024 .f32) :
    k0_pay2 i a b = b := by
  unfold k0_pay2
  show Scalar.select (Scalar.cmpi .slt (BitVec.ofNat 32 (i 0).val) 32#32) a b = b
  rw [h]; rfl

theorem block_at (i : grid0.Coords) (a b : Vec Ideal S512x1024 .f32) (n : Vec Ideal S1x1024 .f32) (wg wu : Vec Ideal S1024x2816 .bf16) (wd : Vec Ideal S2816x1024 .bf16)
    (y : S512x1024.Idx) :
    k0_pay1 (k0_pay2 i a b) (k0_pay3 i a b n wg wu) (k0_pay4 wd) (constant S512x1024 .f32 0x00000000#32) y
      = half (fun k => k0_pay2 i a b (ix2 (y 0) k)) (fun k => n (ix2 0 k)) (fun k f => wg (ix2 k f)) (fun k f => wu (ix2 k f)) (fun f j => wd (ix2 f j)) (y 1) := by
  unfold half hidden normed k0_pay3
  generalize k0_pay2 i a b = x
  pointwise [k0_pay1, k0_pay4]

theorem idx : ∀ t : Fin cfg0.N, win0_0.index t = ![min t.val 31, 0] ∧ win0_1.index t = ![t.val - 32, 0] ∧ win0_2.index t = ![0, 0] ∧ win0_3.index t = ![0, 0]
    ∧ win0_4.index t = ![0, 1] ∧ win0_5.index t = ![0, 0] ∧ win0_6.index t = ![t.val, 0] :=
  (by decide +kernel : ∀ t : Fin grid0.N, _)

/-- The first array's rows are taken at the first thirty-two steps. -/
theorem early : ∀ t : Fin cfg0.N, t.val < 32 → Scalar.cmpi .slt (BitVec.ofNat 32 (grid0.coords t 0).val) 32#32 = 1#1 :=
  (by decide +kernel : ∀ t : Fin grid0.N, t.val < 32 → Scalar.cmpi .slt (BitVec.ofNat 32 (grid0.coords t 0).val) 32#32 = 1#1)

theorem late : ∀ t : Fin cfg0.N, ¬ t.val < 32 → Scalar.cmpi .slt (BitVec.ofNat 32 (grid0.coords t 0).val) 32#32 = 0#1 :=
  (by decide +kernel : ∀ t : Fin grid0.N, ¬ t.val < 32 → Scalar.cmpi .slt (BitVec.ofNat 32 (grid0.coords t 0).val) 32#32 = 0#1)

variable (m : (ℓ : Loc nD τ sig) → Buf (Elt Ideal) ℓ) (c : Dev nD)

/-- The kernel's array is the half step over its rows. -/
theorem final : (dats m 0 c).arrAt 6 cfg0.N
    = rows (joined (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) := by
  refine (dats m 0 c).arrAt_eq_of_covers 6 _ (by decide +kernel) fun t _ y => ?_
  blk_simp
  rw [after0_6]
  frame_out
  rw [block_at]
  unfold rows joined
  refine half_congr (fun k => ?_) (fun k => ?_) (fun k f => ?_) (fun k f => ?_) (fun f j => ?_) ?_
  · by_cases ht : t.val < 32
    · rw [pick_first _ (early t ht)]
      have e : (((View.whole main_v3).slice (win0_6.rect t)).emb y 0).val = t.val * 512 + (y 0).val := by
        blk_simp [idx t]
      have hy : (y 0).val < 512 := (y 0).isLt
      rw [dif_pos (by omega)]
      blk_point [iblk, V, idx t]
    · rw [pick_second _ (late t ht)]
      have e : (((View.whole main_v3).slice (win0_6.rect t)).emb y 0).val = t.val * 512 + (y 0).val := by
        blk_simp [idx t]
      have hy : (y 0).val < 512 := (y 0).isLt
      rw [dif_neg (by omega)]
      blk_point [iblk, V, idx t]
  · blk_point [iblk, V, idx t]
  · blk_point [iblk, V, idx t]
  · blk_point [iblk, V, idx t]
  · blk_point [iblk, V, idx t]
  · exact Fin.ext (by blk_simp [idx t])

end Cert.Ffn.Parts

end
-- ==== Proof.PartsRef.lean ====
/- The reference's feed-forward half step over the rows of two arrays. -/
module

public import proofs.«01_k».proof.Proof.Ffn
public import proofs.«01_k».proof.Proof.Gen.Reference4Ideal.Run
public import Idealize.ShloMosaic.Lib.Pointwise
public import Idealize.ShloMosaic.Lib.ValueIdx
public import Idealize.ShloMosaic.Lib.Claim

@[expose] public section

set_option maxRecDepth 16384

noncomputable section

namespace Cert.Ffn.PartsRef

open Idealize.ShloMosaic Idealize.ShloMosaic.TcCoe
open Cert.Reference4Ideal Cert.Reference4Ideal.Gen
open scoped BigOperators

/-- The reference's array is the half step over its rows. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22)
          = rows (joined (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans (funext fun y => ?_), (h c).2⟩) (Value.run m ρ)
  unfold rows half hidden normed joined
  simp only [neg_of]
  pointwise [Value.res_main_v22]

end Cert.Ffn.PartsRef

end
-- ==== Proof.Mix.lean ====
/- The kernel's output projection, residual and feed-forward half step. -/
module

public import proofs.«01_k».proof.Proof.Ffn
public import proofs.«01_k».proof.Proof.Gen.Kernel2Ideal.Value
public import Idealize.ShloMosaic.Lib.Pointwise
public import Idealize.ShloMosaic.Lib.ValueIdx
public import Idealize.ShloMosaic.Lib.Claim
public import Idealize.ShloMosaic.Lib.Pipeline.ValueKit

@[expose] public section

set_option maxRecDepth 16384

noncomputable section

namespace Cert.Ffn.Mix

open Idealize.ShloMosaic Idealize.ShloMosaic.TcCoe
open Cert.Kernel2Ideal Cert.Kernel2Ideal.Gen Cert.Kernel2Ideal.Value
open scoped BigOperators

/-- The block's rows after the residual, the projected rows taken from the first array. -/
theorem pick_first (i : grid0.Coords) (h : Scalar.cmpi .slt (BitVec.ofNat 32 (i 0).val) 32#32 = 1#1) (x : Vec Ideal S512x1024 .f32) (a b : Vec Ideal S512x1024 .bf16)
    (w : Vec Ideal S1024x1024 .bf16) (y : S512x1024.Idx) : k0_pay2 i x a b w y = x y + ∑ l : Fin 1024, a (ix2 (y 0) l) * w (ix2 l (y 1)) := by
  unfold k0_pay2
  rw [h, show Scalar.select 1#1 a b = a from rfl]
  pointwise []

/-- The block's rows after the residual, the projected rows taken from the second array. -/
theorem pick_second (i : grid0.Coords) (h : Scalar.cmpi .slt (BitVec.ofNat 32 (i 0).val) 32#32 = 0#1) (x : Vec Ideal S512x1024 .f32) (a b : Vec Ideal S512x1024 .bf16)
    (w : Vec Ideal S1024x1024 .bf16) (y : S512x1024.Idx) : k0_pay2 i x a b w y = x y + ∑ l : Fin 1024, b (ix2 (y 0) l) * w (ix2 l (y 1)) := by
  unfold k0_pay2
  rw [h, show Scalar.select 0#1 a b = b from rfl]
  pointwise []

theorem block_at (i : grid0.Coords) (x : Vec Ideal S512x1024 .f32) (a b : Vec Ideal S512x1024 .bf16) (w : Vec Ideal S1024x1024 .bf16)
    (n : Vec Ideal S1x1024 .f32) (wg wu : Vec Ideal S1024x2816 .bf16) (wd : Vec Ideal S2816x1024 .bf16) (y : S512x1024.Idx) :
    k0_pay1 (k0_pay2 i x a b w) (k0_pay4 i x a b w n wg) (k0_pay5 i x a b w n wu) (k0_pay6 i x a b w n wg) (Scalar.ofBits .f32 0x3F800000#32) wd y
      = half (fun k => k0_pay2 i x a b w (ix2 (y 0) k)) (fun k => n (ix2 0 k)) (fun k f => wg (ix2 k f)) (fun k f => wu (ix2 k f)) (fun f j => wd (ix2 f j)) (y 1) := by
  unfold half hidden normed k0_pay6 k0_pay5 k0_pay4 k0_pay3
  generalize k0_pay2 i x a b w = x
  pointwise [k0_pay1]

theorem idx : ∀ t : Fin cfg0.N, win0_0.index t = ![t.val, 0] ∧ win0_1.index t = ![min t.val 31, 0] ∧ win0_2.index t = ![t.val - 32, 0] ∧ win0_3.index t = ![0, 0]
    ∧ win0_4.index t = ![0, 0] ∧ win0_5.index t = ![0, 0] ∧ win0_6.index t = ![0, 1] ∧ win0_7.index t = ![0, 0] ∧ win0_8.index t = ![t.val, 0] :=
  (by decide +kernel : ∀ t : Fin grid0.N, _)

/-- The first array's rows are taken at the first thirty-two steps. -/
theorem early : ∀ t : Fin cfg0.N, t.val < 32 → Scalar.cmpi .slt (BitVec.ofNat 32 (grid0.coords t 0).val) 32#32 = 1#1 :=
  (by decide +kernel : ∀ t : Fin grid0.N, t.val < 32 → Scalar.cmpi .slt (BitVec.ofNat 32 (grid0.coords t 0).val) 32#32 = 1#1)

theorem late : ∀ t : Fin cfg0.N, ¬ t.val < 32 → Scalar.cmpi .slt (BitVec.ofNat 32 (grid0.coords t 0).val) 32#32 = 0#1 :=
  (by decide +kernel : ∀ t : Fin grid0.N, ¬ t.val < 32 → Scalar.cmpi .slt (BitVec.ofNat 32 (grid0.coords t 0).val) 32#32 = 0#1)

variable (m : (ℓ : Loc nD τ sig) → Buf (Elt Ideal) ℓ) (c : Dev nD)

/-- The kernel's array is the half step over its rows. -/
theorem final : (dats m 0 c).arrAt 8 cfg0.N
    = rows (mixed (m ((c.tc : Thread nD τ).loc main_arg0)) (m ((c.tc : Thread nD τ).loc main_arg1)) (m ((c.tc : Thread nD τ).loc main_arg2)) (m ((c.tc : Thread nD τ).loc main_arg6))) (m ((c.tc : Thread nD τ).loc main_arg3)) (m ((c.tc : Thread nD τ).loc main_arg4)) (m ((c.tc : Thread nD τ).loc main_arg5)) := by
  refine (dats m 0 c).arrAt_eq_of_covers 8 _ (by decide +kernel) fun t _ y => ?_
  blk_simp
  rw [after0_8]
  frame_out
  rw [block_at]
  unfold rows mixed joined
  refine half_congr (fun k => ?_) (fun k => ?_) (fun k f => ?_) (fun k f => ?_) (fun f j => ?_) ?_
  · by_cases ht : t.val < 32
    · rw [pick_first _ (early t ht)]
      refine congrArg₂ (· + ·) ?_ (Finset.sum_congr rfl fun l _ => congrArg₂ (· * ·) ?_ ?_)
      · blk_point [iblk, V, idx t]
      · have e : (((View.whole main_v4).slice (win0_8.rect t)).emb y 0).val = t.val * 512 + (y 0).val := by
          blk_simp [idx t]
        have hy : (y 0).val < 512 := (y 0).isLt
        rw [dif_pos (by omega)]
        blk_point [iblk, V, idx t]
      · blk_point [iblk, V, idx t]
    · rw [pick_second _ (late t ht)]
      refine congrArg₂ (· + ·) ?_ (Finset.sum_congr rfl fun l _ => congrArg₂ (· * ·) ?_ ?_)
      · blk_point [iblk, V, idx t]
      · have e : (((View.whole main_v4).slice (win0_8.rect t)).emb y 0).val = t.val * 512 + (y 0).val := by
          blk_simp [idx t]
        have hy : (y 0).val < 512 := (y 0).isLt
        rw [dif_neg (by omega)]
        blk_point [iblk, V, idx t]
      · blk_point [iblk, V, idx t]
  · blk_point [iblk, V, idx t]
  · blk_point [iblk, V, idx t]
  · blk_point [iblk, V, idx t]
  · blk_point [iblk, V, idx t]
  · exact Fin.ext (by blk_simp [idx t])

end Cert.Ffn.Mix

end
-- ==== Proof.MixRef.lean ====
/- The reference's output projection, residual and feed-forward half step. -/
module

public import proofs.«01_k».proof.Proof.Ffn
public import proofs.«01_k».proof.Proof.Gen.Reference2Ideal.Run
public import Idealize.ShloMosaic.Lib.Pointwise
public import Idealize.ShloMosaic.Lib.ValueIdx
public import Idealize.ShloMosaic.Lib.Claim

@[expose] public section

set_option maxRecDepth 16384

noncomputable section

namespace Cert.Ffn.MixRef

open Idealize.ShloMosaic Idealize.ShloMosaic.TcCoe
open Cert.Reference2Ideal Cert.Reference2Ideal.Gen
open scoped BigOperators

/-- The reference's array is the half step over its rows. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v25)
          = rows (mixed (m ((c.tc : Thread nD τ).loc main_arg0)) (m ((c.tc : Thread nD τ).loc main_arg1)) (m ((c.tc : Thread nD τ).loc main_arg2)) (m ((c.tc : Thread nD τ).loc main_arg6))) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans (funext fun y => ?_), (h c).2⟩) (Value.run m ρ)
  unfold rows half hidden normed mixed joined
  simp only [neg_of]
  pointwise [Value.res_main_v25]

end Cert.Ffn.MixRef

end
-- ==== Proof.RefValue.lean ====
/- What the reference computes for a chunk before its loop, as the same functions of the rows it reads. -/
module

public import proofs.«01_k».proof.Proof.Block
public import proofs.«01_k».proof.Proof.Running

@[expose] public section

set_option maxRecDepth 16384

noncomputable section

namespace Cert.Gla

open Idealize.ShloMosaic Idealize.ShloMosaic.TcCoe
open Cert.ReferenceIdeal Cert.ReferenceIdeal.Gen Cert.ReferenceIdeal.Step
open scoped BigOperators

/-- Row `i` of chunk `n` of sequence `g`. -/
def row (g : Fin 2) (n : Fin 128) (i : Fin 64) : Fin 16384 := ⟨8192 * g + 64 * n + i, by omega⟩

variable (a0 : Vec Ideal S16384x3200 .f32) (a1 : Vec Ideal S16x512 .f32) (a2 : Vec Ideal S512 .f32) (a3 : Vec Ideal S256 .f32)

/-- The blocks of chunk `n`, read off the arguments. -/
def argIn (n : Fin 128) : In where
  q := fun y => a0 (ix2 (row (y 0) n (y 1)) ⟨(y 2).val, by have h : (y 2).val < 512 := (y 2).isLt; omega⟩)
  k := fun y => a0 (ix2 (row (y 0) n (y 1)) ⟨512 + (y 2).val, by have h : (y 2).val < 512 := (y 2).isLt; omega⟩)
  v := fun y => a0 (ix2 (row (y 0) n (y 1)) ⟨1024 + (y 2).val, by have h : (y 2).val < 1024 := (y 2).isLt; omega⟩)
  r := fun y => a0 (ix2 (row (y 0) n (y 1)) ⟨2048 + (y 2).val, by have h : (y 2).val < 1024 := (y 2).isLt; omega⟩)
  gl := fun y => a0 (ix2 (row (y 0) n (y 1)) ⟨3072 + (y 2).val, by have h : (y 2).val < 128 := (y 2).isLt; omega⟩)
  w := fun y => if h : (y 0).val < 16 then a1 (ix2 ⟨(y 0).val, h⟩ (y 1)) else 0
  b := fun y => a2 (ix1 (y 1))
  n := fun y => a3 (ix1 (y 1))

variable (n : Fin 128) (g : Fin 2) (h : Fin 4) (i : Fin 64)

theorem row_eq : row g n i = ⟨g.val * 8192 + (64 * n.val + i.val), by omega⟩ := Fin.ext (by show 8192 * g.val + 64 * n.val + i.val = _; dsimp only; omega)

theorem pre_ref (c : Fin 512) : A_main_v8 a0 a1 a2 (ix3 g ⟨64 * n + i, by omega⟩ c) = pre (argIn a0 a1 a2 a3 n) g i c := by
  unfold pre argIn
  pointwise [A_main_v8, A_main_v7, A_main_v6, A_main_v5, A_main_v4, A_main_v0]
  simp only [mul_zero, Finset.sum_const_zero, add_zero, row_eq]

theorem lg_ref (y : S2x8192x512.Idx) : A_main_v13 a0 a1 a2 y = lg (A_main_v8 a0 a1 a2 y) := by
  rw [← lg_eq]
  pointwise [A_main_v13, K_main_v12, K_main_cst, A_main_v11, A_main_v10, A_main_call0_v11, A_main_call0_v10, A_main_call0_v9, A_main_call0_v8, A_main_call0_v7, A_main_call0_v6, A_main_call0_v4, A_main_call0_v3, A_main_call0_v1, A_main_v9, K_main_call0_v0, K_main_call0_v2, K_main_call0_v5, K_main_call0_cst]
  rw [if_neg (not_not_intro rfl)]

theorem v32_ref (d : Fin 128) : A_main_v32 a0 a1 a2 (ix5 n g h i d) = lg (pre (argIn a0 a1 a2 a3 n) g i (kc h d)) := by
  rw [← pre_ref, ← lg_ref]
  pointwise [A_main_v32, A_main_v31, A_main_v30, A_main_v20]
  exact congrArg₂ (fun a b => A_main_v13 a0 a1 a2 (ix3 g a b)) (Fin.ext (by dsimp only; omega)) (Fin.ext (by show _ = 128 * h.val + d.val; dsimp only; omega))

theorem cum_ref (d : Fin 128) : A_main_v33 a0 a1 a2 (ix5 n g h i d) = cum (argIn a0 a1 a2 a3 n) g i (kc h d) := by
  unfold A_main_v33
  refine (running _ _ (by pointwise [K_main_call1_call0_v0, K_main_call1_call0_cst]) n g h i d).trans ?_
  simp only [v32_ref a0 a1 a2 a3]
  rfl

theorem q_ref (d : Fin 128) : A_main_v23 a0 a1 a2 (ix5 n g h i d) = (argIn a0 a1 a2 a3 n).q (ix3 g i (kc h d)) * Ideal.ofBits .f32 0x3DB504F3#32 := by
  unfold argIn
  pointwise [A_main_v23, A_main_v22, A_main_v21, A_main_v17, A_main_v15, A_main_v1, A_main_v0, K_main_v16, K_main_cst_1]
  refine congrArg (· * _) (congrArg₂ (fun a b => a0 (ix2 a b)) (Fin.ext ?_) (Fin.ext ?_))
  · show _ = 8192 * g.val + 64 * n.val + i.val; dsimp only; omega
  · show _ = 128 * h.val + d.val; dsimp only; omega

theorem k_ref (d : Fin 128) : A_main_v26 a0 a1 a2 (ix5 n g h i d) = (argIn a0 a1 a2 a3 n).k (ix3 g i (kc h d)) := by
  unfold argIn
  pointwise [A_main_v26, A_main_v25, A_main_v24, A_main_v18, A_main_v2, A_main_v0]
  refine congrArg₂ (fun a b => a0 (ix2 a b)) (Fin.ext ?_) (Fin.ext ?_)
  · show _ = 8192 * g.val + 64 * n.val + i.val; dsimp only; omega
  · show _ = 512 + (128 * h.val + d.val); dsimp only; omega

theorem v_ref (v : Fin 256) : A_main_v29 a0 a1 a2 (ix5 n g h i v) = (argIn a0 a1 a2 a3 n).v (ix3 g i (vc h v)) := by
  unfold argIn
  pointwise [A_main_v29, A_main_v28, A_main_v27, A_main_v19, A_main_v3, A_main_v0]
  refine congrArg₂ (fun a b => a0 (ix2 a b)) (Fin.ext ?_) (Fin.ext ?_)
  · show _ = 8192 * g.val + 64 * n.val + i.val; dsimp only; omega
  · show _ = 1024 + (256 * h.val + v.val); dsimp only; omega

theorem qe_ref (d : Fin 128) : A_main_v36 a0 a1 a2 (ix5 n g h i d) = qe (argIn a0 a1 a2 a3 n) g i (kc h d) := by
  pointwise [A_main_v36, A_main_v35]
  rw [q_ref a0 a1 a2 a3, cum_ref a0 a1 a2 a3]
  rfl

theorem ke_ref (d : Fin 128) : A_main_v39 a0 a1 a2 (ix5 n g h i d) = ke (argIn a0 a1 a2 a3 n) g i (kc h d) := by
  pointwise [A_main_v39, A_main_v38, A_main_v37]
  rw [k_ref a0 a1 a2 a3, cum_ref a0 a1 a2 a3]
  unfold ke
  rw [zero_sub]

theorem kl_ref (d : Fin 128) : A_main_v43 a0 a1 a2 (ix5 n g h i d) = kl (argIn a0 a1 a2 a3 n) g i (kc h d) := by
  pointwise [A_main_v43, A_main_v42, A_main_v41, A_main_v40, A_main_v34]
  rw [k_ref a0 a1 a2 a3, cum_ref a0 a1 a2 a3, cum_ref a0 a1 a2 a3]
  rfl

theorem dl_ref (d : Fin 128) : A_main_v51 a0 a1 a2 (ix4 n g h d) = dl (argIn a0 a1 a2 a3 n) g (kc h d) := by
  pointwise [A_main_v51, A_main_v50, A_main_v34]
  rw [cum_ref a0 a1 a2 a3]
  rfl

theorem att_ref (j : Fin 64) : A_main_v47 a0 a1 a2 (ix5 n g h i j) = att (argIn a0 a1 a2 a3 n) g h i j := by
  pointwise [A_main_v47, A_main_v46, K_main_call3_v1, K_main_call3_v2, K_main_call3_v0, K_main_cst_2, K_main_v45, K_main_v44, K_main_c, K_main_call2_v4, K_main_call2_v3, K_main_call2_v2, K_main_call2_v1, K_main_call2_c, K_main_call2_v0, K_main_call2_v5, K_main_call2_c_0]
  simp only [qe_ref a0 a1 a2 a3, ke_ref a0 a1 a2 a3]
  rw [show IntOp.addi (BitVec.ofNat 32 i.val) 0#32 = BitVec.ofNat 32 i.val from BitVec.add_zero _, sge_iff]
  unfold att
  split
  · rfl
  · show (constant S_ .f32 0#32 : FVec Ideal S_ .f32) ix0 = 0
    pointwise []

theorem oi_ref (v : Fin 256) : A_main_v48 a0 a1 a2 (ix5 n g h i v)
    = ∑ j : Fin 64, att (argIn a0 a1 a2 a3 n) g h i j * (argIn a0 a1 a2 a3 n).v (ix3 g j (vc h v)) := by
  pointwise [A_main_v48]
  simp only [att_ref a0 a1 a2 a3, v_ref a0 a1 a2 a3]

theorem up_ref (d : Fin 128) (v : Fin 256) : A_main_v49 a0 a1 a2 (ix5 n g h d v)
    = ∑ j : Fin 64, kl (argIn a0 a1 a2 a3 n) g j (kc h d) * (argIn a0 a1 a2 a3 n).v (ix3 g j (vc h v)) := by
  pointwise [A_main_v49]
  simp only [kl_ref a0 a1 a2 a3, v_ref a0 a1 a2 a3]

end Cert.Gla

end
-- ==== Proof.RefRun.lean ====
/- The reference's results as the last state of its loop over the chunks. -/
module

public import proofs.«01_k».proof.Proof.Gen.ReferenceIdeal.Run
public import proofs.«01_k».proof.Proof.Gen.ReferenceIdeal.Step

@[expose] public section

noncomputable section

namespace Cert.Gla.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The buffers hold the state `s` and the chunk's number `j`. -/
structure Has (V : Valuation τ sig (Elt F)) (s : State F) (j : ℕ) : Prop where
  st : V (Proc.devRef .tc main_v53_5) = s.main_v53_5
  out : V (Proc.devRef .tc main_v53_6) = s.main_v53_6
  dl : V (Proc.devRef .tc main_v53_0) = s.main_v53_0
  up : V (Proc.devRef .tc main_v53_1) = s.main_v53_1
  qe : V (Proc.devRef .tc main_v53_2) = s.main_v53_2
  oi : V (Proc.devRef .tc main_v53_3) = s.main_v53_3
  num : V (Proc.devRef .tc main_v53_4) = constantI S_ 32 (BitVec.ofNat 32 j)

variable {V : Valuation τ sig (Elt F)} {s : State F} {j : ℕ}

set_option maxRecDepth 16384 in
theorem state_step (h : Has V s j) : step_main_v53_5 V = (step j s).main_v53_5 := by
  rw [Step.step_main_v53_5]
  unfold step_main_v53_5 Step.b26 Step.b25 Step.b24 Step.b23 Step.b4 Step.b3 Step.b10 Step.b9
  rw [← h.st, ← h.dl, ← h.up, ← h.num]
  rfl

set_option maxRecDepth 16384 in
theorem out_step (h : Has V s j) : step_main_v53_6 V = (step j s).main_v53_6 := by
  rw [Step.step_main_v53_6]
  unfold step_main_v53_6 Step.b34 Step.b29 Step.b28 Step.b27 Step.b22 Step.b21 Step.b16 Step.b15
  rw [← h.st, ← h.out, ← h.qe, ← h.oi, ← h.num]
  rfl

theorem num_step (h : Has V s j) : step_main_v53_4 V = constantI S_ 32 (BitVec.ofNat 32 (j + 1)) := by
  unfold step_main_v53_4
  rw [h.num]
  funext i
  change BitVec.ofNat 32 j + 1#32 = BitVec.ofNat 32 (j + 1)
  simp only [BitVec.ofNat_add]

theorem has_step (h : Has V s j) : Has (STEP V) (step j s) (j + 1) :=
  ⟨(STEP_main_v53_5 V).trans (state_step h), (STEP_main_v53_6 V).trans (out_step h), (STEP_main_v53_0 V).trans h.dl,
    (STEP_main_v53_1 V).trans h.up, (STEP_main_v53_2 V).trans h.qe, (STEP_main_v53_3 V).trans h.oi,
    (STEP_main_v53_4 V).trans (num_step h)⟩

variable (m : (ℓ : Loc nD τ sig) → Buf (Elt F) ℓ) (c : Dev nD)

/-- The state after `n` chunks. -/
def chunks : ℕ → State F
  | 0 => init (m ((c.tc : Thread nD τ).loc main_arg0)) (m ((c.tc : Thread nD τ).loc main_arg1)) (m ((c.tc : Thread nD τ).loc main_arg2))
  | n + 1 => step n (chunks n)

set_option maxRecDepth 65536 in
set_option maxHeartbeats 600000 in
theorem has_first : Has (entryContents preI m c) (chunks m c 0) 0 := by
  constructor <;> (simp only [entryContents, afterL_cons, afterL_nil]; after_reads_simp) <;> rfl

theorem has_chunks : ∀ n, Has (STEP^[n] (entryContents preI m c)) (chunks m c n) n
  | 0 => has_first m c
  | n + 1 => by
    rw [Function.iterate_succ_apply']
    exact has_step (has_chunks n)

set_option maxRecDepth 16384 in
theorem tail_eq (h : Has V s j) : out_main_v75 V = Step.R_main_v75 s (V (Proc.devRef .tc main_arg0)) (V (Proc.devRef .tc main_arg3)) := by
  unfold out_main_v75 Step.R_main_v75
  rw [← h.out]
  rfl

/-- The reference ends with its two results at those of the state after the last chunk. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v75)
          = Step.R_main_v75 (chunks m c 128) (m ((c.tc : Thread nD τ).loc main_arg0)) (m ((c.tc : Thread nD τ).loc main_arg3))
      ∧ r.2.mem ((c.tc : Thread nD τ).loc main_v53_5) = (chunks m c 128).main_v53_5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  obtain ⟨ho, hs, h0, h1, h2, h3⟩ := h c
  have hk := has_chunks m c 128
  refine ⟨ho.trans ?_, hs.trans hk.st, h0, h1, h2, h3⟩
  rw [tail_eq hk, iter_main_arg0 m c 128, iter_main_arg3 m c 128]

end Cert.Gla.RefRun

end
-- ==== Proof.RefLoop.lean ====
/- The reference's loop over the chunks: the state before each chunk and the outputs stored so far. -/
module

public import proofs.«01_k».proof.Proof.RefValue
public import proofs.«01_k».proof.Proof.RefRun
public import proofs.«01_k».proof.Proof.Points
public import Idealize.ShloMosaic.Lib.DynamicIndex

@[expose] public section

set_option maxRecDepth 16384

noncomputable section

namespace Cert.Gla

open Idealize.ShloMosaic Idealize.ShloMosaic.TcCoe
open Cert.ReferenceIdeal Cert.ReferenceIdeal.Gen Cert.ReferenceIdeal.Step
open scoped BigOperators

theorem start_toInt (n : Fin 128) : (BitVec.ofNat 32 n.val).toInt = (n.val : ℤ) := by
  revert n
  decide +kernel

theorem start4 (n : Fin 128) (a : Fin 4) :
    (((![constantI S_ 32 (BitVec.ofNat 32 n.val), constantI S_ 32 0#32, constantI S_ 32 0#32, constantI S_ 32 0#32] : Fin 4 → IVec S_ 32) a)
      (Shape.Idx.first h_S_)).toInt = (((![n.val, 0, 0, 0] : Fin 4 → ℕ) a : ℕ) : ℤ) := by
  match a with
  | ⟨0, _⟩ => exact start_toInt n
  | ⟨1, _⟩ => rfl
  | ⟨2, _⟩ => rfl
  | ⟨3, _⟩ => rfl

theorem start5 (n : Fin 128) (a : Fin 5) :
    (((![constantI S_ 32 (BitVec.ofNat 32 n.val), constantI S_ 32 0#32, constantI S_ 32 0#32, constantI S_ 32 0#32, constantI S_ 32 0#32] :
      Fin 5 → IVec S_ 32) a) (Shape.Idx.first h_S_)).toInt = (((![n.val, 0, 0, 0, 0] : Fin 5 → ℕ) a : ℕ) : ℤ) := by
  match a with
  | ⟨0, _⟩ => exact start_toInt n
  | ⟨1, _⟩ => rfl
  | ⟨2, _⟩ => rfl
  | ⟨3, _⟩ => rfl
  | ⟨4, _⟩ => rfl

theorem fits4 (n : Fin 128) : S128x2x4x128.Slices ![n.val, 0, 0, 0] S1x2x4x128 := ⟨rfl, fun a => by
  match a with
  | ⟨0, _⟩ => show n.val + 1 ≤ 128; omega
  | ⟨1, _⟩ => show 0 + 2 ≤ 2; omega
  | ⟨2, _⟩ => show 0 + 4 ≤ 4; omega
  | ⟨3, _⟩ => show 0 + 128 ≤ 128; omega⟩

theorem fits5 (n : Fin 128) (p q : ℕ) : (⟨5, ![128, 2, 4, p, q]⟩ : Shape).Slices ![n.val, 0, 0, 0, 0] ⟨5, ![1, 2, 4, p, q]⟩ := ⟨rfl, fun a => by
  match a with
  | ⟨0, _⟩ => show n.val + 1 ≤ 128; omega
  | ⟨1, _⟩ => show 0 + 2 ≤ 2; omega
  | ⟨2, _⟩ => show 0 + 4 ≤ 4; omega
  | ⟨3, _⟩ => show 0 + p ≤ p; omega
  | ⟨4, _⟩ => show 0 + q ≤ q; omega⟩

theorem clamp5 (n : Fin 128) (a : Fin 5) :
    (min (max (((![n.val, 0, 0, 0, 0] : Fin 5 → ℕ) a : ℕ) : ℤ) 0)
      (((![128, 2, 4, 64, 256] : Fin 5 → ℕ) a - (![1, 2, 4, 64, 256] : Fin 5 → ℕ) a : ℕ) : ℤ)).toNat = (![n.val, 0, 0, 0, 0] : Fin 5 → ℕ) a := by
  match a with
  | ⟨0, _⟩ => show (min (max (n.val : ℤ) 0) ((128 - 1 : ℕ) : ℤ)).toNat = n.val; omega
  | ⟨1, _⟩ => rfl
  | ⟨2, _⟩ => rfl
  | ⟨3, _⟩ => rfl
  | ⟨4, _⟩ => rfl

variable (n : Fin 128) (s : State Ideal) (g : Fin 2) (h : Fin 4)

theorem step_state (d : Fin 128) (v : Fin 256) : (step n.val s).main_v53_5 (ix4 g h d v)
    = s.main_v53_0 (ix4 n g h d) * s.main_v53_5 (ix4 g h d v) + s.main_v53_1 (ix5 n g h d v) := by
  rw [step_main_v53_5]
  unfold b26 b25 b24 b23 b4 b3 b10 b9 b0 b1 b2 b5 b6 b7 b8
  rw [Host.dynamicSlice_eq_extractStridedSlice _ _ _ ![n.val, 0, 0, 0] _ (fits4 n) (start4 n),
    Host.dynamicSlice_eq_extractStridedSlice _ _ _ ![n.val, 0, 0, 0, 0] _ (fits5 n 128 256) (start5 n)]
  pointwise []

theorem step_out (k : Fin 128) (i : Fin 64) (v : Fin 256) : (step n.val s).main_v53_6 (ix5 k g h i v)
    = if k = n then s.main_v53_3 (ix5 n g h i v) + ∑ d : Fin 128, s.main_v53_2 (ix5 n g h i d) * s.main_v53_5 (ix4 g h d v)
      else s.main_v53_6 (ix5 k g h i v) := by
  rw [step_main_v53_6]
  unfold b34 b29 b28 b27 b22 b21 b16 b15 b11 b12 b13 b14 b17 b18 b19 b20 b30 b31 b32 b33
  rw [Host.dynamicSlice_eq_extractStridedSlice S1x2x4x64x256 _ _ ![n.val, 0, 0, 0, 0] _ (fits5 n 64 256) (start5 n),
    Host.dynamicSlice_eq_extractStridedSlice S1x2x4x64x128 _ _ ![n.val, 0, 0, 0, 0] _ (fits5 n 64 128) (start5 n),
    Host.dynamicUpdateSlice_eq_updateSlice _ _ _ _ ![n.val, 0, 0, 0, 0] (fun a => by rw [start5 n a]; exact clamp5 n a) (fits5 n 64 256)]
  pointwise []
  by_cases hk : k = n
  · rw [if_pos hk, dif_pos (by subst hk; omega)]
  · rw [if_neg hk, dif_neg (fun q => hk (Fin.ext (by omega)))]

end Cert.Gla

end
-- ==== Proof.RefEnd.lean ====
/- The reference against the block's formulas, over every chunk. -/
module

public import proofs.«01_k».proof.Proof.RefLoop
public import proofs.«01_k».proof.Proof.RefRun
public import proofs.«01_k».proof.Proof.Points
public import Idealize.ShloMosaic.Lib.DynamicIndex

@[expose] public section

set_option maxRecDepth 16384

noncomputable section

namespace Cert.Gla

open Idealize.ShloMosaic Idealize.ShloMosaic.TcCoe
open Cert.ReferenceIdeal Cert.ReferenceIdeal.Gen Cert.ReferenceIdeal.Step
open scoped BigOperators

variable (g : Fin 2) (h : Fin 4)
variable (m : (ℓ : Loc nD τ sig) → Buf (Elt Ideal) ℓ) (c : Dev nD)

/-- The state before chunk `n`, over the rows `B` of every chunk. -/
def stR (B : Fin 128 → In) : ℕ → Vec Ideal Cert.KernelIdeal.S8x256x128 .f32
  | 0 => fun _ => 0
  | n + 1 => nsV (B ⟨n % 128, Nat.mod_lt _ (by decide)⟩) (stR B n)

theorem nsV_slot (I : In) (S : Vec Ideal Cert.KernelIdeal.S8x256x128 .f32) (v : Fin 256) (d : Fin 128) :
    nsV I S (ix3 (slot g h) v d) = ns I S g h v d :=
  have e1 : (⟨(4 * g.val + h.val) / 4, by omega⟩ : Fin 2) = g := Fin.ext (by show (4 * g.val + h.val) / 4 = _; omega)
  have e2 : (⟨(4 * g.val + h.val) % 4, Nat.mod_lt _ (by decide)⟩ : Fin 4) = h := Fin.ext (by show (4 * g.val + h.val) % 4 = _; omega)
  (congrArg₂ (fun a b => ns I S a b v d) e1 e2 : ns I S ⟨(4 * g.val + h.val) / 4, _⟩ ⟨(4 * g.val + h.val) % 4, _⟩ v d = _)

abbrev A0 : Vec Ideal S16384x3200 .f32 := m ((c.tc : Thread nD τ).loc main_arg0)
abbrev A1 : Vec Ideal S16x512 .f32 := m ((c.tc : Thread nD τ).loc main_arg1)
abbrev A2 : Vec Ideal S512 .f32 := m ((c.tc : Thread nD τ).loc main_arg2)
abbrev A3 : Vec Ideal S256 .f32 := m ((c.tc : Thread nD τ).loc main_arg3)

/-- The rows of every chunk, from the arguments. -/
def rowsR : Fin 128 → In := argIn (A0 m c) (A1 m c) (A2 m c) (A3 m c)

/-- What the loop holds before chunk `n`. -/
structure At (s : State Ideal) (n : ℕ) : Prop where
  dl : s.main_v53_0 = A_main_v51 (A0 m c) (A1 m c) (A2 m c)
  up : s.main_v53_1 = A_main_v49 (A0 m c) (A1 m c) (A2 m c)
  qe : s.main_v53_2 = A_main_v36 (A0 m c) (A1 m c) (A2 m c)
  oi : s.main_v53_3 = A_main_v48 (A0 m c) (A1 m c) (A2 m c)
  st : ∀ g h d v, s.main_v53_5 (ix4 g h d v) = stR (rowsR m c) n (ix3 (slot g h) v d)
  out : ∀ (k : Fin 128) g h i v, k.val < n → s.main_v53_6 (ix5 k g h i v) = oo (rowsR m c k) (stR (rowsR m c) k) g h i v

theorem at_first : At m c (RefRun.chunks m c 0) 0 where
  dl := rfl
  up := rfl
  qe := rfl
  oi := rfl
  st g h d v := by
    show K_main_v14 (F := Ideal) (ix4 g h d v) = 0
    pointwise [K_main_v14, K_main_cst_0]
  out k g h i v hk := absurd hk (Nat.not_lt_zero _)

theorem at_step (n : Fin 128) (s : State Ideal) (hs : At m c s n) : At m c (step n.val s) (n.val + 1) where
  dl := hs.dl
  up := hs.up
  qe := hs.qe
  oi := hs.oi
  st g h d v := by
    rw [step_state, hs.dl, hs.up, hs.st, dl_ref _ _ _ (A3 m c), up_ref _ _ _ (A3 m c)]
    show _ = nsV (rowsR m c ⟨n.val % 128, _⟩) (stR (rowsR m c) n.val) (ix3 (slot g h) v d)
    rw [nsV_slot]
    unfold ns
    have e : (⟨n.val % 128, Nat.mod_lt _ (by decide)⟩ : Fin 128) = n := Fin.ext (Nat.mod_eq_of_lt n.isLt)
    rw [e]
    refine congrArg₂ (· + ·) (mul_comm _ _) (Finset.sum_congr rfl fun j _ => mul_comm _ _)
  out k g h i v hk := by
    rw [step_out]
    split
    · next e =>
      subst e
      rw [hs.oi, hs.qe, oi_ref _ _ _ (A3 m c)]
      unfold oo
      refine congrArg₂ (· + ·) rfl (Finset.sum_congr rfl fun d _ => ?_)
      rw [qe_ref _ _ _ (A3 m c), hs.st]
      rfl
    · next e => exact hs.out k g h i v (by have : k.val ≠ n.val := fun q => e (Fin.ext q); omega)

theorem at_chunk : ∀ n : ℕ, n ≤ 128 → At m c (RefRun.chunks m c n) n
  | 0, _ => at_first m c
  | n + 1, h => at_step m c ⟨n, h⟩ _ (at_chunk n (Nat.le_of_succ_le h))

/-- The reference's final state. -/
theorem state_ref {s : State Ideal} (hs : At m c s 128) (g : Fin 2) (h : Fin 4) (d : Fin 128) (v : Fin 256) :
    s.main_v53_5 (ix4 g h d v) = ns (rowsR m c 127) (stR (rowsR m c) 127) g h v d :=
  (hs.st g h d v).trans (nsV_slot g h (rowsR m c 127) _ v d)

/-- The reference's output. -/
theorem out_ref {s : State Ideal} (hs : At m c s 128) (n : Fin 128) (g : Fin 2) (h : Fin 4) (i : Fin 64) (v : Fin 256) :
    R_main_v75 s (A0 m c) (A3 m c) (ix3 g ⟨64 * n + i, by omega⟩ ⟨256 * h + v, by omega⟩)
      = out (rowsR m c n) (stR (rowsR m c) n) g h i v := by
  have ho : ∀ w, s.main_v53_6 (ix5 n g h i w) = oo (rowsR m c n) (stR (rowsR m c) n) g h i w :=
    fun w => hs.out n g h i w n.isLt
  unfold out
  simp only [← ho]
  clear ho hs
  unfold rowsR argIn
  generalize A0 m c = a0
  generalize A3 m c = a3
  have er : ∀ q, (⟨g.val * 8192 + (64 * n.val + i.val), q⟩ : Fin 16384) = row g n i := fun q => Fin.ext (by show g.val * 8192 + (64 * n.val + i.val) = 8192 * g.val + 64 * n.val + i.val; omega)
  pointwise [R_main_v75]
  rw [er, zero_sub]
  rfl

end Cert.Gla

end
-- ==== Proof.Fold.lean ====
/- The state carried over the grid's points, and what the kernel's two arrays hold at its end. -/
module

public import proofs.«01_k».proof.Proof.Points

@[expose] public section

set_option maxRecDepth 16384

noncomputable section

namespace Cert.Gla

open Idealize.ShloMosaic Idealize.ShloMosaic.TcCoe
open Cert.KernelIdeal Cert.KernelIdeal.Gen Cert.KernelIdeal.Value
open scoped BigOperators

variable (m : (ℓ : Loc nD τ sig) → Buf (Elt Ideal) ℓ) (c : Dev nD)

theorem lt_N (n : ℕ) (h : n < 128) : n < cfg0.N := lt_of_lt_of_eq h N_0.symm

/-- The blocks of chunk `n`. -/
def blkN (n : ℕ) : In := blk m c ⟨n % 128, lt_N _ (Nat.mod_lt _ (by decide))⟩

/-- The state before chunk `n`. -/
def stt : ℕ → Vec Ideal S8x256x128 .f32
  | 0 => fun _ => 0
  | n + 1 => nsV (blkN m c n) (stt n)

theorem blkN_eq (n : ℕ) (hn : n < cfg0.N) : blk m c ⟨n, hn⟩ = blkN m c n := by
  have h : n % 128 = n := Nat.mod_eq_of_lt (lt_of_lt_of_eq hn N_0)
  unfold blkN
  congr 1
  exact Fin.ext h.symm

theorem outs_at : ∀ (n : ℕ) (hn : n < cfg0.N),
    (outsAt0 m c n hn).1 = outV (blkN m c n) (stt m c n) ∧ (outsAt0 m c n hn).2.2 = stt m c (n + 1)
  | 0, hn => by
    rw [outsAt0_zero]
    exact ⟨(outA m c ⟨0, hn⟩ _ rfl (by dsimp only; omega)).trans (by rw [blkN_eq]; rfl), (nsA m c ⟨0, hn⟩ _ rfl (by dsimp only; omega)).trans (by rw [blkN_eq]; rfl)⟩
  | n + 1, hn => by
    have ih := (outs_at n (Nat.lt_of_succ_lt hn)).2
    have hN := lt_of_lt_of_eq hn N_0
    rw [outsAt0_succ]
    by_cases h : n + 1 = 127
    · refine ⟨(outC m c ⟨n + 1, hn⟩ _ (by dsimp only; omega) (by dsimp only; omega)).trans ?_,
        (nsC m c ⟨n + 1, hn⟩ _ (by dsimp only; omega) (by dsimp only; omega)).trans ?_⟩ <;> rw [ih, blkN_eq] <;> rfl
    · refine ⟨(outB m c ⟨n + 1, hn⟩ _ (by dsimp only; omega) (by dsimp only; omega)).trans ?_,
        (nsB m c ⟨n + 1, hn⟩ _ (by dsimp only; omega) (by dsimp only; omega)).trans ?_⟩ <;> rw [ih, blkN_eq] <;> rfl

theorem fin_at (hn : 127 < cfg0.N) : (outsAt0 m c 127 hn).2.1 = finV (blkN m c 127) (stt m c 127) := by
  have ih := (outs_at m c 126 (Nat.lt_of_succ_lt hn)).2
  rw [outsAt0_succ]
  refine (finC m c ⟨127, hn⟩ _ (by dsimp only; omega) (by dsimp only)).trans ?_
  rw [ih, blkN_eq]

/-- The output array: row `64 n + i` of sequence `g` is row `i` of chunk `n`. -/
theorem G8_at (g : Fin 2) (n : Fin 128) (i : Fin 64) (h : Fin 4) (v : Fin 256) :
    G8 m c (ix3 g ⟨64 * n + i, by omega⟩ ⟨256 * h + v, by omega⟩) = out (blkN m c n) (stt m c n) g h i v := by
  have hp : pt8Of (ix3 g ⟨64 * n + i, by omega⟩ ⟨256 * h + v, by omega⟩) = n.val := by
    show 128 * (g.val / 2 - 0) + 1 * ((64 * n.val + i.val) / 64 - 0) + 1 * ((256 * h.val + v.val) / 1024 - 0) = _
    omega
  have hl : loc8Of (ix3 g ⟨64 * n + i, by omega⟩ ⟨256 * h + v, by omega⟩) = ix3 g i ⟨256 * h + v, by omega⟩ := by
    funext a; apply Fin.ext
    match a with
    | ⟨0, _⟩ => show g.val % 2 = g.val; omega
    | ⟨1, _⟩ => show (64 * n.val + i.val) % 64 = i.val; omega
    | ⟨2, _⟩ => show (256 * h.val + v.val) % 1024 = 256 * h.val + v.val; omega
  unfold G8
  rw [dif_pos (by rw [hp]; exact lt_N _ n.isLt), hl, ← outsAt0_sweep m c _ (by rw [hp]; exact lt_N _ n.isLt), (outs_at m c _ _).1, hp]
  unfold outV
  have e1 : (⟨(256 * h.val + v.val) / 256, by omega⟩ : Fin 4) = h := Fin.ext (by show (256 * h.val + v.val) / 256 = _; omega)
  have e2 : (⟨(256 * h.val + v.val) % 256, Nat.mod_lt _ (by decide)⟩ : Fin 256) = v := Fin.ext (by show (256 * h.val + v.val) % 256 = _; omega)
  show out _ _ g ⟨(256 * h.val + v.val) / 256, _⟩ i ⟨(256 * h.val + v.val) % 256, _⟩ = _
  rw [e1, e2]

theorem G9_at (g : Fin 2) (h : Fin 4) (d : Fin 128) (v : Fin 256) :
    G9 m c (ix4 g h d v) = ns (blkN m c 127) (stt m c 127) g h v d := by
  rw [G9_last, ← outsAt0_sweep m c 127 (lt_N 127 (by decide)), fin_at]
  rfl

end Cert.Gla

end
-- ==== Proof.Equation.lean ====
/- The kernel's blocks are the rows of the arguments, and its two arrays are the reference's. -/
module

public import proofs.«01_k».proof.Proof.RefEnd
public import proofs.«01_k».proof.Proof.Fold

@[expose] public section

set_option maxRecDepth 16384

noncomputable section

namespace Cert.Gla

open Idealize.ShloMosaic Idealize.ShloMosaic.TcCoe
open Cert.KernelIdeal Cert.KernelIdeal.Gen Cert.KernelIdeal.Value
open scoped BigOperators

theorem idx : ∀ t : Fin cfg0.N, win0_0.index t = ![0, t.val, 0] ∧ win0_1.index t = ![0, t.val, 1] ∧ win0_2.index t = ![0, t.val, 1]
    ∧ win0_3.index t = ![0, t.val, 2] ∧ win0_4.index t = ![0, t.val, 24] ∧ win0_5.index t = ![0, 0] ∧ win0_6.index t = ![0, 0]
    ∧ win0_7.index t = ![0, 0] :=
  (by decide +kernel : ∀ t : Fin grid0.N, _)

variable (m : (ℓ : Loc nD τ sig) → Buf (Elt Ideal) ℓ) (c : Dev nD)

abbrev B0 : Vec Ideal S16384x3200 .f32 := m ((c.tc : Thread nD τ).loc main_arg0)
abbrev B1 : Vec Ideal S16x512 .f32 := m ((c.tc : Thread nD τ).loc main_arg1)
abbrev B2 : Vec Ideal S512 .f32 := m ((c.tc : Thread nD τ).loc main_arg2)
abbrev B3 : Vec Ideal S256 .f32 := m ((c.tc : Thread nD τ).loc main_arg3)

theorem v4_at (y : S2x8192x3200.Idx) : (V m c main_v4 : Vec Ideal S2x8192x3200 .f32) y = B0 m c (ix2 ⟨8192 * (y 0).val + (y 1).val, by have h0 : (y 0).val < 2 := (y 0).isLt; have h1 : (y 1).val < 8192 := (y 1).isLt; omega⟩ (y 2)) := by
  simp only [V, hostOps0, hostOps0_1, hostOps0_2, List.flatten_cons, List.flatten_nil, List.append_nil, List.cons_append, List.nil_append]
  entry_read
  pointwise []
  exact congrArg (fun a => B0 m c (ix2 a (y 2))) (Fin.ext (congrArg (· + (y 1).val) (Nat.mul_comm _ _)))

theorem v1_at (y : S128x512.Idx) : (V m c main_v1 : Vec Ideal S128x512 .bf16) y = if h : (y 0).val < 16 then B1 m c (ix2 ⟨(y 0).val, h⟩ (y 1)) else 0 := by
  simp only [V, hostOps0, hostOps0_1, hostOps0_2, List.flatten_cons, List.flatten_nil, List.append_nil, List.cons_append, List.nil_append]
  entry_read
  show pad S128x512 ![0, 0] ![112, 0] ![0, 0] (B1 m c) (sitofp (F := Ideal) .f32 (constantI S_ 32 0#32) : FVec Ideal S_ .f32) pads_S16x512_S128x512_01120_000 h_S_ y = _
  pointwise []
  split
  · rfl
  · show ((Int.cast (BitVec.toInt 0#32) : ℝ) : EReal) = 0
    norm_num

theorem v2_at (y : S1x512.Idx) : (V m c main_v2 : Vec Ideal S1x512 .f32) y = B2 m c (ix1 (y 1)) := by
  simp only [V, hostOps0, hostOps0_1, hostOps0_2, List.flatten_cons, List.flatten_nil, List.append_nil, List.cons_append, List.nil_append]
  entry_read
  pointwise []

theorem v3_at (y : S1x256.Idx) : (V m c main_v3 : Vec Ideal S1x256 .f32) y = B3 m c (ix1 (y 1)) := by
  simp only [V, hostOps0, hostOps0_1, hostOps0_2, List.flatten_cons, List.flatten_nil, List.append_nil, List.cons_append, List.nil_append]
  entry_read
  pointwise []

variable (t : Fin cfg0.N) (n : Fin 128) (h : t.val = n.val)

include h in
theorem q_blk (y : S2x64x512.Idx) : X0_0 m c t y = (argIn (B0 m c) (B1 m c) (B2 m c) (B3 m c) n).q y := by
  unfold X0_0 Pipeline.Window.fill
  rw [dif_pos (moved0_0 t y)]
  unfold iblk
  refine (v4_at m c _).trans ?_
  unfold argIn row
  refine congrArg₂ (fun a b => B0 m c (ix2 a b)) (Fin.ext ?_) (Fin.ext ?_)
  · blk_simp [idx t]
    show 8192 * (y 0).val + (t.val * 64 + (y 1).val) = 8192 * (y 0).val + 64 * n.val + (y 1).val
    rw [h]
    omega
  · blk_simp [idx t]

include h in
theorem k_blk (y : S2x64x512.Idx) : X0_1 m c t y = (argIn (B0 m c) (B1 m c) (B2 m c) (B3 m c) n).k y := by
  unfold X0_1 Pipeline.Window.fill
  rw [dif_pos (moved0_1 t y)]
  unfold iblk
  refine (v4_at m c _).trans ?_
  unfold argIn row
  refine congrArg₂ (fun a b => B0 m c (ix2 a b)) (Fin.ext ?_) (Fin.ext ?_)
  · blk_simp [idx t]
    show 8192 * (y 0).val + (t.val * 64 + (y 1).val) = 8192 * (y 0).val + 64 * n.val + (y 1).val
    rw [h]
    omega
  · blk_simp [idx t]

include h in
theorem v_blk (y : S2x64x1024.Idx) : X0_2 m c t y = (argIn (B0 m c) (B1 m c) (B2 m c) (B3 m c) n).v y := by
  unfold X0_2 Pipeline.Window.fill
  rw [dif_pos (moved0_2 t y)]
  unfold iblk
  refine (v4_at m c _).trans ?_
  unfold argIn row
  refine congrArg₂ (fun a b => B0 m c (ix2 a b)) (Fin.ext ?_) (Fin.ext ?_)
  · blk_simp [idx t]
    show 8192 * (y 0).val + (t.val * 64 + (y 1).val) = 8192 * (y 0).val + 64 * n.val + (y 1).val
    rw [h]
    omega
  · blk_simp [idx t]

include h in
theorem r_blk (y : S2x64x1024.Idx) : X0_3 m c t y = (argIn (B0 m c) (B1 m c) (B2 m c) (B3 m c) n).r y := by
  unfold X0_3 Pipeline.Window.fill
  rw [dif_pos (moved0_3 t y)]
  unfold iblk
  refine (v4_at m c _).trans ?_
  unfold argIn row
  refine congrArg₂ (fun a b => B0 m c (ix2 a b)) (Fin.ext ?_) (Fin.ext ?_)
  · blk_simp [idx t]
    show 8192 * (y 0).val + (t.val * 64 + (y 1).val) = 8192 * (y 0).val + 64 * n.val + (y 1).val
    rw [h]
    omega
  · blk_simp [idx t]

include h in
theorem gl_blk (y : S2x64x128.Idx) : iblk m c 4 t y = (argIn (B0 m c) (B1 m c) (B2 m c) (B3 m c) n).gl y := by
  unfold iblk
  refine (v4_at m c _).trans ?_
  unfold argIn row
  refine congrArg₂ (fun a b => B0 m c (ix2 a b)) (Fin.ext ?_) (Fin.ext ?_)
  · blk_simp [idx t]
    show 8192 * (y 0).val + (t.val * 64 + (y 1).val) = 8192 * (y 0).val + 64 * n.val + (y 1).val
    rw [h]
    omega
  · blk_simp [idx t]

theorem w_blk (y : S128x512.Idx) : iblk m c 5 t y = (argIn (B0 m c) (B1 m c) (B2 m c) (B3 m c) n).w y := by
  unfold iblk
  have e : ((cfg0.win 5).blk t).view.emb y = y := by blk_ext [idx t]
  refine Eq.trans (congrArg (V m c main_v1) e) ?_
  exact v1_at m c y

theorem b_blk (y : S1x512.Idx) : iblk m c 6 t y = (argIn (B0 m c) (B1 m c) (B2 m c) (B3 m c) n).b y := by
  unfold iblk
  have e : ((cfg0.win 6).blk t).view.emb y = y := by blk_ext [idx t]
  refine Eq.trans (congrArg (V m c main_v2) e) ?_
  exact v2_at m c y

theorem n_blk (y : S1x256.Idx) : iblk m c 7 t y = (argIn (B0 m c) (B1 m c) (B2 m c) (B3 m c) n).n y := by
  unfold iblk
  have e : ((cfg0.win 7).blk t).view.emb y = y := by blk_ext [idx t]
  refine Eq.trans (congrArg (V m c main_v3) e) ?_
  exact v3_at m c y

include h in
/-- The blocks at a grid point are the rows of its chunk. -/
theorem blk_eq : blk m c t = argIn (B0 m c) (B1 m c) (B2 m c) (B3 m c) n := by
  unfold blk
  rw [In.mk.injEq]
  exact ⟨funext (q_blk m c t n h), funext (k_blk m c t n h), funext (v_blk m c t n h), funext (r_blk m c t n h),
    funext (gl_blk m c t n h), funext (w_blk m c t n), funext (b_blk m c t n), funext (n_blk m c t n)⟩

theorem blkN_arg (k : ℕ) : blkN m c k = argIn (B0 m c) (B1 m c) (B2 m c) (B3 m c) ⟨k % 128, Nat.mod_lt _ (by decide)⟩ :=
  blk_eq m c _ _ rfl

/-- The carried states are the same. -/
theorem stt_eq : ∀ k : ℕ, stt m c k = stR (argIn (B0 m c) (B1 m c) (B2 m c) (B3 m c)) k
  | 0 => rfl
  | k + 1 => by
    unfold stt stR
    rw [stt_eq k, blkN_arg]

end Cert.Gla

end
-- ==== Proof.Ends.lean ====
/- The kernel's two arrays are the reference's, over equal arguments. -/
module

public import proofs.«01_k».proof.Proof.Equation

@[expose] public section

set_option maxRecDepth 16384

noncomputable section

namespace Cert.Gla

open Idealize.ShloMosaic Idealize.ShloMosaic.TcCoe
open Cert.KernelIdeal.Value
open scoped BigOperators

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)
variable (h0 : A0 m' c = B0 m c) (h1 : A1 m' c = B1 m c) (h2 : A2 m' c = B2 m c) (h3 : A3 m' c = B3 m c)

include h0 h1 h2 h3

theorem rows_eq : rowsR m' c = argIn (B0 m c) (B1 m c) (B2 m c) (B3 m c) := by
  unfold rowsR
  rw [h0, h1, h2, h3]

theorem out_eq {s : Cert.ReferenceIdeal.Step.State Ideal} (hs : At m' c s 128) :
    Cert.ReferenceIdeal.Step.R_main_v75 s (A0 m' c) (A3 m' c) = G8 m c := by
  funext y
  have b1 : (y 1).val < 8192 := (y 1).isLt
  have b2 : (y 2).val < 1024 := (y 2).isLt
  have hy : y = ix3 (y 0) ⟨64 * ((⟨(y 1).val / 64, by omega⟩ : Fin 128) : ℕ) + ((⟨(y 1).val % 64, by omega⟩ : Fin 64) : ℕ), by dsimp only; omega⟩
      ⟨256 * ((⟨(y 2).val / 256, by omega⟩ : Fin 4) : ℕ) + ((⟨(y 2).val % 256, by omega⟩ : Fin 256) : ℕ), by dsimp only; omega⟩ := by
    funext a
    match a with
    | ⟨0, _⟩ => rfl
    | ⟨1, _⟩ => exact Fin.ext (by show (y 1).val = 64 * ((y 1).val / 64) + (y 1).val % 64; omega)
    | ⟨2, _⟩ => exact Fin.ext (by show (y 2).val = 256 * ((y 2).val / 256) + (y 2).val % 256; omega)
  refine (congrArg _ hy).trans (((out_ref m' c hs _ (y 0) _ _ _).trans ?_).trans ((G8_at m c (y 0) _ _ _ _).symm.trans (congrArg (G8 m c) hy).symm))
  rw [rows_eq m m' c h0 h1 h2 h3, stt_eq, blkN_arg]
  exact congrArg (fun n => out (argIn (B0 m c) (B1 m c) (B2 m c) (B3 m c) n) _ _ _ _ _) (Fin.ext (Nat.mod_eq_of_lt (by dsimp only; omega)).symm)

theorem fin_eq {s : Cert.ReferenceIdeal.Step.State Ideal} (hs : At m' c s 128) : s.main_v53_5 = G9 m c := by
  funext y
  have hy : y = ix4 (y 0) (y 1) (y 2) (y 3) := by
    funext a
    match a with
    | ⟨0, _⟩ => rfl
    | ⟨1, _⟩ => rfl
    | ⟨2, _⟩ => rfl
    | ⟨3, _⟩ => rfl
  refine (congrArg _ hy).trans (((state_ref m' c hs (y 0) (y 1) (y 2) (y 3)).trans ?_).trans ((G9_at m c (y 0) (y 1) (y 2) (y 3)).symm.trans (congrArg (G9 m c) hy).symm))
  rw [rows_eq m m' c h0 h1 h2 h3, stt_eq, blkN_arg]
  rfl

end Cert.Gla

end
-- ==== Proof.lean ====
/- The proof of the claim: for each program the two frames, the reference's frame, and the kernel's arrays against the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.BandAttRef
public import proofs.«01_k».proof.Proof.GlaProj
public import proofs.«01_k».proof.Proof.GlaProjRef
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.GdnPrompt
public import proofs.«01_k».proof.Proof.GdnPromptRef
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.GdnSample
public import proofs.«01_k».proof.Proof.GdnSampleRef
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.SbPrompt
public import proofs.«01_k».proof.Proof.SbPromptRef
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.SbSample
public import proofs.«01_k».proof.Proof.SbSampleRef
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.BandPrompt
public import proofs.«01_k».proof.Proof.BandPromptRef
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.BandSample
public import proofs.«01_k».proof.Proof.BandSampleRef
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.GlaSampleEnds
public import proofs.«01_k».proof.Proof.GlaSampleRef
public import proofs.«01_k».proof.Proof.Plain
public import proofs.«01_k».proof.Proof.PlainRef
public import proofs.«01_k».proof.Proof.Parts
public import proofs.«01_k».proof.Proof.PartsRef
public import proofs.«01_k».proof.Proof.Mix
public import proofs.«01_k».proof.Proof.MixRef
public import proofs.«01_k».proof.Proof.Ends
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem values : Cert.algebraic_KernelIdeal_ReferenceIdeal (hKernelIdeal := Cert.KernelIdeal.Gen.facts) (hReferenceIdeal := Cert.ReferenceIdeal.Gen.facts) := by
  intro m g m' g' _ h
  refine ⟨fun c => Cert.KernelIdeal.Value.G8 m c, fun c => Cert.KernelIdeal.Value.G9 m c, Cert.KernelIdeal.Value.run m g, ?_⟩
  refine (θ_run Cert.ReferenceIdeal.defs _ _).mono (fun r hr c => ?_) (Cert.Gla.RefRun.run m' g')
  obtain ⟨h0, h1, h2, h3⟩ := h c
  obtain ⟨ho, hs, k0, k1, k2, k3⟩ := hr c
  have ha := Cert.Gla.at_chunk m' c 128 le_rfl
  exact ⟨ho.trans (Cert.Gla.out_eq m m' c h0 h1 h2 h3 ha), hs.trans (Cert.Gla.fin_eq m m' c h0 h1 h2 h3 ha), k0, k1, k2, k3⟩

/-- Output projection, residual and half step: both sides give the half step over the mixed rows. -/
theorem values2 : Cert.algebraic_Kernel2Ideal_Reference2Ideal (hKernel2Ideal := Cert.Kernel2Ideal.Gen.facts) (hReference2Ideal := Cert.Reference2Ideal.Gen.facts) := by
  intro m g m' g' _ h
  refine ⟨fun c => (Cert.Kernel2Ideal.Gen.dats m 0 c).arrAt 8 Cert.Kernel2Ideal.cfg0.N, Cert.Kernel2Ideal.Value.run_blocks m g, ?_⟩
  refine (θ_run Cert.Reference2Ideal.defs _ _).mono (fun r hr c => ?_) (Cert.Ffn.MixRef.run m' g')
  obtain ⟨h0, h1, h2, h3, h4, h5, h6⟩ := h c
  obtain ⟨ho, k0, k1, k2, k3, k4, k5, k6⟩ := hr c
  refine ⟨ho.trans ?_, k0, k1, k2, k3, k4, k5, k6⟩
  rw [h0, h1, h2, h3, h4, h5, h6]
  exact (Cert.Ffn.Mix.final m c).symm

/-- The half step over one array. -/
theorem values3 : Cert.algebraic_Kernel3Ideal_Reference3Ideal (hKernel3Ideal := Cert.Kernel3Ideal.Gen.facts) (hReference3Ideal := Cert.Reference3Ideal.Gen.facts) := by
  intro m g m' g' _ h
  refine ⟨fun c => (Cert.Kernel3Ideal.Gen.dats m 0 c).arrAt 5 Cert.Kernel3Ideal.cfg0.N, Cert.Kernel3Ideal.Value.run_blocks m g, ?_⟩
  refine (θ_run Cert.Reference3Ideal.defs _ _).mono (fun r hr c => ?_) (Cert.Ffn.PlainRef.run m' g')
  obtain ⟨h0, h1, h2, h3⟩ := h c
  obtain ⟨ho, k0, k1, k2, k3⟩ := hr c
  refine ⟨ho.trans ?_, k0, k1, k2, k3⟩
  rw [h0, h1, h2, h3]
  exact (Cert.Ffn.Plain.final m c).symm

/-- The half step over two arrays. -/
theorem values4 : Cert.algebraic_Kernel4Ideal_Reference4Ideal (hKernel4Ideal := Cert.Kernel4Ideal.Gen.facts) (hReference4Ideal := Cert.Reference4Ideal.Gen.facts) := by
  intro m g m' g' _ h
  refine ⟨fun c => (Cert.Kernel4Ideal.Gen.dats m 0 c).arrAt 6 Cert.Kernel4Ideal.cfg0.N, Cert.Kernel4Ideal.Value.run_blocks m g, ?_⟩
  refine (θ_run Cert.Reference4Ideal.defs _ _).mono (fun r hr c => ?_) (Cert.Ffn.PartsRef.run m' g')
  obtain ⟨h0, h1, h2, h3, h4⟩ := h c
  obtain ⟨ho, k0, k1, k2, k3, k4⟩ := hr c
  refine ⟨ho.trans ?_, k0, k1, k2, k3, k4⟩
  rw [h0, h1, h2, h3, h4]
  exact (Cert.Ffn.Parts.final m c).symm

/-- The gated linear attention's projection. -/
theorem values5 : Cert.algebraic_Kernel5Ideal_Reference5Ideal (hKernel5Ideal := Cert.Kernel5Ideal.Gen.facts) (hReference5Ideal := Cert.Reference5Ideal.Gen.facts) := by
  intro m g m' g' _ h
  refine ⟨fun c => (Cert.Kernel5Ideal.Gen.dats m 0 c).arrAt 3 Cert.Kernel5Ideal.cfg0.N, Cert.Kernel5Ideal.Value.run_blocks m g, ?_⟩
  refine (θ_run Cert.Reference5Ideal.defs _ _).mono (fun r hr c => ?_) (Cert.Proj.GlaProjRef.run m' g')
  obtain ⟨h0, h1, h2⟩ := h c
  obtain ⟨o0, k0, k1, k2⟩ := hr c
  refine ⟨o0.trans ?_, k0, k1, k2⟩
  · rw [h0, h1, h2]
    exact (Cert.Proj.GlaProj.final m c).symm

/-- The gated delta rule's projection, the prompt's rows. -/
theorem values6 : Cert.algebraic_Kernel6Ideal_Reference6Ideal (hKernel6Ideal := Cert.Kernel6Ideal.Gen.facts) (hReference6Ideal := Cert.Reference6Ideal.Gen.facts) := by
  intro m g m' g' _ h
  refine ⟨fun c => (Cert.Kernel6Ideal.Gen.dats m 0 c).arrAt 3 Cert.Kernel6Ideal.cfg0.N, Cert.Kernel6Ideal.Value.run_blocks m g, ?_⟩
  refine (θ_run Cert.Reference6Ideal.defs _ _).mono (fun r hr c => ?_) (Cert.Proj.GdnPromptRef.run m' g')
  obtain ⟨h0, h1, h2⟩ := h c
  obtain ⟨o0, k0, k1, k2⟩ := hr c
  refine ⟨o0.trans ?_, k0, k1, k2⟩
  · rw [h0, h1, h2]
    exact (Cert.Proj.GdnPrompt.final m c).symm

/-- The gated delta rule's projection, the sample's rows. -/
theorem values7 : Cert.algebraic_Kernel7Ideal_Reference7Ideal (hKernel7Ideal := Cert.Kernel7Ideal.Gen.facts) (hReference7Ideal := Cert.Reference7Ideal.Gen.facts) := by
  intro m g m' g' _ h
  refine ⟨fun c => (Cert.Kernel7Ideal.Gen.dats m 0 c).arrAt 3 Cert.Kernel7Ideal.cfg0.N, Cert.Kernel7Ideal.Value.run_blocks m g, ?_⟩
  refine (θ_run Cert.Reference7Ideal.defs _ _).mono (fun r hr c => ?_) (Cert.Proj.GdnSampleRef.run m' g')
  obtain ⟨h0, h1, h2⟩ := h c
  obtain ⟨o0, k0, k1, k2⟩ := hr c
  refine ⟨o0.trans ?_, k0, k1, k2⟩
  · rw [h0, h1, h2]
    exact (Cert.Proj.GdnSample.final m c).symm

/-- The stick-breaking attention's projection, the prompt's rows. -/
theorem values8 : Cert.algebraic_Kernel8Ideal_Reference8Ideal (hKernel8Ideal := Cert.Kernel8Ideal.Gen.facts) (hReference8Ideal := Cert.Reference8Ideal.Gen.facts) := by
  intro m g m' g' _ h
  refine ⟨fun c => (Cert.Kernel8Ideal.Gen.dats m 0 c).arrAt 3 Cert.Kernel8Ideal.cfg0.N, fun c => (Cert.Kernel8Ideal.Gen.dats m 0 c).arrAt 4 Cert.Kernel8Ideal.cfg0.N, fun c => (Cert.Kernel8Ideal.Gen.dats m 0 c).arrAt 5 Cert.Kernel8Ideal.cfg0.N, fun c => (Cert.Kernel8Ideal.Gen.dats m 0 c).arrAt 6 Cert.Kernel8Ideal.cfg0.N, fun c => (Cert.Kernel8Ideal.Gen.dats m 0 c).arrAt 7 Cert.Kernel8Ideal.cfg0.N, Cert.Kernel8Ideal.Value.run_blocks m g, ?_⟩
  refine (θ_run Cert.Reference8Ideal.defs _ _).mono (fun r hr c => ?_) (Cert.Proj.SbPromptRef.run m' g')
  obtain ⟨h0, h1, h2⟩ := h c
  obtain ⟨o0, o1, o2, o3, o4, k0, k1, k2⟩ := hr c
  refine ⟨o0.trans ?_, o1.trans ?_, o2.trans ?_, o3.trans ?_, o4.trans ?_, k0, k1, k2⟩
  · rw [h0, h1, h2]
    exact (Cert.Proj.SbPrompt.query m c).symm
  · rw [h0, h1, h2]
    exact (Cert.Proj.SbPrompt.key m c).symm
  · rw [h0, h1, h2]
    exact (Cert.Proj.SbPrompt.key_short m c).symm
  · rw [h0, h1, h2]
    exact (Cert.Proj.SbPrompt.value m c).symm
  · rw [h0, h1, h2]
    exact (Cert.Proj.SbPrompt.value_short m c).symm

/-- The stick-breaking attention's projection, the sample's rows. -/
theorem values9 : Cert.algebraic_Kernel9Ideal_Reference9Ideal (hKernel9Ideal := Cert.Kernel9Ideal.Gen.facts) (hReference9Ideal := Cert.Reference9Ideal.Gen.facts) := by
  intro m g m' g' _ h
  refine ⟨fun c => (Cert.Kernel9Ideal.Gen.dats m 0 c).arrAt 3 Cert.Kernel9Ideal.cfg0.N, fun c => (Cert.Kernel9Ideal.Gen.dats m 0 c).arrAt 4 Cert.Kernel9Ideal.cfg0.N, fun c => (Cert.Kernel9Ideal.Gen.dats m 0 c).arrAt 5 Cert.Kernel9Ideal.cfg0.N, fun c => (Cert.Kernel9Ideal.Gen.dats m 0 c).arrAt 6 Cert.Kernel9Ideal.cfg0.N, fun c => (Cert.Kernel9Ideal.Gen.dats m 0 c).arrAt 7 Cert.Kernel9Ideal.cfg0.N, Cert.Kernel9Ideal.Value.run_blocks m g, ?_⟩
  refine (θ_run Cert.Reference9Ideal.defs _ _).mono (fun r hr c => ?_) (Cert.Proj.SbSampleRef.run m' g')
  obtain ⟨h0, h1, h2⟩ := h c
  obtain ⟨o0, o1, o2, o3, o4, k0, k1, k2⟩ := hr c
  refine ⟨o0.trans ?_, o1.trans ?_, o2.trans ?_, o3.trans ?_, o4.trans ?_, k0, k1, k2⟩
  · rw [h0, h1, h2]
    exact (Cert.Proj.SbSample.query m c).symm
  · rw [h0, h1, h2]
    exact (Cert.Proj.SbSample.key m c).symm
  · rw [h0, h1, h2]
    exact (Cert.Proj.SbSample.key_short m c).symm
  · rw [h0, h1, h2]
    exact (Cert.Proj.SbSample.value m c).symm
  · rw [h0, h1, h2]
    exact (Cert.Proj.SbSample.value_short m c).symm

/-- The band attention's projection, the prompt's rows. -/
theorem values10 : Cert.algebraic_Kernel10Ideal_Reference10Ideal (hKernel10Ideal := Cert.Kernel10Ideal.Gen.facts) (hReference10Ideal := Cert.Reference10Ideal.Gen.facts) := by
  intro m g m' g' _ h
  refine ⟨fun c => (Cert.Kernel10Ideal.Gen.dats m 0 c).arrAt 5 Cert.Kernel10Ideal.cfg0.N, fun c => (Cert.Kernel10Ideal.Gen.dats m 0 c).arrAt 6 Cert.Kernel10Ideal.cfg0.N, fun c => (Cert.Kernel10Ideal.Gen.dats m 0 c).arrAt 7 Cert.Kernel10Ideal.cfg0.N, fun c => (Cert.Kernel10Ideal.Gen.dats m 0 c).arrAt 8 Cert.Kernel10Ideal.cfg0.N, fun c => (Cert.Kernel10Ideal.Gen.dats m 0 c).arrAt 9 Cert.Kernel10Ideal.cfg0.N, Cert.Kernel10Ideal.Value.run_blocks m g, ?_⟩
  refine (θ_run Cert.Reference10Ideal.defs _ _).mono (fun r hr c => ?_) (Cert.Proj.BandPromptRef.run m' g')
  obtain ⟨h0, h1, h2, h3, h4⟩ := h c
  obtain ⟨o0, o1, o2, o3, o4, k0, k1, k2, k3, k4⟩ := hr c
  refine ⟨o0.trans ?_, o1.trans ?_, o2.trans ?_, o3.trans ?_, o4.trans ?_, k0, k1, k2, k3, k4⟩
  · rw [h0, h1, h2, h3]
    exact (Cert.Proj.BandPrompt.query m c).symm
  · rw [h0, h1, h2, h4]
    exact (Cert.Proj.BandPrompt.key m c).symm
  · rw [h0, h1, h2, h4]
    exact (Cert.Proj.BandPrompt.key_short m c).symm
  · rw [h0, h1, h2]
    exact (Cert.Proj.BandPrompt.value m c).symm
  · rw [h0, h1, h2]
    exact (Cert.Proj.BandPrompt.value_short m c).symm

/-- The band attention's projection, the sample's rows. -/
theorem values11 : Cert.algebraic_Kernel11Ideal_Reference11Ideal (hKernel11Ideal := Cert.Kernel11Ideal.Gen.facts) (hReference11Ideal := Cert.Reference11Ideal.Gen.facts) := by
  intro m g m' g' _ h
  refine ⟨fun c => (Cert.Kernel11Ideal.Gen.dats m 0 c).arrAt 5 Cert.Kernel11Ideal.cfg0.N, fun c => (Cert.Kernel11Ideal.Gen.dats m 0 c).arrAt 6 Cert.Kernel11Ideal.cfg0.N, fun c => (Cert.Kernel11Ideal.Gen.dats m 0 c).arrAt 7 Cert.Kernel11Ideal.cfg0.N, fun c => (Cert.Kernel11Ideal.Gen.dats m 0 c).arrAt 8 Cert.Kernel11Ideal.cfg0.N, fun c => (Cert.Kernel11Ideal.Gen.dats m 0 c).arrAt 9 Cert.Kernel11Ideal.cfg0.N, Cert.Kernel11Ideal.Value.run_blocks m g, ?_⟩
  refine (θ_run Cert.Reference11Ideal.defs _ _).mono (fun r hr c => ?_) (Cert.Proj.BandSampleRef.run m' g')
  obtain ⟨h0, h1, h2, h3, h4⟩ := h c
  obtain ⟨o0, o1, o2, o3, o4, k0, k1, k2, k3, k4⟩ := hr c
  refine ⟨o0.trans ?_, o1.trans ?_, o2.trans ?_, o3.trans ?_, o4.trans ?_, k0, k1, k2, k3, k4⟩
  · rw [h0, h1, h2, h3]
    exact (Cert.Proj.BandSample.query m c).symm
  · rw [h0, h1, h2, h4]
    exact (Cert.Proj.BandSample.key m c).symm
  · rw [h0, h1, h2, h4]
    exact (Cert.Proj.BandSample.key_short m c).symm
  · rw [h0, h1, h2]
    exact (Cert.Proj.BandSample.value m c).symm
  · rw [h0, h1, h2]
    exact (Cert.Proj.BandSample.value_short m c).symm

/-- The gated linear attention, the sample's rows. -/
theorem values12 : Cert.algebraic_Kernel12Ideal_Reference12Ideal (hKernel12Ideal := Cert.Kernel12Ideal.Gen.facts) (hReference12Ideal := Cert.Reference12Ideal.Gen.facts) := by
  intro m g m' g' _ h
  refine ⟨fun c => (Cert.Kernel12Ideal.Gen.dats m 0 c).arrAt 9 Cert.Kernel12Ideal.cfg0.N, fun c => (Cert.Kernel12Ideal.Gen.dats m 0 c).arrAt 10 Cert.Kernel12Ideal.cfg0.N, Cert.Kernel12Ideal.Value.run_blocks m g, ?_⟩
  refine (θ_run Cert.Reference12Ideal.defs _ _).mono (fun r hr c => ?_) (Cert.Reference12Ideal.Value.run m' g')
  obtain ⟨h0, h1, h2, h3, h4⟩ := h c
  obtain ⟨o0, o1, k⟩ := hr c
  refine ⟨o0.trans ?_, o1.trans ?_, k⟩
  · rw [Cert.Gla.SampleRef.out_all]
    unfold Cert.Gla.SampleRef.A0 Cert.Gla.SampleRef.A1 Cert.Gla.SampleRef.A2 Cert.Gla.SampleRef.A3 Cert.Gla.SampleRef.A4
    rw [h0, h1, h2, h3, h4]
    exact (Cert.Gla.Sample.out_final m c).symm
  · rw [Cert.Gla.SampleRef.fin_all]
    unfold Cert.Gla.SampleRef.A0 Cert.Gla.SampleRef.A1 Cert.Gla.SampleRef.A2 Cert.Gla.SampleRef.A3 Cert.Gla.SampleRef.A4
    rw [h0, h1, h2, h3, h4]
    exact (Cert.Gla.Sample.fin_final m c).symm

theorem values13 : Cert.algebraic_Kernel13Ideal_Reference13Ideal (hKernel13Ideal := Cert.Kernel13Ideal.Gen.facts) (hReference13Ideal := Cert.Reference13Ideal.Gen.facts) := by
  intro m g m' g' _ h
  refine ⟨fun c => (Cert.Kernel13Ideal.Gen.dats m 0 c).arrAt 6 Cert.Kernel13Ideal.cfg0.N, Cert.Kernel13Ideal.Value.run_blocks m g, ?_⟩
  refine (θ_run Cert.Reference13Ideal.defs _ _).mono (fun r hr c => ?_) (Cert.Reference13Ideal.Value.run m' g')
  obtain ⟨h0, h1, h2, h3, h4, h5⟩ := h c
  obtain ⟨o, k⟩ := hr c
  refine ⟨o.trans ?_, k⟩
  rw [Cert.Band.SampleRef.final]
  unfold Cert.Band.SampleRef.A0 Cert.Band.SampleRef.A1 Cert.Band.SampleRef.A2 Cert.Band.SampleRef.A3 Cert.Band.SampleRef.A4 Cert.Band.SampleRef.A5
  rw [h0, h1, h2, h3, h4, h5]
  exact (Cert.Band.Sample.final m c).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts,
  fun m ρ _ => Cert.Kernel.Gen.frame m ρ,
  fun m ρ _ => Cert.KernelIdeal.Gen.frame m ρ,
  fun m ρ _ => (θ_run Cert.ReferenceIdeal.defs _ _).mono (fun r hr => ⟨fun c => (hr c).2.2, Idealize.ShloMosaic.sem_eq_zero_of_no_sems (by decide) r.2⟩)
    (Cert.Gla.RefRun.run m ρ),
  fun m ρ _ => Cert.Kernel2.Gen.frame m ρ,
  fun m ρ _ => Cert.Kernel2Ideal.Gen.frame m ρ,
  fun m ρ _ => (θ_run Cert.Reference2Ideal.defs _ _).mono (fun r hr => ⟨fun c => (hr c).2, Idealize.ShloMosaic.sem_eq_zero_of_no_sems (by decide) r.2⟩)
    (Cert.Ffn.MixRef.run m ρ),
  fun m ρ _ => Cert.Kernel3.Gen.frame m ρ,
  fun m ρ _ => Cert.Kernel3Ideal.Gen.frame m ρ,
  fun m ρ _ => (θ_run Cert.Reference3Ideal.defs _ _).mono (fun r hr => ⟨fun c => (hr c).2, Idealize.ShloMosaic.sem_eq_zero_of_no_sems (by decide) r.2⟩)
    (Cert.Ffn.PlainRef.run m ρ),
  fun m ρ _ => Cert.Kernel4.Gen.frame m ρ,
  fun m ρ _ => Cert.Kernel4Ideal.Gen.frame m ρ,
  fun m ρ _ => (θ_run Cert.Reference4Ideal.defs _ _).mono (fun r hr => ⟨fun c => (hr c).2, Idealize.ShloMosaic.sem_eq_zero_of_no_sems (by decide) r.2⟩)
    (Cert.Ffn.PartsRef.run m ρ),
  fun m ρ _ => Cert.Kernel5.Gen.frame m ρ,
  fun m ρ _ => Cert.Kernel5Ideal.Gen.frame m ρ,
  fun m ρ _ => (θ_run Cert.Reference5Ideal.defs _ _).mono (fun r hr => ⟨fun c => (hr c).2, Idealize.ShloMosaic.sem_eq_zero_of_no_sems (by decide) r.2⟩)
    (Cert.Proj.GlaProjRef.run m ρ),
  fun m ρ _ => Cert.Kernel6.Gen.frame m ρ,
  fun m ρ _ => Cert.Kernel6Ideal.Gen.frame m ρ,
  fun m ρ _ => (θ_run Cert.Reference6Ideal.defs _ _).mono (fun r hr => ⟨fun c => (hr c).2, Idealize.ShloMosaic.sem_eq_zero_of_no_sems (by decide) r.2⟩)
    (Cert.Proj.GdnPromptRef.run m ρ),
  fun m ρ _ => Cert.Kernel7.Gen.frame m ρ,
  fun m ρ _ => Cert.Kernel7Ideal.Gen.frame m ρ,
  fun m ρ _ => (θ_run Cert.Reference7Ideal.defs _ _).mono (fun r hr => ⟨fun c => (hr c).2, Idealize.ShloMosaic.sem_eq_zero_of_no_sems (by decide) r.2⟩)
    (Cert.Proj.GdnSampleRef.run m ρ),
  fun m ρ _ => Cert.Kernel8.Gen.frame m ρ,
  fun m ρ _ => Cert.Kernel8Ideal.Gen.frame m ρ,
  fun m ρ _ => (θ_run Cert.Reference8Ideal.defs _ _).mono (fun r hr => ⟨fun c => (hr c).2.2.2.2.2, Idealize.ShloMosaic.sem_eq_zero_of_no_sems (by decide) r.2⟩)
    (Cert.Proj.SbPromptRef.run m ρ),
  fun m ρ _ => Cert.Kernel9.Gen.frame m ρ,
  fun m ρ _ => Cert.Kernel9Ideal.Gen.frame m ρ,
  fun m ρ _ => (θ_run Cert.Reference9Ideal.defs _ _).mono (fun r hr => ⟨fun c => (hr c).2.2.2.2.2, Idealize.ShloMosaic.sem_eq_zero_of_no_sems (by decide) r.2⟩)
    (Cert.Proj.SbSampleRef.run m ρ),
  fun m ρ _ => Cert.Kernel10.Gen.frame m ρ,
  fun m ρ _ => Cert.Kernel10Ideal.Gen.frame m ρ,
  fun m ρ _ => (θ_run Cert.Reference10Ideal.defs _ _).mono (fun r hr => ⟨fun c => (hr c).2.2.2.2.2, Idealize.ShloMosaic.sem_eq_zero_of_no_sems (by decide) r.2⟩)
    (Cert.Proj.BandPromptRef.run m ρ),
  fun m ρ _ => Cert.Kernel11.Gen.frame m ρ,
  fun m ρ _ => Cert.Kernel11Ideal.Gen.frame m ρ,
  fun m ρ _ => (θ_run Cert.Reference11Ideal.defs _ _).mono (fun r hr => ⟨fun c => (hr c).2.2.2.2.2, Idealize.ShloMosaic.sem_eq_zero_of_no_sems (by decide) r.2⟩)
    (Cert.Proj.BandSampleRef.run m ρ),
  fun m ρ _ => Cert.Kernel12.Gen.frame m ρ,
  fun m ρ _ => Cert.Kernel12Ideal.Gen.frame m ρ,
  fun m ρ _ => (θ_run Cert.Reference12Ideal.defs _ _).mono (fun r hr => ⟨fun c => (hr c).2.2, Idealize.ShloMosaic.sem_eq_zero_of_no_sems (by decide) r.2⟩)
    (Cert.Reference12Ideal.Value.run m ρ),
  fun m ρ _ => Cert.Kernel13.Gen.frame m ρ,
  fun m ρ _ => Cert.Kernel13Ideal.Gen.frame m ρ,
  fun m ρ _ => (θ_run Cert.Reference13Ideal.defs _ _).mono (fun r hr => ⟨fun c => (hr c).2, Idealize.ShloMosaic.sem_eq_zero_of_no_sems (by decide) r.2⟩)
    (Cert.Reference13Ideal.Value.run m ρ),
  trivial, values, trivial, values2, trivial, values3, trivial, values4, trivial, values5, trivial, values6, trivial, values7, trivial, values8, trivial, values9, trivial, values10, trivial, values11, trivial, values12, trivial, values13⟩

end Cert.Proof

end
